-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v211_0)) (v1 : (c : Dev Cert.KernelIdeal.nD) → Buf (Elt Ideal) ((c.tc : Thread Cert.KernelIdeal.nD Cert.KernelIdeal.τ).loc Cert.KernelIdeal.main_arg9)) (v2 : (c : Dev Cert.KernelIdeal.nD) → Buf (Elt Ideal) ((c.tc : Thread Cert.KernelIdeal.nD Cert.KernelIdeal.τ).loc Cert.KernelIdeal.main_v211_1)) (v3 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v211_0) = v0 c
          ∧ r.2.mem ((c.tc : Thread Cert.KernelIdeal.nD Cert.KernelIdeal.τ).loc Cert.KernelIdeal.main_arg9) = v1 c
          ∧ r.2.mem ((c.tc : Thread Cert.KernelIdeal.nD Cert.KernelIdeal.τ).loc Cert.KernelIdeal.main_v211_1) = v2 c
          ∧ r.2.mem ((c.tc : Thread Cert.KernelIdeal.nD Cert.KernelIdeal.τ).loc Cert.KernelIdeal.main_arg5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_arg9) = v1 c
          ∧ r.2.mem ((c.tc : Thread Cert.ReferenceIdeal.nD Cert.ReferenceIdeal.τ).loc Cert.ReferenceIdeal.main_v196) = v2 c
          ∧ r.2.mem ((c.tc : Thread Cert.ReferenceIdeal.nD Cert.ReferenceIdeal.τ).loc Cert.ReferenceIdeal.main_arg5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S32x512x768 : Shape := ⟨3, ![32, 512, 768]⟩
abbrev S_ : Shape := ⟨0, ![]⟩
abbrev S768x1536 : Shape := ⟨2, ![768, 1536]⟩
abbrev S3072 : Shape := ⟨1, ![3072]⟩
abbrev S1536x768 : Shape := ⟨2, ![1536, 768]⟩
abbrev S768 : Shape := ⟨1, ![768]⟩

class Facts : Prop where
  bcast_S_S3072 : S_.BroadcastsInDim S3072 (![] : Fin 0 → Fin S3072.rank)
  bcast_S_S768 : S_.BroadcastsInDim S768 (![] : Fin 0 → Fin S768.rank)

variable [Facts]

def fn_part1 {F : FTy → Type} [FloatOps F] (main_arg5 : FVec F S_ .f32) (main_arg7 : FVec F S768 .f32) (main_arg9 : FVec F S_ .f32) (main_v18 : IVec S3072 1) : IVec S3072 1 × IVec S768 1 :=
  let main_v19 : FVec F S768 .f32 := broadcastInDim S768 ![] bcast_S_S768 main_arg5
  let main_v20 : FVec F S768 .f32 := mulf main_v19 main_arg7
  let main_v21 : FVec F S768 .f32 := broadcastInDim S768 ![] bcast_S_S768 main_arg9
  let main_v22 : FVec F S768 .f32 := Host.divf main_v20 main_v21
  let main_v23 : FVec F S768 .f32 := Host.absf main_v22
  let main_cst_3 : FVec F S_ .f32 := constant S_ .f32 0x43800000#32
  let main_v24 : FVec F S768 .f32 := broadcastInDim S768 ![] bcast_S_S768 main_cst_3
  let main_v25 : IVec S768 1 := cmpf .olt main_v23 main_v24
  (main_v18, main_v25)

def fn {F : FTy → Type} [FloatOps F] (main_arg0 : IVec S32x512x768 8) (main_arg1 : FVec F S_ .f32) (main_arg2 : IVec S768x1536 8) (main_arg3 : FVec F S3072 .f32) (main_arg4 : IVec S3072 32) (main_arg5 : FVec F S_ .f32) (main_arg6 : IVec S1536x768 8) (main_arg7 : FVec F S768 .f32) (main_arg8 : IVec S768 32) (main_arg9 : FVec F S_ .f32) : IVec S3072 1 × IVec S768 1 :=
  let main_v0 : FVec F S3072 .f32 := broadcastInDim S3072 ![] bcast_S_S3072 main_arg1
  let main_v1 : FVec F S3072 .f32 := mulf main_v0 main_arg3
  let main_cst : FVec F S_ .f32 := constant S_ .f32 0x01000000#32
  let main_v2 : FVec F S3072 .f32 := broadcastInDim S3072 ![] bcast_S_S3072 main_cst
  let main_v3 : IVec S3072 1 := cmpf .oge main_v1 main_v2
  let main_cst_0 : FVec F S_ .f32 := constant S_ .f32 0x3F000000#32
  let main_v4 : FVec F S3072 .f32 := broadcastInDim S3072 ![] bcast_S_S3072 main_cst_0
  let main_v5 : IVec S3072 1 := cmpf .ole main_v1 main_v4
  let main_v6 : IVec S3072 1 := andi main_v3 main_v5
  let main_v7 : FVec F S3072 .f32 := broadcastInDim S3072 ![] bcast_S_S3072 main_arg5
  let main_v8 : FVec F S3072 .f32 := Host.divf main_v1 main_v7
  let main_v9 : FVec F S3072 .f32 := Host.absf main_v8
  let main_cst_1 : FVec F S_ .f32 := constant S_ .f32 0x43800000#32
  let main_v10 : FVec F S3072 .f32 := broadcastInDim S3072 ![] bcast_S_S3072 main_cst_1
  let main_v11 : IVec S3072 1 := cmpf .ole main_v9 main_v10
  let main_v12 : IVec S3072 1 := andi main_v6 main_v11
  let main_c : IVec S_ 32 := constantI S_ 32 4286578688#32
  let main_v13 : IVec S3072 32 := broadcastInDim S3072 ![] bcast_S_S3072 main_c
  let main_v14 : IVec S3072 1 := cmpi .sge main_arg4 main_v13
  let main_v15 : IVec S3072 1 := andi main_v12 main_v14
  let main_c_2 : IVec S_ 32 := constantI S_ 32 8388608#32
  let main_v16 : IVec S3072 32 := broadcastInDim S3072 ![] bcast_S_S3072 main_c_2
  let main_v17 : IVec S3072 1 := cmpi .sle main_arg4 main_v16
  let main_v18 : IVec S3072 1 := andi main_v15 main_v17
  fn_part1 (F := F) main_arg5 main_arg7 main_arg9 main_v18
-- ==== Kernel.lean ====
abbrev S32x512x768 : Shape := ⟨3, ![32, 512, 768]⟩
abbrev S_ : Shape := ⟨0, ![]⟩
abbrev S768x1536 : Shape := ⟨2, ![768, 1536]⟩
abbrev S3072 : Shape := ⟨1, ![3072]⟩
abbrev S1536x768 : Shape := ⟨2, ![1536, 768]⟩
abbrev S768 : Shape := ⟨1, ![768]⟩
abbrev S253 : Shape := ⟨1, ![253]⟩
abbrev S3072x1 : Shape := ⟨2, ![3072, 1]⟩
abbrev S1x253 : Shape := ⟨2, ![1, 253]⟩
abbrev S3072x253 : Shape := ⟨2, ![3072, 253]⟩
abbrev S1x3072 : Shape := ⟨2, ![1, 3072]⟩
abbrev S3x3072 : Shape := ⟨2, ![3, 3072]⟩
abbrev S6x3072 : Shape := ⟨2, ![6, 3072]⟩
abbrev S768x1 : Shape := ⟨2, ![768, 1]⟩
abbrev S768x253 : Shape := ⟨2, ![768, 253]⟩
abbrev S1x768 : Shape := ⟨2, ![1, 768]⟩
abbrev S4x768 : Shape := ⟨2, ![4, 768]⟩
abbrev S16384x768 : Shape := ⟨2, ![16384, 768]⟩
abbrev S16384x3072 : Shape := ⟨2, ![16384, 3072]⟩
abbrev S512x768 : Shape := ⟨2, ![512, 768]⟩
abbrev S512x3072 : Shape := ⟨2, ![512, 3072]⟩
abbrev S768x3072 : Shape := ⟨2, ![768, 3072]⟩
abbrev S3072x768 : Shape := ⟨2, ![3072, 768]⟩
abbrev S128x1536 : Shape := ⟨2, ![128, 1536]⟩
abbrev S128x768 : Shape := ⟨2, ![128, 768]⟩
abbrev S768x256 : Shape := ⟨2, ![768, 256]⟩
abbrev S512x256 : Shape := ⟨2, ![512, 256]⟩
abbrev S3x256 : Shape := ⟨2, ![3, 256]⟩
abbrev S6x256 : Shape := ⟨2, ![6, 256]⟩
abbrev S1x256 : Shape := ⟨2, ![1, 256]⟩

abbrev nBuf : Space → Nat
  | .hbm => 283
  | .vmem => 14
  | .smem => 0
  | _ => 0

abbrev hbmTy0_0 (i : Nat) : BufTy := match i % 128 with
  | 0 => ⟨S32x512x768, .i8⟩
  | 1 => ⟨S_, .f32⟩
  | 2 => ⟨S768x1536, .i8⟩
  | 3 => ⟨S3072, .f32⟩
  | 4 => ⟨S3072, .i32⟩
  | 5 => ⟨S_, .f32⟩
  | 6 => ⟨S1536x768, .i8⟩
  | 7 => ⟨S768, .f32⟩
  | 8 => ⟨S768, .i32⟩
  | 9 => ⟨S_, .f32⟩
  | 10 => ⟨S3072, .f32⟩
  | 11 => ⟨S3072, .f32⟩
  | 12 => ⟨S_, .f32⟩
  | 13 => ⟨S3072, .f32⟩
  | 14 => ⟨S3072, .f32⟩
  | 15 => ⟨S253, .i32⟩
  | 16 => ⟨S_, .i32⟩
  | 17 => ⟨S253, .i32⟩
  | 18 => ⟨S253, .i32⟩
  | 19 => ⟨S_, .i32⟩
  | 20 => ⟨S253, .i32⟩
  | 21 => ⟨S253, .i32⟩
  | 22 => ⟨S_, .i32⟩
  | 23 => ⟨S253, .i32⟩
  | 24 => ⟨S253, .i32⟩
  | 25 => ⟨S253, .f32⟩
  | 26 => ⟨S3072, .f32⟩
  | 27 => ⟨S3072x1, .f32⟩
  | 28 => ⟨S1x253, .f32⟩
  | 29 => ⟨S3072x253, .f32⟩
  | 30 => ⟨S3072x253, .f32⟩
  | 31 => ⟨S3072x253, .i1⟩
  | 32 => ⟨S3072x253, .i32⟩
  | 33 => ⟨S_, .i32⟩
  | 34 => ⟨S3072, .i32⟩
  | 35 => ⟨S_, .i32⟩
  | 36 => ⟨S3072, .i32⟩
  | 37 => ⟨S3072, .i32⟩
  | 38 => ⟨S3072, .i32⟩
  | 39 => ⟨S_, .i32⟩
  | 40 => ⟨S3072, .i32⟩
  | 41 => ⟨S3072, .i32⟩
  | 42 => ⟨S_, .i32⟩
  | 43 => ⟨S3072, .i32⟩
  | 44 => ⟨S3072, .i32⟩
  | 45 => ⟨S3072, .f32⟩
  | 46 => ⟨S3072, .f32⟩
  | 47 => ⟨S_, .i32⟩
  | 48 => ⟨S3072, .i32⟩
  | 49 => ⟨S3072, .i32⟩
  | 50 => ⟨S_, .i32⟩
  | 51 => ⟨S3072, .i32⟩
  | 52 => ⟨S3072, .i32⟩
  | 53 => ⟨S_, .i32⟩
  | 54 => ⟨S3072, .i32⟩
  | 55 => ⟨S3072, .i32⟩
  | 56 => ⟨S3072, .f32⟩
  | 57 => ⟨S3072, .f32⟩
  | 58 => ⟨S_, .f32⟩
  | 59 => ⟨S3072, .f32⟩
  | 60 => ⟨S3072, .f32⟩
  | 61 => ⟨S3072, .f32⟩
  | 62 => ⟨S3072, .i32⟩
  | 63 => ⟨S3072, .f32⟩
  | 64 => ⟨S_, .f32⟩
  | 65 => ⟨S3072, .f32⟩
  | 66 => ⟨S3072, .f32⟩
  | 67 => ⟨S3072, .f32⟩
  | 68 => ⟨S3072, .i32⟩
  | 69 => ⟨S3072, .f32⟩
  | 70 => ⟨S_, .f32⟩
  | 71 => ⟨S3072, .f32⟩
  | 72 => ⟨S3072, .f32⟩
  | 73 => ⟨S253, .i32⟩
  | 74 => ⟨S_, .i32⟩
  | 75 => ⟨S253, .i32⟩
  | 76 => ⟨S253, .i32⟩
  | 77 => ⟨S_, .i32⟩
  | 78 => ⟨S253, .i32⟩
  | 79 => ⟨S253, .i32⟩
  | 80 => ⟨S_, .i32⟩
  | 81 => ⟨S253, .i32⟩
  | 82 => ⟨S253, .i32⟩
  | 83 => ⟨S253, .f32⟩
  | 84 => ⟨S3072, .f32⟩
  | 85 => ⟨S3072x1, .f32⟩
  | 86 => ⟨S1x253, .f32⟩
  | 87 => ⟨S3072x253, .f32⟩
  | 88 => ⟨S3072x253, .f32⟩
  | 89 => ⟨S3072x253, .i1⟩
  | 90 => ⟨S3072x253, .i32⟩
  | 91 => ⟨S_, .i32⟩
  | 92 => ⟨S3072, .i32⟩
  | 93 => ⟨S_, .i32⟩
  | 94 => ⟨S3072, .i32⟩
  | 95 => ⟨S3072, .i32⟩
  | 96 => ⟨S3072, .i32⟩
  | 97 => ⟨S_, .i32⟩
  | 98 => ⟨S3072, .i32⟩
  | 99 => ⟨S3072, .i32⟩
  | 100 => ⟨S_, .i32⟩
  | 101 => ⟨S3072, .i32⟩
  | 102 => ⟨S3072, .i32⟩
  | 103 => ⟨S3072, .f32⟩
  | 104 => ⟨S3072, .f32⟩
  | 105 => ⟨S_, .i32⟩
  | 106 => ⟨S3072, .i32⟩
  | 107 => ⟨S3072, .i32⟩
  | 108 => ⟨S_, .i32⟩
  | 109 => ⟨S3072, .i32⟩
  | 110 => ⟨S3072, .i32⟩
  | 111 => ⟨S_, .i32⟩
  | 112 => ⟨S3072, .i32⟩
  | 113 => ⟨S3072, .i32⟩
  | 114 => ⟨S3072, .f32⟩
  | 115 => ⟨S3072, .f32⟩
  | 116 => ⟨S_, .f32⟩
  | 117 => ⟨S3072, .f32⟩
  | 118 => ⟨S3072, .f32⟩
  | 119 => ⟨S3072, .f32⟩
  | 120 => ⟨S3072, .i32⟩
  | 121 => ⟨S3072, .f32⟩
  | 122 => ⟨S_, .f32⟩
  | 123 => ⟨S3072, .f32⟩
  | 124 => ⟨S3072, .f32⟩
  | 125 => ⟨S3072, .f32⟩
  | 126 => ⟨S3072, .f32⟩
  | 127 => ⟨S253, .i32⟩
  | _ => ⟨S32x512x768, .i8⟩

abbrev hbmTy0_1 (i : Nat) : BufTy := match i % 128 with
  | 0 => ⟨S_, .i32⟩
  | 1 => ⟨S253, .i32⟩
  | 2 => ⟨S253, .i32⟩
  | 3 => ⟨S_, .i32⟩
  | 4 => ⟨S253, .i32⟩
  | 5 => ⟨S253, .i32⟩
  | 6 => ⟨S_, .i32⟩
  | 7 => ⟨S253, .i32⟩
  | 8 => ⟨S253, .i32⟩
  | 9 => ⟨S253, .f32⟩
  | 10 => ⟨S3072, .f32⟩
  | 11 => ⟨S3072x1, .f32⟩
  | 12 => ⟨S1x253, .f32⟩
  | 13 => ⟨S3072x253, .f32⟩
  | 14 => ⟨S3072x253, .f32⟩
  | 15 => ⟨S3072x253, .i1⟩
  | 16 => ⟨S3072x253, .i32⟩
  | 17 => ⟨S_, .i32⟩
  | 18 => ⟨S3072, .i32⟩
  | 19 => ⟨S_, .i32⟩
  | 20 => ⟨S3072, .i32⟩
  | 21 => ⟨S3072, .i32⟩
  | 22 => ⟨S3072, .i32⟩
  | 23 => ⟨S_, .i32⟩
  | 24 => ⟨S3072, .i32⟩
  | 25 => ⟨S3072, .i32⟩
  | 26 => ⟨S_, .i32⟩
  | 27 => ⟨S3072, .i32⟩
  | 28 => ⟨S3072, .i32⟩
  | 29 => ⟨S3072, .f32⟩
  | 30 => ⟨S3072, .f32⟩
  | 31 => ⟨S_, .f32⟩
  | 32 => ⟨S3072, .f32⟩
  | 33 => ⟨S3072, .f32⟩
  | 34 => ⟨S3072, .f32⟩
  | 35 => ⟨S3072, .i32⟩
  | 36 => ⟨S_, .i32⟩
  | 37 => ⟨S3072, .i32⟩
  | 38 => ⟨S3072, .i32⟩
  | 39 => ⟨S_, .i32⟩
  | 40 => ⟨S3072, .i32⟩
  | 41 => ⟨S3072, .i32⟩
  | 42 => ⟨S_, .i32⟩
  | 43 => ⟨S3072, .i32⟩
  | 44 => ⟨S3072, .i32⟩
  | 45 => ⟨S3072, .i32⟩
  | 46 => ⟨S_, .i32⟩
  | 47 => ⟨S3072, .i32⟩
  | 48 => ⟨S3072, .i32⟩
  | 49 => ⟨S_, .i32⟩
  | 50 => ⟨S3072, .i32⟩
  | 51 => ⟨S3072, .i32⟩
  | 52 => ⟨S3072, .f32⟩
  | 53 => ⟨S_, .f32⟩
  | 54 => ⟨S3072, .f32⟩
  | 55 => ⟨S3072, .f32⟩
  | 56 => ⟨S3072, .f32⟩
  | 57 => ⟨S3072, .f32⟩
  | 58 => ⟨S_, .i32⟩
  | 59 => ⟨S3072, .i32⟩
  | 60 => ⟨S3072, .i1⟩
  | 61 => ⟨S_, .f32⟩
  | 62 => ⟨S3072, .f32⟩
  | 63 => ⟨S3072, .f32⟩
  | 64 => ⟨S_, .f32⟩
  | 65 => ⟨S3072, .f32⟩
  | 66 => ⟨S3072, .f32⟩
  | 67 => ⟨S_, .f32⟩
  | 68 => ⟨S_, .f32⟩
  | 69 => ⟨S3072, .f32⟩
  | 70 => ⟨S3072, .f32⟩
  | 71 => ⟨S3072, .f32⟩
  | 72 => ⟨S3072, .i32⟩
  | 73 => ⟨S3072, .i32⟩
  | 74 => ⟨S_, .i32⟩
  | 75 => ⟨S3072, .i32⟩
  | 76 => ⟨S3072, .i32⟩
  | 77 => ⟨S_, .i32⟩
  | 78 => ⟨S3072, .i32⟩
  | 79 => ⟨S3072, .i32⟩
  | 80 => ⟨S3072, .i32⟩
  | 81 => ⟨S3072, .i32⟩
  | 82 => ⟨S3072, .f32⟩
  | 83 => ⟨S1x3072, .f32⟩
  | 84 => ⟨S1x3072, .f32⟩
  | 85 => ⟨S1x3072, .f32⟩
  | 86 => ⟨S3x3072, .f32⟩
  | 87 => ⟨S1x3072, .i32⟩
  | 88 => ⟨S1x3072, .i32⟩
  | 89 => ⟨S1x3072, .i32⟩
  | 90 => ⟨S1x3072, .i32⟩
  | 91 => ⟨S1x3072, .i32⟩
  | 92 => ⟨S1x3072, .i32⟩
  | 93 => ⟨S6x3072, .i32⟩
  | 94 => ⟨S768, .f32⟩
  | 95 => ⟨S768, .f32⟩
  | 96 => ⟨S768, .f32⟩
  | 97 => ⟨S768, .f32⟩
  | 98 => ⟨S253, .i32⟩
  | 99 => ⟨S_, .i32⟩
  | 100 => ⟨S253, .i32⟩
  | 101 => ⟨S253, .i32⟩
  | 102 => ⟨S_, .i32⟩
  | 103 => ⟨S253, .i32⟩
  | 104 => ⟨S253, .i32⟩
  | 105 => ⟨S_, .i32⟩
  | 106 => ⟨S253, .i32⟩
  | 107 => ⟨S253, .i32⟩
  | 108 => ⟨S253, .f32⟩
  | 109 => ⟨S768, .f32⟩
  | 110 => ⟨S768x1, .f32⟩
  | 111 => ⟨S1x253, .f32⟩
  | 112 => ⟨S768x253, .f32⟩
  | 113 => ⟨S768x253, .f32⟩
  | 114 => ⟨S768x253, .i1⟩
  | 115 => ⟨S768x253, .i32⟩
  | 116 => ⟨S_, .i32⟩
  | 117 => ⟨S768, .i32⟩
  | 118 => ⟨S_, .i32⟩
  | 119 => ⟨S768, .i32⟩
  | 120 => ⟨S768, .i32⟩
  | 121 => ⟨S768, .i32⟩
  | 122 => ⟨S_, .i32⟩
  | 123 => ⟨S768, .i32⟩
  | 124 => ⟨S768, .i32⟩
  | 125 => ⟨S_, .i32⟩
  | 126 => ⟨S768, .i32⟩
  | 127 => ⟨S768, .i32⟩
  | _ => ⟨S32x512x768, .i8⟩

abbrev hbmTy0_2 (i : Nat) : BufTy := match i % 128 with
  | 0 => ⟨S768, .f32⟩
  | 1 => ⟨S768, .f32⟩
  | 2 => ⟨S_, .f32⟩
  | 3 => ⟨S768, .f32⟩
  | 4 => ⟨S768, .f32⟩
  | 5 => ⟨S768, .f32⟩
  | 6 => ⟨S768, .i32⟩
  | 7 => ⟨S_, .i32⟩
  | 8 => ⟨S768, .i32⟩
  | 9 => ⟨S768, .i32⟩
  | 10 => ⟨S_, .i32⟩
  | 11 => ⟨S768, .i32⟩
  | 12 => ⟨S768, .i32⟩
  | 13 => ⟨S_, .i32⟩
  | 14 => ⟨S768, .i32⟩
  | 15 => ⟨S768, .i32⟩
  | 16 => ⟨S_, .i32⟩
  | 17 => ⟨S768, .i32⟩
  | 18 => ⟨S768, .i32⟩
  | 19 => ⟨S1x768, .i32⟩
  | 20 => ⟨S1x768, .i32⟩
  | 21 => ⟨S1x768, .i32⟩
  | 22 => ⟨S1x768, .i32⟩
  | 23 => ⟨S4x768, .i32⟩
  | 24 => ⟨S16384x768, .i8⟩
  | 25 => ⟨S16384x768, .i8⟩
  | 26 => ⟨S16384x3072, .i8⟩
  | _ => ⟨S32x512x768, .i8⟩

abbrev hbmTy (i : Nat) : BufTy := match i / 128 with
  | 0 => hbmTy0_0 i
  | 1 => hbmTy0_1 i
  | 2 => hbmTy0_2 i
  | _ => ⟨S32x512x768, .i8⟩

abbrev bufTy : (tb : Table) → Fin (tcTables nBuf tb) → BufTy
  | .hbm, ⟨i, _⟩ => hbmTy i
  | .local _ .vmem, ⟨0, _⟩ => ⟨S512x768, .i8⟩
  | .local _ .vmem, ⟨1, _⟩ => ⟨S512x768, .i8⟩
  | .local _ .vmem, ⟨2, _⟩ => ⟨S768x1536, .i8⟩
  | .local _ .vmem, ⟨3, _⟩ => ⟨S1536x768, .i8⟩
  | .local _ .vmem, ⟨4, _⟩ => ⟨S3x3072, .f32⟩
  | .local _ .vmem, ⟨5, _⟩ => ⟨S6x3072, .i32⟩
  | .local _ .vmem, ⟨6, _⟩ => ⟨S4x768, .i32⟩
  | .local _ .vmem, ⟨7, _⟩ => ⟨S512x768, .i8⟩
  | .local _ .vmem, ⟨8, _⟩ => ⟨S512x768, .i8⟩
  | .local _ .vmem, ⟨9, _⟩ => ⟨S512x3072, .i8⟩
  | .local _ .vmem, ⟨10, _⟩ => ⟨S512x3072, .i8⟩
  | .local _ .vmem, ⟨11, _⟩ => ⟨S768x3072, .bf16⟩
  | .local _ .vmem, ⟨12, _⟩ => ⟨S3072x768, .bf16⟩
  | .local _ .vmem, ⟨13, _⟩ => ⟨S512x3072, .bf16⟩
  | _, _ => ⟨S32x512x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_v52 : Ref sig .tc := ⟨.hbm, 78, rfl⟩
abbrev main_v53 : Ref sig .tc := ⟨.hbm, 79, rfl⟩
abbrev main_c_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_17 : Ref sig .tc := ⟨.hbm, 97, rfl⟩
abbrev main_v68 : Ref sig .tc := ⟨.hbm, 98, rfl⟩
abbrev main_v69 : Ref sig .tc := ⟨.hbm, 99, rfl⟩
abbrev main_c_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_19 : Ref sig .tc := ⟨.hbm, 105, rfl⟩
abbrev main_v74 : Ref sig .tc := ⟨.hbm, 106, rfl⟩
abbrev main_v75 : Ref sig .tc := ⟨.hbm, 107, rfl⟩
abbrev main_c_20 : Ref sig .tc := ⟨.hbm, 108, rfl⟩
abbrev main_v76 : Ref sig .tc := ⟨.hbm, 109, rfl⟩
abbrev main_v77 : Ref sig .tc := ⟨.hbm, 110, rfl⟩
abbrev main_c_21 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_22 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_23 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_24 : Ref sig .tc := ⟨.hbm, 128, rfl⟩
abbrev main_v92 : Ref sig .tc := ⟨.hbm, 129, rfl⟩
abbrev main_v93 : Ref sig .tc := ⟨.hbm, 130, rfl⟩
abbrev main_c_25 : Ref sig .tc := ⟨.hbm, 131, rfl⟩
abbrev main_v94 : Ref sig .tc := ⟨.hbm, 132, rfl⟩
abbrev main_v95 : Ref sig .tc := ⟨.hbm, 133, rfl⟩
abbrev main_c_26 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_c_27 : Ref sig .tc := ⟨.hbm, 145, rfl⟩
abbrev main_v106 : Ref sig .tc := ⟨.hbm, 146, rfl⟩
abbrev main_c_28 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_29 : Ref sig .tc := ⟨.hbm, 151, rfl⟩
abbrev main_v110 : Ref sig .tc := ⟨.hbm, 152, rfl⟩
abbrev main_v111 : Ref sig .tc := ⟨.hbm, 153, rfl⟩
abbrev main_c_30 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_31 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_c_32 : Ref sig .tc := ⟨.hbm, 164, rfl⟩
abbrev main_v120 : Ref sig .tc := ⟨.hbm, 165, rfl⟩
abbrev main_v121 : Ref sig .tc := ⟨.hbm, 166, rfl⟩
abbrev main_c_33 : Ref sig .tc := ⟨.hbm, 167, rfl⟩
abbrev main_v122 : Ref sig .tc := ⟨.hbm, 168, rfl⟩
abbrev main_v123 : Ref sig .tc := ⟨.hbm, 169, rfl⟩
abbrev main_c_34 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_c_35 : Ref sig .tc := ⟨.hbm, 174, rfl⟩
abbrev main_v127 : Ref sig .tc := ⟨.hbm, 175, rfl⟩
abbrev main_v128 : Ref sig .tc := ⟨.hbm, 176, rfl⟩
abbrev main_c_36 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_37 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_c_38 : Ref sig .tc := ⟨.hbm, 186, rfl⟩
abbrev main_v136 : Ref sig .tc := ⟨.hbm, 187, rfl⟩
abbrev main_v137 : Ref sig .tc := ⟨.hbm, 188, rfl⟩
abbrev main_cst_39 : Ref sig .tc := ⟨.hbm, 189, rfl⟩
abbrev main_v138 : Ref sig .tc := ⟨.hbm, 190, rfl⟩
abbrev main_v139 : Ref sig .tc := ⟨.hbm, 191, rfl⟩
abbrev main_cst_40 : Ref sig .tc := ⟨.hbm, 192, rfl⟩
abbrev main_v140 : Ref sig .tc := ⟨.hbm, 193, rfl⟩
abbrev main_v141 : Ref sig .tc := ⟨.hbm, 194, rfl⟩
abbrev main_cst_41 : Ref sig .tc := ⟨.hbm, 195, rfl⟩
abbrev main_call1_v0 : Ref sig .tc := ⟨.hbm, 196, rfl⟩
abbrev main_call1_v1 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_c_42 : Ref sig .tc := ⟨.hbm, 202, rfl⟩
abbrev main_v146 : Ref sig .tc := ⟨.hbm, 203, rfl⟩
abbrev main_v147 : Ref sig .tc := ⟨.hbm, 204, rfl⟩
abbrev main_c_43 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_c_44 : Ref sig .tc := ⟨.hbm, 227, rfl⟩
abbrev main_v169 : Ref sig .tc := ⟨.hbm, 228, rfl⟩
abbrev main_v170 : Ref sig .tc := ⟨.hbm, 229, rfl⟩
abbrev main_c_45 : Ref sig .tc := ⟨.hbm, 230, rfl⟩
abbrev main_v171 : Ref sig .tc := ⟨.hbm, 231, rfl⟩
abbrev main_v172 : Ref sig .tc := ⟨.hbm, 232, rfl⟩
abbrev main_c_46 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_c_47 : Ref sig .tc := ⟨.hbm, 244, rfl⟩
abbrev main_v183 : Ref sig .tc := ⟨.hbm, 245, rfl⟩
abbrev main_c_48 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_c_49 : Ref sig .tc := ⟨.hbm, 250, rfl⟩
abbrev main_v187 : Ref sig .tc := ⟨.hbm, 251, rfl⟩
abbrev main_v188 : Ref sig .tc := ⟨.hbm, 252, rfl⟩
abbrev main_c_50 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_cst_51 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_c_52 : Ref sig .tc := ⟨.hbm, 263, rfl⟩
abbrev main_v197 : Ref sig .tc := ⟨.hbm, 264, rfl⟩
abbrev main_v198 : Ref sig .tc := ⟨.hbm, 265, rfl⟩
abbrev main_c_53 : Ref sig .tc := ⟨.hbm, 266, rfl⟩
abbrev main_v199 : Ref sig .tc := ⟨.hbm, 267, rfl⟩
abbrev main_v200 : Ref sig .tc := ⟨.hbm, 268, rfl⟩
abbrev main_c_54 : Ref sig .tc := ⟨.hbm, 269, rfl⟩
abbrev main_v201 : Ref sig .tc := ⟨.hbm, 270, rfl⟩
abbrev main_v202 : Ref sig .tc := ⟨.hbm, 271, rfl⟩
abbrev main_c_55 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211_0 : Ref sig .tc := ⟨.hbm, 281, rfl⟩
abbrev main_v211_1 : Ref sig .tc := ⟨.hbm, 282, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_230 : BitVec 32 := 0#32
  let c6_i32 : BitVec 32 := 6#32
  let v833 : BitVec 32 := Scalar.addi c0_i32_230 c6_i32
  let c1_i32 : BitVec 32 := 1#32
  ⟨c0_i32_230, v833, c1_i32⟩
def k0_off1 (k0_t1 : Fin k0_t1_loop.trips) : Fin 2 → Nat :=
  let c0_i32_230 : BitVec 32 := 0#32
  let c1_i32 : BitVec 32 := 1#32
  let arg12 : BitVec 32 := Scf.iv c0_i32_230 c1_i32 k0_t1
  let c128_i32 : BitVec 32 := 128#32
  let v835 : BitVec 32 := Scalar.muli arg12 c128_i32
  let v836 : Index := Scalar.indexCast v835
  let c0_235 : Index := 0#32
  ![v836.toNat, 0]
def k0_off2 (k0_t1 : Fin k0_t1_loop.trips) : Fin 2 → Nat :=
  let c0_i32_230 : BitVec 32 := 0#32
  let c1_i32 : BitVec 32 := 1#32
  let arg12 : BitVec 32 := Scf.iv c0_i32_230 c1_i32 k0_t1
  let c128_i32 : BitVec 32 := 128#32
  let v835 : BitVec 32 := Scalar.muli arg12 c128_i32
  let v849 : Index := Scalar.indexCast v835
  let c0_238 : Index := 0#32
  ![v849.toNat, 0]
def k0_off3 (k0_t1 : Fin k0_t1_loop.trips) : Fin 2 → Nat :=
  let c0_i32_230 : BitVec 32 := 0#32
  let c1_i32 : BitVec 32 := 1#32
  let arg12 : BitVec 32 := Scf.iv c0_i32_230 c1_i32 k0_t1
  let c128_i32 : BitVec 32 := 128#32
  let v835 : BitVec 32 := Scalar.muli arg12 c128_i32
  let v853 : Index := Scalar.indexCast v835
  let c1536_239 : Index := 1536#32
  ![v853.toNat, 1536]
@[reducible] def k0_t2_loop : Scf.Loop 32 :=
  let c0_i32_232 : BitVec 32 := 0#32
  let c12_i32 : BitVec 32 := 12#32
  let v834 : BitVec 32 := Scalar.addi c0_i32_232 c12_i32
  let c1_i32_233 : BitVec 32 := 1#32
  ⟨c0_i32_232, v834, c1_i32_233⟩
def k0_off4 (k0_t2 : Fin k0_t2_loop.trips) : Fin 2 → Nat :=
  let c0_i32_232 : BitVec 32 := 0#32
  let c1_i32_233 : BitVec 32 := 1#32
  let arg12 : BitVec 32 := Scf.iv c0_i32_232 c1_i32_233 k0_t2
  let c128_i32 : BitVec 32 := 128#32
  let v835 : BitVec 32 := Scalar.muli arg12 c128_i32
  let v836 : Index := Scalar.indexCast v835
  let c0_235 : Index := 0#32
  ![v836.toNat, 0]
def k0_off5 (k0_t2 : Fin k0_t2_loop.trips) : Fin 2 → Nat :=
  let c0_i32_232 : BitVec 32 := 0#32
  let c1_i32_233 : BitVec 32 := 1#32
  let arg12 : BitVec 32 := Scf.iv c0_i32_232 c1_i32_233 k0_t2
  let c128_i32_238 : BitVec 32 := 128#32
  let v849 : BitVec 32 := Scalar.muli arg12 c128_i32_238
  let v850 : Index := Scalar.indexCast v849
  let c0_239 : Index := 0#32
  ![v850.toNat, 0]
def k0_off6 (k0_t2 : Fin k0_t2_loop.trips) : Fin 2 → Nat :=
  let c1536_i32 : BitVec 32 := 1536#32
  let c0_i32_232 : BitVec 32 := 0#32
  let c1_i32_233 : BitVec 32 := 1#32
  let arg12 : BitVec 32 := Scf.iv c0_i32_232 c1_i32_233 k0_t2
  let c128_i32_240 : BitVec 32 := 128#32
  let v854 : BitVec 32 := Scalar.muli arg12 c128_i32_240
  let v855 : BitVec 32 := Scalar.addi c1536_i32 v854
  let v856 : Index := Scalar.indexCast v855
  let c0_241 : Index := 0#32
  ![v856.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1536 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x768 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x3072 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x768 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32x512x768 : Shape := ⟨3, ![32, 512, 768]⟩
abbrev S_ : Shape := ⟨0, ![]⟩
abbrev S768x1536 : Shape := ⟨2, ![768, 1536]⟩
abbrev S3072 : Shape := ⟨1, ![3072]⟩
abbrev S1536x768 : Shape := ⟨2, ![1536, 768]⟩
abbrev S768 : Shape := ⟨1, ![768]⟩
abbrev S16384x768 : Shape := ⟨2, ![16384, 768]⟩
abbrev S16384x1536 : Shape := ⟨2, ![16384, 1536]⟩
abbrev S16384x3072 : Shape := ⟨2, ![16384, 3072]⟩
abbrev S1x3072 : Shape := ⟨2, ![1, 3072]⟩
abbrev S253 : Shape := ⟨1, ![253]⟩
abbrev S3072x1 : Shape := ⟨2, ![3072, 1]⟩
abbrev S1x253 : Shape := ⟨2, ![1, 253]⟩
abbrev S3072x253 : Shape := ⟨2, ![3072, 253]⟩
abbrev S1x768 : Shape := ⟨2, ![1, 768]⟩
abbrev S768x1 : Shape := ⟨2, ![768, 1]⟩
abbrev S768x253 : Shape := ⟨2, ![768, 253]⟩

abbrev nBuf : Space → Nat
  | .hbm => 369
  | .vmem => 0
  | .smem => 0
  | _ => 0

abbrev hbmTy0_0 (i : Nat) : BufTy := match i % 128 with
  | 0 => ⟨S32x512x768, .i8⟩
  | 1 => ⟨S_, .f32⟩
  | 2 => ⟨S768x1536, .i8⟩
  | 3 => ⟨S3072, .f32⟩
  | 4 => ⟨S3072, .i32⟩
  | 5 => ⟨S_, .f32⟩
  | 6 => ⟨S1536x768, .i8⟩
  | 7 => ⟨S768, .f32⟩
  | 8 => ⟨S768, .i32⟩
  | 9 => ⟨S_, .f32⟩
  | 10 => ⟨S768x1536, .i32⟩
  | 11 => ⟨S_, .i32⟩
  | 12 => ⟨S768x1536, .i32⟩
  | 13 => ⟨S768x1536, .i32⟩
  | 14 => ⟨S_, .i32⟩
  | 15 => ⟨S768x1536, .i32⟩
  | 16 => ⟨S768x1536, .i32⟩
  | 17 => ⟨S_, .i32⟩
  | 18 => ⟨S768x1536, .i32⟩
  | 19 => ⟨S768x1536, .i32⟩
  | 20 => ⟨S_, .i32⟩
  | 21 => ⟨S768x1536, .i32⟩
  | 22 => ⟨S768x1536, .i1⟩
  | 23 => ⟨S_, .i32⟩
  | 24 => ⟨S768x1536, .i32⟩
  | 25 => ⟨S768x1536, .i32⟩
  | 26 => ⟨S768x1536, .i32⟩
  | 27 => ⟨S_, .i32⟩
  | 28 => ⟨S768x1536, .i32⟩
  | 29 => ⟨S768x1536, .i1⟩
  | 30 => ⟨S_, .i32⟩
  | 31 => ⟨S768x1536, .i32⟩
  | 32 => ⟨S768x1536, .i32⟩
  | 33 => ⟨S768x1536, .i32⟩
  | 34 => ⟨S768x1536, .bf16⟩
  | 35 => ⟨S768x1536, .bf16⟩
  | 36 => ⟨S32x512x768, .i32⟩
  | 37 => ⟨S32x512x768, .bf16⟩
  | 38 => ⟨S16384x768, .bf16⟩
  | 39 => ⟨S16384x1536, .f32⟩
  | 40 => ⟨S16384x1536, .i32⟩
  | 41 => ⟨S16384x1536, .f32⟩
  | 42 => ⟨S16384x1536, .i32⟩
  | 43 => ⟨S16384x3072, .i32⟩
  | 44 => ⟨S1x3072, .i32⟩
  | 45 => ⟨S16384x3072, .i32⟩
  | 46 => ⟨S16384x3072, .i32⟩
  | 47 => ⟨S3072, .f32⟩
  | 48 => ⟨S3072, .f32⟩
  | 49 => ⟨S_, .f32⟩
  | 50 => ⟨S3072, .f32⟩
  | 51 => ⟨S3072, .f32⟩
  | 52 => ⟨S253, .i32⟩
  | 53 => ⟨S_, .i32⟩
  | 54 => ⟨S253, .i32⟩
  | 55 => ⟨S253, .i32⟩
  | 56 => ⟨S253, .f32⟩
  | 57 => ⟨S_, .f32⟩
  | 58 => ⟨S253, .f32⟩
  | 59 => ⟨S253, .f32⟩
  | 60 => ⟨S253, .f32⟩
  | 61 => ⟨S3072, .f32⟩
  | 62 => ⟨S3072x1, .f32⟩
  | 63 => ⟨S1x253, .f32⟩
  | 64 => ⟨S3072x253, .f32⟩
  | 65 => ⟨S3072x253, .f32⟩
  | 66 => ⟨S3072x253, .i1⟩
  | 67 => ⟨S3072x253, .i32⟩
  | 68 => ⟨S_, .i32⟩
  | 69 => ⟨S3072, .i32⟩
  | 70 => ⟨S_, .i32⟩
  | 71 => ⟨S3072, .i32⟩
  | 72 => ⟨S3072, .i32⟩
  | 73 => ⟨S3072, .f32⟩
  | 74 => ⟨S_, .f32⟩
  | 75 => ⟨S3072, .f32⟩
  | 76 => ⟨S3072, .f32⟩
  | 77 => ⟨S3072, .f32⟩
  | 78 => ⟨S3072, .f32⟩
  | 79 => ⟨S_, .i32⟩
  | 80 => ⟨S3072, .i32⟩
  | 81 => ⟨S3072, .i32⟩
  | 82 => ⟨S3072, .f32⟩
  | 83 => ⟨S_, .f32⟩
  | 84 => ⟨S3072, .f32⟩
  | 85 => ⟨S3072, .f32⟩
  | 86 => ⟨S3072, .f32⟩
  | 87 => ⟨S3072, .f32⟩
  | 88 => ⟨S_, .f32⟩
  | 89 => ⟨S3072, .f32⟩
  | 90 => ⟨S3072, .f32⟩
  | 91 => ⟨S3072, .f32⟩
  | 92 => ⟨S3072, .i32⟩
  | 93 => ⟨S3072, .f32⟩
  | 94 => ⟨S_, .f32⟩
  | 95 => ⟨S3072, .f32⟩
  | 96 => ⟨S3072, .f32⟩
  | 97 => ⟨S3072, .f32⟩
  | 98 => ⟨S3072, .i32⟩
  | 99 => ⟨S3072, .f32⟩
  | 100 => ⟨S_, .f32⟩
  | 101 => ⟨S3072, .f32⟩
  | 102 => ⟨S3072, .f32⟩
  | 103 => ⟨S253, .i32⟩
  | 104 => ⟨S_, .i32⟩
  | 105 => ⟨S253, .i32⟩
  | 106 => ⟨S253, .i32⟩
  | 107 => ⟨S253, .f32⟩
  | 108 => ⟨S_, .f32⟩
  | 109 => ⟨S253, .f32⟩
  | 110 => ⟨S253, .f32⟩
  | 111 => ⟨S253, .f32⟩
  | 112 => ⟨S3072, .f32⟩
  | 113 => ⟨S3072x1, .f32⟩
  | 114 => ⟨S1x253, .f32⟩
  | 115 => ⟨S3072x253, .f32⟩
  | 116 => ⟨S3072x253, .f32⟩
  | 117 => ⟨S3072x253, .i1⟩
  | 118 => ⟨S3072x253, .i32⟩
  | 119 => ⟨S_, .i32⟩
  | 120 => ⟨S3072, .i32⟩
  | 121 => ⟨S_, .i32⟩
  | 122 => ⟨S3072, .i32⟩
  | 123 => ⟨S3072, .i32⟩
  | 124 => ⟨S3072, .f32⟩
  | 125 => ⟨S_, .f32⟩
  | 126 => ⟨S3072, .f32⟩
  | 127 => ⟨S3072, .f32⟩
  | _ => ⟨S32x512x768, .i8⟩

abbrev hbmTy0_1 (i : Nat) : BufTy := match i % 128 with
  | 0 => ⟨S3072, .f32⟩
  | 1 => ⟨S3072, .f32⟩
  | 2 => ⟨S_, .i32⟩
  | 3 => ⟨S3072, .i32⟩
  | 4 => ⟨S3072, .i32⟩
  | 5 => ⟨S3072, .f32⟩
  | 6 => ⟨S_, .f32⟩
  | 7 => ⟨S3072, .f32⟩
  | 8 => ⟨S3072, .f32⟩
  | 9 => ⟨S3072, .f32⟩
  | 10 => ⟨S3072, .f32⟩
  | 11 => ⟨S_, .f32⟩
  | 12 => ⟨S3072, .f32⟩
  | 13 => ⟨S3072, .f32⟩
  | 14 => ⟨S3072, .f32⟩
  | 15 => ⟨S3072, .i32⟩
  | 16 => ⟨S3072, .f32⟩
  | 17 => ⟨S_, .f32⟩
  | 18 => ⟨S3072, .f32⟩
  | 19 => ⟨S3072, .f32⟩
  | 20 => ⟨S16384x3072, .i32⟩
  | 21 => ⟨S_, .i32⟩
  | 22 => ⟨S3072, .i32⟩
  | 23 => ⟨S3072, .i1⟩
  | 24 => ⟨S_, .i32⟩
  | 25 => ⟨S3072, .i32⟩
  | 26 => ⟨S3072, .i32⟩
  | 27 => ⟨S1x3072, .i32⟩
  | 28 => ⟨S16384x3072, .i32⟩
  | 29 => ⟨S16384x3072, .i32⟩
  | 30 => ⟨S3072, .i32⟩
  | 31 => ⟨S_, .i32⟩
  | 32 => ⟨S3072, .i32⟩
  | 33 => ⟨S3072, .i32⟩
  | 34 => ⟨S1x3072, .i32⟩
  | 35 => ⟨S16384x3072, .i32⟩
  | 36 => ⟨S16384x3072, .i32⟩
  | 37 => ⟨S16384x3072, .i1⟩
  | 38 => ⟨S16384x3072, .i32⟩
  | 39 => ⟨S3072, .i32⟩
  | 40 => ⟨S1x3072, .i32⟩
  | 41 => ⟨S16384x3072, .i32⟩
  | 42 => ⟨S16384x3072, .i32⟩
  | 43 => ⟨S1x3072, .i32⟩
  | 44 => ⟨S16384x3072, .i32⟩
  | 45 => ⟨S16384x3072, .i32⟩
  | 46 => ⟨S16384x3072, .i32⟩
  | 47 => ⟨S1x3072, .i32⟩
  | 48 => ⟨S16384x3072, .i32⟩
  | 49 => ⟨S16384x3072, .i32⟩
  | 50 => ⟨S16384x3072, .i32⟩
  | 51 => ⟨S16384x3072, .i32⟩
  | 52 => ⟨S1x3072, .i32⟩
  | 53 => ⟨S16384x3072, .i32⟩
  | 54 => ⟨S16384x3072, .i32⟩
  | 55 => ⟨S1x3072, .i32⟩
  | 56 => ⟨S16384x3072, .i32⟩
  | 57 => ⟨S16384x3072, .i32⟩
  | 58 => ⟨S16384x3072, .i32⟩
  | 59 => ⟨S3072, .f32⟩
  | 60 => ⟨S3072, .f32⟩
  | 61 => ⟨S253, .i32⟩
  | 62 => ⟨S_, .i32⟩
  | 63 => ⟨S253, .i32⟩
  | 64 => ⟨S253, .i32⟩
  | 65 => ⟨S253, .f32⟩
  | 66 => ⟨S_, .f32⟩
  | 67 => ⟨S253, .f32⟩
  | 68 => ⟨S253, .f32⟩
  | 69 => ⟨S253, .f32⟩
  | 70 => ⟨S3072, .f32⟩
  | 71 => ⟨S3072x1, .f32⟩
  | 72 => ⟨S1x253, .f32⟩
  | 73 => ⟨S3072x253, .f32⟩
  | 74 => ⟨S3072x253, .f32⟩
  | 75 => ⟨S3072x253, .i1⟩
  | 76 => ⟨S3072x253, .i32⟩
  | 77 => ⟨S_, .i32⟩
  | 78 => ⟨S3072, .i32⟩
  | 79 => ⟨S_, .i32⟩
  | 80 => ⟨S3072, .i32⟩
  | 81 => ⟨S3072, .i32⟩
  | 82 => ⟨S3072, .f32⟩
  | 83 => ⟨S_, .f32⟩
  | 84 => ⟨S3072, .f32⟩
  | 85 => ⟨S3072, .f32⟩
  | 86 => ⟨S3072, .f32⟩
  | 87 => ⟨S3072, .f32⟩
  | 88 => ⟨S_, .f32⟩
  | 89 => ⟨S3072, .f32⟩
  | 90 => ⟨S3072, .f32⟩
  | 91 => ⟨S3072, .f32⟩
  | 92 => ⟨S3072, .i32⟩
  | 93 => ⟨S_, .i32⟩
  | 94 => ⟨S3072, .i32⟩
  | 95 => ⟨S3072, .i32⟩
  | 96 => ⟨S_, .i32⟩
  | 97 => ⟨S_, .i32⟩
  | 98 => ⟨S_, .i32⟩
  | 99 => ⟨S_, .i32⟩
  | 100 => ⟨S_, .i32⟩
  | 101 => ⟨S16384x3072, .i32⟩
  | 102 => ⟨S16384x3072, .i32⟩
  | 103 => ⟨S_, .i32⟩
  | 104 => ⟨S16384x3072, .i32⟩
  | 105 => ⟨S16384x3072, .i32⟩
  | 106 => ⟨S1x3072, .i32⟩
  | 107 => ⟨S16384x3072, .i32⟩
  | 108 => ⟨S16384x3072, .i32⟩
  | 109 => ⟨S_, .i32⟩
  | 110 => ⟨S3072, .i32⟩
  | 111 => ⟨S3072, .i32⟩
  | 112 => ⟨S_, .i32⟩
  | 113 => ⟨S3072, .i32⟩
  | 114 => ⟨S3072, .i32⟩
  | 115 => ⟨S1x3072, .i32⟩
  | 116 => ⟨S16384x3072, .i32⟩
  | 117 => ⟨S16384x3072, .i32⟩
  | 118 => ⟨S1x3072, .i32⟩
  | 119 => ⟨S16384x3072, .i32⟩
  | 120 => ⟨S16384x3072, .i32⟩
  | 121 => ⟨S_, .i32⟩
  | 122 => ⟨S_, .i32⟩
  | 123 => ⟨S_, .i32⟩
  | 124 => ⟨S16384x3072, .i32⟩
  | 125 => ⟨S16384x3072, .i32⟩
  | 126 => ⟨S_, .i32⟩
  | 127 => ⟨S16384x3072, .i32⟩
  | _ => ⟨S32x512x768, .i8⟩

abbrev hbmTy0_2 (i : Nat) : BufTy := match i % 128 with
  | 0 => ⟨S16384x3072, .i32⟩
  | 1 => ⟨S16384x3072, .i8⟩
  | 2 => ⟨S1536x768, .i32⟩
  | 3 => ⟨S_, .i32⟩
  | 4 => ⟨S1536x768, .i32⟩
  | 5 => ⟨S1536x768, .i32⟩
  | 6 => ⟨S_, .i32⟩
  | 7 => ⟨S1536x768, .i32⟩
  | 8 => ⟨S1536x768, .i32⟩
  | 9 => ⟨S_, .i32⟩
  | 10 => ⟨S1536x768, .i32⟩
  | 11 => ⟨S1536x768, .i32⟩
  | 12 => ⟨S_, .i32⟩
  | 13 => ⟨S1536x768, .i32⟩
  | 14 => ⟨S1536x768, .i1⟩
  | 15 => ⟨S_, .i32⟩
  | 16 => ⟨S1536x768, .i32⟩
  | 17 => ⟨S1536x768, .i32⟩
  | 18 => ⟨S1536x768, .i32⟩
  | 19 => ⟨S_, .i32⟩
  | 20 => ⟨S1536x768, .i32⟩
  | 21 => ⟨S1536x768, .i1⟩
  | 22 => ⟨S_, .i32⟩
  | 23 => ⟨S1536x768, .i32⟩
  | 24 => ⟨S1536x768, .i32⟩
  | 25 => ⟨S1536x768, .i32⟩
  | 26 => ⟨S1536x768, .bf16⟩
  | 27 => ⟨S1536x768, .bf16⟩
  | 28 => ⟨S16384x3072, .i32⟩
  | 29 => ⟨S16384x3072, .bf16⟩
  | 30 => ⟨S16384x1536, .bf16⟩
  | 31 => ⟨S16384x768, .f32⟩
  | 32 => ⟨S16384x768, .i32⟩
  | 33 => ⟨S16384x1536, .bf16⟩
  | 34 => ⟨S16384x768, .f32⟩
  | 35 => ⟨S16384x768, .i32⟩
  | 36 => ⟨S16384x768, .i32⟩
  | 37 => ⟨S1x768, .i32⟩
  | 38 => ⟨S16384x768, .i32⟩
  | 39 => ⟨S16384x768, .i32⟩
  | 40 => ⟨S768, .f32⟩
  | 41 => ⟨S768, .f32⟩
  | 42 => ⟨S768, .f32⟩
  | 43 => ⟨S768, .f32⟩
  | 44 => ⟨S253, .i32⟩
  | 45 => ⟨S_, .i32⟩
  | 46 => ⟨S253, .i32⟩
  | 47 => ⟨S253, .i32⟩
  | 48 => ⟨S253, .f32⟩
  | 49 => ⟨S_, .f32⟩
  | 50 => ⟨S253, .f32⟩
  | 51 => ⟨S253, .f32⟩
  | 52 => ⟨S253, .f32⟩
  | 53 => ⟨S768, .f32⟩
  | 54 => ⟨S768x1, .f32⟩
  | 55 => ⟨S1x253, .f32⟩
  | 56 => ⟨S768x253, .f32⟩
  | 57 => ⟨S768x253, .f32⟩
  | 58 => ⟨S768x253, .i1⟩
  | 59 => ⟨S768x253, .i32⟩
  | 60 => ⟨S_, .i32⟩
  | 61 => ⟨S768, .i32⟩
  | 62 => ⟨S_, .i32⟩
  | 63 => ⟨S768, .i32⟩
  | 64 => ⟨S768, .i32⟩
  | 65 => ⟨S768, .f32⟩
  | 66 => ⟨S_, .f32⟩
  | 67 => ⟨S768, .f32⟩
  | 68 => ⟨S768, .f32⟩
  | 69 => ⟨S768, .f32⟩
  | 70 => ⟨S768, .f32⟩
  | 71 => ⟨S_, .f32⟩
  | 72 => ⟨S768, .f32⟩
  | 73 => ⟨S768, .f32⟩
  | 74 => ⟨S768, .f32⟩
  | 75 => ⟨S768, .i32⟩
  | 76 => ⟨S_, .i32⟩
  | 77 => ⟨S768, .i32⟩
  | 78 => ⟨S768, .i32⟩
  | 79 => ⟨S_, .i32⟩
  | 80 => ⟨S_, .i32⟩
  | 81 => ⟨S_, .i32⟩
  | 82 => ⟨S_, .i32⟩
  | 83 => ⟨S_, .i32⟩
  | 84 => ⟨S16384x768, .i32⟩
  | 85 => ⟨S16384x768, .i32⟩
  | 86 => ⟨S_, .i32⟩
  | 87 => ⟨S16384x768, .i32⟩
  | 88 => ⟨S16384x768, .i32⟩
  | 89 => ⟨S1x768, .i32⟩
  | 90 => ⟨S16384x768, .i32⟩
  | 91 => ⟨S16384x768, .i32⟩
  | 92 => ⟨S_, .i32⟩
  | 93 => ⟨S768, .i32⟩
  | 94 => ⟨S768, .i32⟩
  | 95 => ⟨S_, .i32⟩
  | 96 => ⟨S768, .i32⟩
  | 97 => ⟨S768, .i32⟩
  | 98 => ⟨S1x768, .i32⟩
  | 99 => ⟨S16384x768, .i32⟩
  | 100 => ⟨S16384x768, .i32⟩
  | 101 => ⟨S1x768, .i32⟩
  | 102 => ⟨S16384x768, .i32⟩
  | 103 => ⟨S16384x768, .i32⟩
  | 104 => ⟨S_, .i32⟩
  | 105 => ⟨S_, .i32⟩
  | 106 => ⟨S_, .i32⟩
  | 107 => ⟨S16384x768, .i32⟩
  | 108 => ⟨S16384x768, .i32⟩
  | 109 => ⟨S_, .i32⟩
  | 110 => ⟨S16384x768, .i32⟩
  | 111 => ⟨S16384x768, .i32⟩
  | 112 => ⟨S16384x768, .i8⟩
  | _ => ⟨S32x512x768, .i8⟩

abbrev hbmTy (i : Nat) : BufTy := match i / 128 with
  | 0 => hbmTy0_0 i
  | 1 => hbmTy0_1 i
  | 2 => hbmTy0_2 i
  | _ => ⟨S32x512x768, .i8⟩

abbrev bufTy : (tb : Table) → Fin (tcTables nBuf tb) → BufTy
  | .hbm, ⟨i, _⟩ => hbmTy i
  | _, _ => ⟨S32x512x768, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_18 : Ref sig .tc := ⟨.hbm, 119, rfl⟩
abbrev main_v89 : Ref sig .tc := ⟨.hbm, 120, rfl⟩
abbrev main_c_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_20 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_21 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_22 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_23 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_24 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_c_25 : Ref sig .tc := ⟨.hbm, 149, rfl⟩
abbrev main_v112 : Ref sig .tc := ⟨.hbm, 150, rfl⟩
abbrev main_v113 : Ref sig .tc := ⟨.hbm, 151, rfl⟩
abbrev main_c_26 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_27 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_call2_v0 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_c_28 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_29 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_c_30 : Ref sig .tc := ⟨.hbm, 205, rfl⟩
abbrev main_v162 : Ref sig .tc := ⟨.hbm, 206, rfl⟩
abbrev main_c_31 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_cst_32 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_33 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_c_34 : Ref sig .tc := ⟨.hbm, 221, rfl⟩
abbrev main_v174 : Ref sig .tc := ⟨.hbm, 222, rfl⟩
abbrev main_v175 : Ref sig .tc := ⟨.hbm, 223, rfl⟩
abbrev main_c_35 : Ref sig .tc := ⟨.hbm, 224, rfl⟩
abbrev main_c_36 : Ref sig .tc := ⟨.hbm, 225, rfl⟩
abbrev main_v176 : Ref sig .tc := ⟨.hbm, 226, rfl⟩
abbrev main_c_37 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_c_38 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_c_39 : Ref sig .tc := ⟨.hbm, 237, rfl⟩
abbrev main_v185 : Ref sig .tc := ⟨.hbm, 238, rfl⟩
abbrev main_v186 : Ref sig .tc := ⟨.hbm, 239, rfl⟩
abbrev main_c_40 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_c_41 : Ref sig .tc := ⟨.hbm, 249, rfl⟩
abbrev main_c_42 : Ref sig .tc := ⟨.hbm, 250, rfl⟩
abbrev main_call4_v0 : Ref sig .tc := ⟨.hbm, 251, rfl⟩
abbrev main_call4_v1 : Ref sig .tc := ⟨.hbm, 252, rfl⟩
abbrev main_call4_v2 : Ref sig .tc := ⟨.hbm, 253, rfl⟩
abbrev main_call4_v3 : Ref sig .tc := ⟨.hbm, 254, rfl⟩
abbrev main_call4_v4 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_c_43 : Ref sig .tc := ⟨.hbm, 259, rfl⟩
abbrev main_v198 : Ref sig .tc := ⟨.hbm, 260, rfl⟩
abbrev main_v199 : Ref sig .tc := ⟨.hbm, 261, rfl⟩
abbrev main_c_44 : Ref sig .tc := ⟨.hbm, 262, rfl⟩
abbrev main_v200 : Ref sig .tc := ⟨.hbm, 263, rfl⟩
abbrev main_v201 : Ref sig .tc := ⟨.hbm, 264, rfl⟩
abbrev main_c_45 : Ref sig .tc := ⟨.hbm, 265, rfl⟩
abbrev main_v202 : Ref sig .tc := ⟨.hbm, 266, rfl⟩
abbrev main_v203 : Ref sig .tc := ⟨.hbm, 267, rfl⟩
abbrev main_c_46 : Ref sig .tc := ⟨.hbm, 268, rfl⟩
abbrev main_v204 : Ref sig .tc := ⟨.hbm, 269, rfl⟩
abbrev main_v205 : Ref sig .tc := ⟨.hbm, 270, rfl⟩
abbrev main_c_47 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_c_48 : Ref sig .tc := ⟨.hbm, 275, rfl⟩
abbrev main_v209 : Ref sig .tc := ⟨.hbm, 276, rfl⟩
abbrev main_v210 : Ref sig .tc := ⟨.hbm, 277, rfl⟩
abbrev main_c_49 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_c_50 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_cst_51 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_c_52 : Ref sig .tc := ⟨.hbm, 316, rfl⟩
abbrev main_v246 : Ref sig .tc := ⟨.hbm, 317, rfl⟩
abbrev main_c_53 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_cst_54 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_cst_55 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_c_56 : Ref sig .tc := ⟨.hbm, 332, rfl⟩
abbrev main_v258 : Ref sig .tc := ⟨.hbm, 333, rfl⟩
abbrev main_v259 : Ref sig .tc := ⟨.hbm, 334, rfl⟩
abbrev main_c_57 : Ref sig .tc := ⟨.hbm, 335, rfl⟩
abbrev main_c_58 : Ref sig .tc := ⟨.hbm, 336, rfl⟩
abbrev main_v260 : Ref sig .tc := ⟨.hbm, 337, rfl⟩
abbrev main_c_59 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_c_60 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_c_61 : Ref sig .tc := ⟨.hbm, 348, rfl⟩
abbrev main_v269 : Ref sig .tc := ⟨.hbm, 349, rfl⟩
abbrev main_v270 : Ref sig .tc := ⟨.hbm, 350, rfl⟩
abbrev main_c_62 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_c_63 : Ref sig .tc := ⟨.hbm, 360, rfl⟩
abbrev main_c_64 : Ref sig .tc := ⟨.hbm, 361, rfl⟩
abbrev main_call8_v0 : Ref sig .tc := ⟨.hbm, 362, rfl⟩
abbrev main_call8_v1 : Ref sig .tc := ⟨.hbm, 363, rfl⟩
abbrev main_call8_v2 : Ref sig .tc := ⟨.hbm, 364, rfl⟩
abbrev main_call8_v3 : Ref sig .tc := ⟨.hbm, 365, rfl⟩
abbrev main_call8_v4 : Ref sig .tc := ⟨.hbm, 366, rfl⟩
abbrev main_v279 : Ref sig .tc := ⟨.hbm, 367, rfl⟩
abbrev main_v280 : Ref sig .tc := ⟨.hbm, 368, rfl⟩

abbrev nD : Nat := 1
abbrev τ : Topo := Topo.v7x

variable {F : FTy → Type} [FloatOps F]
-- ==== Proof.Chunk.lean ====
module

public import proofs.«01_k».proof.Proof.Gen.KernelIdeal.Value
public import Idealize.ShloMosaic.Lib.Pipeline.Value
public import Idealize.ShloMosaic.Lib.Writes

@[expose] public section

set_option Elab.async false
set_option maxRecDepth 200000

noncomputable section

namespace Cert.KernelIdeal.Block

open Cert.KernelIdeal Cert.KernelIdeal.Gen Idealize.ShloMosaic Idealize.ShloMosaic.TcCoe Idealize.ShloMosaic.Tactic

variable {F : FTy → Type} [FloatOps F]

/-- One chunk of 256 hidden columns: the codes of `A · W`, with the chunk's rows of the two parameter tables. -/
def chunk (A : Vec F S512x768 .i8) (W : Vec F S768x256 .bf16) (Q : Vec F S3x256 .f32) (N : Vec F S6x256 .i32) : IVec S512x256 8 :=
  k0_pay18 (F := F) (k0_pay11 (F := F) N) (k0_pay12 (F := F) N) (k0_pay13 (F := F) N) (k0_pay16 (F := F) A W Q N) (k0_pay17 (F := F) A W Q)

variable (A : Vec F S512x768 .i8) (W : Vec F S768x256 .bf16) (Q : Vec F S3x256 .f32) (N : Vec F S6x256 .i32)

/-- Chunk 0 as its code is stored into the hidden result. -/
theorem chunk_0 : k0_pay18 (F := F) (k0_pay11 (F := F) N) (k0_pay12 (F := F) N) (k0_pay13 (F := F) N) (k0_pay16 (F := F) A W Q N) (k0_pay17 (F := F) A W Q) = chunk A W Q N := by
  simp only [chunk, k0_pay8, k0_pay9, k0_pay10, k0_pay11, k0_pay12, k0_pay13, k0_pay14, k0_pay15, k0_pay16, k0_pay17, k0_pay18]

/-- Chunk 0 as it is stored for the second product. -/
theorem chunkb_0 : k0_pay19 (F := F) (k0_pay11 (F := F) N) (k0_pay12 (F := F) N) (k0_pay13 (F := F) N) (k0_pay16 (F := F) A W Q N) (k0_pay17 (F := F) A W Q) = sitofp (F := F) .bf16 (chunk A W Q N) := by
  unfold k0_pay19
  dsimp only
  rw [shapeCast_self]
  exact congrArg (sitofp (F := F) .bf16) (chunk_0 A W Q N)

/-- Chunk 1 as its code is stored into the hidden result. -/
theorem chunk_1 : k0_pay31 (F := F) (k0_pay20 (F := F) (k0_pay8 (F := F) A) W) (k0_pay22 (F := F) N) (k0_pay23 (F := F) Q) (k0_pay24 (F := F) Q) (k0_pay25 (F := F) Q) (k0_pay26 (F := F) N) (k0_pay27 (F := F) N) (k0_pay28 (F := F) N) (k0_pay29 (F := F) N) (k0_pay30 (F := F) N) = chunk A W Q N := by
  simp only [chunk, k0_pay8, k0_pay9, k0_pay10, k0_pay11, k0_pay12, k0_pay13, k0_pay14, k0_pay15, k0_pay16, k0_pay17, k0_pay18, k0_pay20, k0_pay21, k0_pay22, k0_pay23, k0_pay24, k0_pay25, k0_pay26, k0_pay27, k0_pay28, k0_pay29, k0_pay30, k0_pay31]

/-- Chunk 1 as it is stored for the second product. -/
theorem chunkb_1 : k0_pay33 (F := F) (k0_pay32 (F := F) (k0_pay20 (F := F) (k0_pay8 (F := F) A) W) (k0_pay22 (F := F) N) (k0_pay23 (F := F) Q) (k0_pay24 (F := F) Q) (k0_pay25 (F := F) Q) (k0_pay26 (F := F) N) (k0_pay27 (F := F) N) (k0_pay28 (F := F) N) (k0_pay29 (F := F) N) (k0_pay30 (F := F) N)) = sitofp (F := F) .bf16 (chunk A W Q N) := by
  unfold k0_pay33
  dsimp only
  rw [shapeCast_self]
  exact congrArg (sitofp (F := F) .bf16) (chunk_1 A W Q N)

/-- Chunk 2 as its code is stored into the hidden result. -/
theorem chunk_2 : k0_pay40 (F := F) (k0_pay35 (F := F) N) (k0_pay36 (F := F) N) (k0_pay37 (F := F) N) (k0_pay38 (F := F) (k0_pay8 (F := F) A) W Q N) k0_pay39 = chunk A W Q N := by
  simp only [chunk, k0_pay8, k0_pay9, k0_pay10, k0_pay11, k0_pay12, k0_pay13, k0_pay14, k0_pay15, k0_pay16, k0_pay17, k0_pay18, k0_pay34, k0_pay35, k0_pay36, k0_pay37, k0_pay38, k0_pay39, k0_pay40]

/-- Chunk 2 as it is stored for the second product. -/
theorem chunkb_2 : k0_pay41 (F := F) (k0_pay35 (F := F) N) (k0_pay36 (F := F) N) (k0_pay37 (F := F) N) (k0_pay38 (F := F) (k0_pay8 (F := F) A) W Q N) k0_pay39 = sitofp (F := F) .bf16 (chunk A W Q N) := by
  unfold k0_pay41
  dsimp only
  rw [shapeCast_self]
  exact congrArg (sitofp (F := F) .bf16) (chunk_2 A W Q N)

/-- Chunk 3 as its code is stored into the hidden result. -/
theorem chunk_3 : k0_pay54 (F := F) (k0_pay44 (F := F) Q) (k0_pay45 (F := F) N) (k0_pay46 (F := F) N) (k0_pay47 (F := F) N) (k0_pay48 (F := F) N) (k0_pay49 (F := F) N) (k0_pay50 (F := F) N) (k0_pay51 (F := F) (k0_pay8 (F := F) A) W Q) (k0_pay52 (F := F) (k0_pay8 (F := F) A) W Q) (k0_pay53 (F := F) (k0_pay8 (F := F) A) W Q) = chunk A W Q N := by
  simp only [chunk, k0_pay8, k0_pay9, k0_pay10, k0_pay11, k0_pay12, k0_pay13, k0_pay14, k0_pay15, k0_pay16, k0_pay17, k0_pay18, k0_pay42, k0_pay43, k0_pay44, k0_pay45, k0_pay46, k0_pay47, k0_pay48, k0_pay49, k0_pay50, k0_pay51, k0_pay52, k0_pay53, k0_pay54]

/-- Chunk 3 as it is stored for the second product. -/
theorem chunkb_3 : k0_pay55 (F := F) (k0_pay44 (F := F) Q) (k0_pay45 (F := F) N) (k0_pay46 (F := F) N) (k0_pay47 (F := F) N) (k0_pay48 (F := F) N) (k0_pay49 (F := F) N) (k0_pay50 (F := F) N) (k0_pay51 (F := F) (k0_pay8 (F := F) A) W Q) (k0_pay52 (F := F) (k0_pay8 (F := F) A) W Q) (k0_pay53 (F := F) (k0_pay8 (F := F) A) W Q) = sitofp (F := F) .bf16 (chunk A W Q N) := by
  unfold k0_pay55
  dsimp only
  rw [shapeCast_self]
  exact congrArg (sitofp (F := F) .bf16) (chunk_3 A W Q N)

/-- Chunk 4 as its code is stored into the hidden result. -/
theorem chunk_4 : k0_pay59 (F := F) (k0_pay57 (F := F) (k0_pay8 (F := F) A) W Q N) (k0_pay58 (F := F) N) = chunk A W Q N := by
  simp only [chunk, k0_pay8, k0_pay9, k0_pay10, k0_pay11, k0_pay12, k0_pay13, k0_pay14, k0_pay15, k0_pay16, k0_pay17, k0_pay18, k0_pay56, k0_pay57, k0_pay58, k0_pay59]

/-- Chunk 4 as it is stored for the second product. -/
theorem chunkb_4 : k0_pay60 (F := F) (k0_pay57 (F := F) (k0_pay8 (F := F) A) W Q N) (k0_pay58 (F := F) N) = sitofp (F := F) .bf16 (chunk A W Q N) := by
  unfold k0_pay60
  dsimp only
  rw [shapeCast_self]
  exact congrArg (sitofp (F := F) .bf16) (chunk_4 A W Q N)

/-- Chunk 5 as its code is stored into the hidden result. -/
theorem chunk_5 : k0_pay72 (F := F) (k0_pay63 (F := F) N) (k0_pay64 (F := F) N) (k0_pay65 (F := F) N) (k0_pay66 (F := F) N) (k0_pay67 (F := F) N) (k0_pay68 (F := F) N) (k0_pay69 (F := F) (k0_pay8 (F := F) A) W Q) (k0_pay70 (F := F) (k0_pay8 (F := F) A) W Q) (k0_pay71 (F := F) (k0_pay8 (F := F) A) W Q) = chunk A W Q N := by
  simp only [chunk, k0_pay8, k0_pay9, k0_pay10, k0_pay11, k0_pay12, k0_pay13, k0_pay14, k0_pay15, k0_pay16, k0_pay17, k0_pay18, k0_pay61, k0_pay62, k0_pay63, k0_pay64, k0_pay65, k0_pay66, k0_pay67, k0_pay68, k0_pay69, k0_pay70, k0_pay71, k0_pay72]

/-- Chunk 5 as it is stored for the second product. -/
theorem chunkb_5 : k0_pay73 (F := F) (k0_pay63 (F := F) N) (k0_pay64 (F := F) N) (k0_pay65 (F := F) N) (k0_pay66 (F := F) N) (k0_pay67 (F := F) N) (k0_pay68 (F := F) N) (k0_pay69 (F := F) (k0_pay8 (F := F) A) W Q) (k0_pay70 (F := F) (k0_pay8 (F := F) A) W Q) (k0_pay71 (F := F) (k0_pay8 (F := F) A) W Q) = sitofp (F := F) .bf16 (chunk A W Q N) := by
  unfold k0_pay73
  dsimp only
  rw [shapeCast_self]
  exact congrArg (sitofp (F := F) .bf16) (chunk_5 A W Q N)

/-- Chunk 6 as its code is stored into the hidden result. -/
theorem chunk_6 : k0_pay76 (F := F) (k0_pay75 (F := F) (k0_pay74 (F := F) (k0_pay8 (F := F) A) W) Q N) (FloatOps.ofBits (F := F) FTy.f32 1262485377#32) = chunk A W Q N := by
  simp only [chunk, k0_pay8, k0_pay9, k0_pay10, k0_pay11, k0_pay12, k0_pay13, k0_pay14, k0_pay15, k0_pay16, k0_pay17, k0_pay18, k0_pay74, k0_pay75, k0_pay76]

/-- Chunk 6 as it is stored for the second product. -/
theorem chunkb_6 : k0_pay77 (F := F) (k0_pay75 (F := F) (k0_pay74 (F := F) (k0_pay8 (F := F) A) W) Q N) (FloatOps.ofBits (F := F) FTy.f32 1262485377#32) = sitofp (F := F) .bf16 (chunk A W Q N) := by
  unfold k0_pay77
  dsimp only
  rw [shapeCast_self]
  exact congrArg (sitofp (F := F) .bf16) (chunk_6 A W Q N)

/-- Chunk 7 as its code is stored into the hidden result. -/
theorem chunk_7 : k0_pay90 (F := F) (k0_pay80 (F := F) N) (k0_pay81 (F := F) N) (k0_pay82 (F := F) N) (k0_pay83 (F := F) N) (k0_pay84 (F := F) N) (k0_pay86 (F := F) (k0_pay8 (F := F) A) W Q) (k0_pay87 (F := F) (k0_pay8 (F := F) A) W Q) (k0_pay88 (F := F) (k0_pay8 (F := F) A) W Q) (k0_pay89 (F := F) N) = chunk A W Q N := by
  simp only [chunk, k0_pay8, k0_pay9, k0_pay10, k0_pay11, k0_pay12, k0_pay13, k0_pay14, k0_pay15, k0_pay16, k0_pay17, k0_pay18, k0_pay78, k0_pay79, k0_pay80, k0_pay81, k0_pay82, k0_pay83, k0_pay84, k0_pay85, k0_pay86, k0_pay87, k0_pay88, k0_pay89, k0_pay90]

/-- Chunk 7 as it is stored for the second product. -/
theorem chunkb_7 : k0_pay91 (F := F) (k0_pay80 (F := F) N) (k0_pay81 (F := F) N) (k0_pay82 (F := F) N) (k0_pay83 (F := F) N) (k0_pay84 (F := F) N) (k0_pay86 (F := F) (k0_pay8 (F := F) A) W Q) (k0_pay87 (F := F) (k0_pay8 (F := F) A) W Q) (k0_pay88 (F := F) (k0_pay8 (F := F) A) W Q) (k0_pay89 (F := F) N) = sitofp (F := F) .bf16 (chunk A W Q N) := by
  unfold k0_pay91
  dsimp only
  rw [shapeCast_self]
  exact congrArg (sitofp (F := F) .bf16) (chunk_7 A W Q N)

/-- Chunk 8 as its code is stored into the hidden result. -/
theorem chunk_8 : k0_pay95 (k0_pay94 (F := F) (k0_pay92 (F := F) (k0_pay8 (F := F) A) W) (k0_pay93 (F := F) Q) N) = chunk A W Q N := by
  simp only [chunk, k0_pay8, k0_pay9, k0_pay10, k0_pay11, k0_pay12, k0_pay13, k0_pay14, k0_pay15, k0_pay16, k0_pay17, k0_pay18, k0_pay92, k0_pay93, k0_pay94, k0_pay95]

/-- Chunk 8 as it is stored for the second product. -/
theorem chunkb_8 : k0_pay96 (F := F) (k0_pay94 (F := F) (k0_pay92 (F := F) (k0_pay8 (F := F) A) W) (k0_pay93 (F := F) Q) N) = sitofp (F := F) .bf16 (chunk A W Q N) := by
  unfold k0_pay96
  dsimp only
  rw [shapeCast_self]
  exact congrArg (sitofp (F := F) .bf16) (chunk_8 A W Q N)

/-- Chunk 9 as its code is stored into the hidden result. -/
theorem chunk_9 : k0_pay106 (F := F) (k0_pay99 (F := F) N) (k0_pay100 (F := F) N) (k0_pay101 (F := F) N) (k0_pay103 (F := F) (k0_pay8 (F := F) A) W Q) (k0_pay104 (F := F) (k0_pay8 (F := F) A) W Q N) (k0_pay105 (F := F) N) = chunk A W Q N := by
  simp only [chunk, k0_pay8, k0_pay9, k0_pay10, k0_pay11, k0_pay12, k0_pay13, k0_pay14, k0_pay15, k0_pay16, k0_pay17, k0_pay18, k0_pay97, k0_pay98, k0_pay99, k0_pay100, k0_pay101, k0_pay102, k0_pay103, k0_pay104, k0_pay105, k0_pay106]

/-- Chunk 9 as it is stored for the second product. -/
theorem chunkb_9 : k0_pay107 (F := F) (k0_pay99 (F := F) N) (k0_pay100 (F := F) N) (k0_pay101 (F := F) N) (k0_pay103 (F := F) (k0_pay8 (F := F) A) W Q) (k0_pay104 (F := F) (k0_pay8 (F := F) A) W Q N) (k0_pay105 (F := F) N) = sitofp (F := F) .bf16 (chunk A W Q N) := by
  unfold k0_pay107
  dsimp only
  rw [shapeCast_self]
  exact congrArg (sitofp (F := F) .bf16) (chunk_9 A W Q N)

/-- Chunk 10 as its code is stored into the hidden result. -/
theorem chunk_10 : k0_pay116 (F := F) (k0_pay108 (F := F) (k0_pay8 (F := F) A) W) (k0_pay110 (F := F) N) (k0_pay111 (F := F) Q) (k0_pay112 (F := F) Q) (k0_pay113 (F := F) Q) (k0_pay114 (F := F) N) (k0_pay115 (F := F) N) = chunk A W Q N := by
  simp only [chunk, k0_pay8, k0_pay9, k0_pay10, k0_pay11, k0_pay12, k0_pay13, k0_pay14, k0_pay15, k0_pay16, k0_pay17, k0_pay18, k0_pay108, k0_pay109, k0_pay110, k0_pay111, k0_pay112, k0_pay113, k0_pay114, k0_pay115, k0_pay116]

/-- Chunk 10 as it is stored for the second product. -/
theorem chunkb_10 : k0_pay117 (F := F) (k0_pay116 (F := F) (k0_pay108 (F := F) (k0_pay8 (F := F) A) W) (k0_pay110 (F := F) N) (k0_pay111 (F := F) Q) (k0_pay112 (F := F) Q) (k0_pay113 (F := F) Q) (k0_pay114 (F := F) N) (k0_pay115 (F := F) N)) = sitofp (F := F) .bf16 (chunk A W Q N) := by
  unfold k0_pay117
  dsimp only
  rw [shapeCast_self]
  exact congrArg (sitofp (F := F) .bf16) (chunk_10 A W Q N)

/-- Chunk 11 as its code is stored into the hidden result. -/
theorem chunk_11 : k0_pay124 (F := F) (k0_pay119 (F := F) N) (k0_pay120 (F := F) N) (k0_pay121 (F := F) N) (k0_pay122 (F := F) (k0_pay8 (F := F) A) W Q N) k0_pay123 = chunk A W Q N := by
  simp only [chunk, k0_pay8, k0_pay9, k0_pay10, k0_pay11, k0_pay12, k0_pay13, k0_pay14, k0_pay15, k0_pay16, k0_pay17, k0_pay18, k0_pay118, k0_pay119, k0_pay120, k0_pay121, k0_pay122, k0_pay123, k0_pay124]

/-- Chunk 11 as it is stored for the second product. -/
theorem chunkb_11 : k0_pay125 (F := F) (k0_pay119 (F := F) N) (k0_pay120 (F := F) N) (k0_pay121 (F := F) N) (k0_pay122 (F := F) (k0_pay8 (F := F) A) W Q N) k0_pay123 = sitofp (F := F) .bf16 (chunk A W Q N) := by
  unfold k0_pay125
  dsimp only
  rw [shapeCast_self]
  exact congrArg (sitofp (F := F) .bf16) (chunk_11 A W Q N)

end Cert.KernelIdeal.Block
-- ==== Proof.Words.lean ====
module

public import Idealize.ShloMosaic.PureOps.Ideal
public import Idealize.ShloMosaic.Lib.WordArith

@[expose] public section

noncomputable section

namespace Cert.Scalar

open Idealize.ShloMosaic

/-! Facts about single words and single numbers: what a float's pattern denotes, conversions of whole numbers, shifts, and
the clip of a code to `[-127, 127]` written in two ways. -/

/-- A pattern of a positive normal number denotes its significand times its power of two. -/
theorem ofBits_normal (u : BitVec 32) (h1 : 2 ^ 23 ≤ u.toNat) (h2 : u.toNat < 255 * 2 ^ 23) :
    Ideal.ofBits .f32 u = ((((2 ^ 23 + u.toNat % 2 ^ 23 : ℕ) : ℝ) * (2 : ℝ) ^ (((u.toNat / 2 ^ 23 : ℕ) : ℤ) - 150) : ℝ) : EReal) := by
  have hs : u.extractLsb' 31 1 = 0#1 := by
    apply BitVec.eq_of_toNat_eq
    rw [BitVec.extractLsb'_toNat]
    simp only [Nat.shiftRight_eq_div_pow]
    rw [Nat.div_eq_of_lt (by omega)]; rfl
  have he : (u.extractLsb' 23 8).toNat = u.toNat / 2 ^ 23 := by
    rw [BitVec.extractLsb'_toNat]
    simp only [Nat.shiftRight_eq_div_pow]
    omega
  have hf : (u.extractLsb' 0 23).toNat = u.toNat % 2 ^ 23 := by
    rw [BitVec.extractLsb'_toNat]
    simp only [Nat.shiftRight_zero]
  unfold Ideal.ofBits Ideal.ieee
  simp only [hf, he, show (8 + 23 : ℕ) = 31 from rfl, hs]
  rw [if_neg (by omega), if_neg (by omega)]
  congr 1
  rw [if_neg (by decide), one_mul]
  congr 2
  norm_num
  ring

/-- Converting a whole number in range to a 32-bit word gives that number. -/
theorem fptosi_int (z : ℤ) (h1 : -2 ^ 31 ≤ z) (h2 : z < 2 ^ 31) : Ideal.fptosi 32 (((z : ℤ) : ℝ) : EReal) = BitVec.ofInt 32 z := by
  unfold Ideal.fptosi
  rw [Ideal.toIntClamped_coe]
  simp only [Int.floor_intCast, Int.ceil_intCast, ite_self]
  congr 1
  norm_num
  omega

/-- Rounding a whole number leaves it. -/
theorem roundHalfEven_int (z : ℤ) : Ideal.roundHalfEven (z : ℝ) = z := by
  unfold Ideal.roundHalfEven
  simp

/-- A number strictly within a half of a whole number rounds to it. -/
theorem roundHalfEven_near (x : ℝ) (z : ℤ) (h1 : (z : ℝ) - 1 / 2 < x) (h2 : x < z + 1 / 2) : Ideal.roundHalfEven x = z := by
  unfold Ideal.roundHalfEven
  by_cases h : (z : ℝ) ≤ x
  · have hf : ⌊x⌋ = z := Int.floor_eq_iff.2 ⟨h, by linarith⟩
    simp only [hf]
    rw [if_pos (by linarith)]
  · have hf : ⌊x⌋ = z - 1 := Int.floor_eq_iff.2 ⟨by push_cast; linarith, by push_cast; linarith⟩
    simp only [hf]
    rw [if_neg (by push_cast; linarith), if_pos (by push_cast; linarith)]
    omega

/-- A word as a whole number in range, read back. -/
theorem toInt_ofInt32 (z : ℤ) (h1 : -2 ^ 31 ≤ z) (h2 : z < 2 ^ 31) : (BitVec.ofInt 32 z).toInt = z := by
  rw [BitVec.toInt_ofInt]
  exact Int.bmod_eq_of_le (by norm_num; omega) (by norm_num; omega)

/-- The kernel's clip: the word is placed in the significand of a float near `1.5 · 2^23`, clipped there, and read back. -/
def clipK (r : BitVec 32) : BitVec 8 :=
  BitVec.setWidth 8 (IntOp.addi (Ideal.fptosi 32 (min (Ideal.ofBits .f32 0x4B40007F#32)
    (max (Ideal.ofBits .f32 0x4B3FFF81#32) (Ideal.ofBits .f32 (IntOp.addi r 1262485504#32))))) 1249902592#32)

/-- The plain clip of a word to `[-127, 127]`. -/
def clipR (r : BitVec 32) : BitVec 8 :=
  BitVec.setWidth 8 (IntOp.minsi 127#32 (IntOp.maxsi 4294967169#32 r))

/-- The clipped float: the value of a pattern `z` above `1.5 · 2^23`, clipped to that number plus or minus 127, is that number
plus the clip of `z`. -/
theorem clip_value (U : ℕ) (z : ℤ) (hU : (U : ℤ) = z + 1262485504) (h1 : -2 ^ 29 ≤ z) (h2 : z < 2 ^ 29) :
    min (12583039 : ℝ) (max (12582785 : ℝ) (((2 ^ 23 + U % 2 ^ 23 : ℕ) : ℝ) * (2 : ℝ) ^ (((U / 2 ^ 23 : ℕ) : ℤ) - 150)))
      = ((12582912 + min 127 (max (-127) z) : ℤ) : ℝ) := by
  rcases lt_trichotomy (U / 2 ^ 23) 150 with hlt | heq | hgt
  · have hx : ((2 ^ 23 + U % 2 ^ 23 : ℕ) : ℝ) * (2 : ℝ) ^ (((U / 2 ^ 23 : ℕ) : ℤ) - 150) ≤ 8388608 := by
      have a1 : ((2 ^ 23 + U % 2 ^ 23 : ℕ) : ℝ) ≤ ((16777216 : ℕ) : ℝ) := Nat.cast_le.2 (by omega)
      have a2 : (2 : ℝ) ^ (((U / 2 ^ 23 : ℕ) : ℤ) - 150) ≤ (2 : ℝ) ^ (-1 : ℤ) := zpow_le_zpow_right₀ (by norm_num) (by omega)
      calc _ ≤ ((16777216 : ℕ) : ℝ) * (2 : ℝ) ^ (-1 : ℤ) := mul_le_mul a1 a2 (by positivity) (by positivity)
        _ = 8388608 := by norm_num
    have hz : min 127 (max (-127) z) = -127 := by omega
    rw [hz, max_eq_left (le_trans hx (by norm_num)), min_eq_right (by norm_num)]
    norm_num
  · have hv : ((2 ^ 23 + U % 2 ^ 23 : ℕ) : ℝ) * (2 : ℝ) ^ (((U / 2 ^ 23 : ℕ) : ℤ) - 150) = 12582912 + (z : ℝ) := by
      have hi : ((2 ^ 23 + U % 2 ^ 23 : ℕ) : ℤ) = 12582912 + z := by omega
      have hr : ((2 ^ 23 + U % 2 ^ 23 : ℕ) : ℝ) = ((12582912 + z : ℤ) : ℝ) := by rw [← hi, Int.cast_natCast]
      have he : (((U / 2 ^ 23 : ℕ) : ℤ) - 150) = 0 := by omega
      rw [hr, he, zpow_zero, mul_one, Int.cast_add]
      norm_num
    rw [hv]
    have e1 : (12582785 : ℝ) = 12582912 + (-127) := by norm_num
    have e2 : (12583039 : ℝ) = 12582912 + 127 := by norm_num
    rw [e1, e2, max_add_add_left, min_add_add_left]
    push_cast
    rfl
  · have hx : (16777216 : ℝ) ≤ ((2 ^ 23 + U % 2 ^ 23 : ℕ) : ℝ) * (2 : ℝ) ^ (((U / 2 ^ 23 : ℕ) : ℤ) - 150) := by
      have a1 : ((8388608 : ℕ) : ℝ) ≤ ((2 ^ 23 + U % 2 ^ 23 : ℕ) : ℝ) := Nat.cast_le.2 (by omega)
      have a2 : (2 : ℝ) ^ (1 : ℤ) ≤ (2 : ℝ) ^ (((U / 2 ^ 23 : ℕ) : ℤ) - 150) := zpow_le_zpow_right₀ (by norm_num) (by omega)
      calc (16777216 : ℝ) = ((8388608 : ℕ) : ℝ) * (2 : ℝ) ^ (1 : ℤ) := by norm_num
        _ ≤ _ := mul_le_mul a1 a2 (by positivity) (by positivity)
    have hz : min 127 (max (-127) z) = 127 := by omega
    rw [hz, max_eq_right (le_trans (by norm_num) hx), min_eq_left (le_trans (by norm_num) hx)]
    norm_num

/-- The low byte of a word is the word of its value. -/
theorem setWidth8_toInt (x : BitVec 32) : BitVec.setWidth 8 x = BitVec.ofInt 8 x.toInt := by
  apply BitVec.eq_of_toNat_eq
  rw [BitVec.toInt_eq_toNat_cond]
  simp only [BitVec.toNat_setWidth, BitVec.toNat_ofInt]
  have := x.isLt
  split <;> omega

/-- The plain clip as the word of the clipped value. -/
theorem clipR_eq (r : BitVec 32) : clipR r = BitVec.ofInt 8 (min 127 (max (-127) r.toInt)) := by
  have e1 : (4294967169#32 : BitVec 32).toInt = -127 := by decide
  have e2 : (127#32 : BitVec 32).toInt = 127 := by decide
  have hM : (IntOp.maxsi 4294967169#32 r).toInt = max (-127) r.toInt := by
    unfold IntOp.maxsi
    by_cases h : r.toInt < -127
    · rw [if_pos (by rw [BitVec.slt_iff_toInt_lt, e1]; exact h), e1]; omega
    · rw [if_neg (by rw [BitVec.slt_iff_toInt_lt, e1]; exact h)]; omega
  have hm : (IntOp.minsi 127#32 (IntOp.maxsi 4294967169#32 r)).toInt = min 127 (max (-127) r.toInt) := by
    rw [← hM]
    unfold IntOp.minsi
    by_cases h : 127 < (IntOp.maxsi 4294967169#32 r).toInt
    · rw [if_pos (by rw [BitVec.slt_iff_toInt_lt, e2]; exact h), e2]; omega
    · rw [if_neg (by rw [BitVec.slt_iff_toInt_lt, e2]; exact h)]; omega
  rw [clipR, ← hm]
  exact setWidth8_toInt _

/-- Reading the clipped float back gives the low byte of the code. -/
theorem clip_readback (w : ℤ) (h1 : -127 ≤ w) (h2 : w ≤ 127) :
    BitVec.setWidth 8 (IntOp.addi (Ideal.fptosi 32 (((12582912 + w : ℤ) : ℝ) : EReal)) 1249902592#32) = BitVec.ofInt 8 w := by
  rw [fptosi_int _ (by omega) (by omega), BitVec.ofInt_add]
  unfold IntOp.addi
  rw [add_right_comm, show BitVec.ofInt 32 12582912 + 1249902592#32 = 1262485504#32 by decide,
    BitVec.setWidth_add _ _ (by decide), show BitVec.setWidth 8 (1262485504#32) = 0#8 by decide, BitVec.zero_add, setWidth8_toInt,
    toInt_ofInt32 w (by omega) (by omega)]

/-- The lower clip bound's pattern denotes `12582912 - 127`. -/
theorem ofBits_clip_lo : Ideal.ofBits .f32 0x4B3FFF81#32 = ((12582785 : ℝ) : EReal) := by
  rw [ofBits_normal _ (by norm_num) (by norm_num)]
  norm_num

/-- The upper clip bound's pattern denotes `12582912 + 127`. -/
theorem ofBits_clip_hi : Ideal.ofBits .f32 0x4B40007F#32 = ((12583039 : ℝ) : EReal) := by
  rw [ofBits_normal _ (by norm_num) (by norm_num)]
  norm_num

/-- The two clips agree on every word whose value lies in `[-2^29, 2^29)`. -/
theorem clipK_eq (r : BitVec 32) (h1 : -2 ^ 29 ≤ r.toInt) (h2 : r.toInt < 2 ^ 29) : clipK r = clipR r := by
  have hu : ((r + 1262485504#32).toNat : ℤ) = r.toInt + 1262485504 := by
    rw [BitVec.toInt_eq_toNat_cond] at h1 h2 ⊢
    rw [BitVec.toNat_add]
    have := r.isLt
    simp only [BitVec.toNat_ofNat]
    split at h1 <;> split <;> omega
  rw [clipR_eq, clipK, ofBits_clip_lo, ofBits_clip_hi, show IntOp.addi r 1262485504#32 = r + 1262485504#32 from rfl,
    ofBits_normal (r + 1262485504#32) (by omega) (by omega), ← EReal.coe_strictMono.monotone.map_max,
    ← EReal.coe_strictMono.monotone.map_min, clip_value _ _ hu h1 h2]
  exact clip_readback _ (by omega) (by omega)

/-- An arithmetic right shift by a nonnegative amount is the floor of the division by the power of two, on either unit. -/
theorem shrsi_toInt (u : ArithUnit) (x k : BitVec 32) : (IntOp.shrsi u x k).toInt = x.toInt / 2 ^ k.toNat := by
  unfold IntOp.shrsi
  have hx1 := BitVec.toInt_lt (x := x)
  have hx2 := BitVec.le_toInt (x := x)
  split
  · rw [BitVec.sshiftRight', BitVec.toInt_sshiftRight, Int.shiftRight_eq_div_pow]
    simp
  · rename_i hk
    have hp : (2 : ℤ) ^ 32 ≤ 2 ^ k.toNat := pow_le_pow_right₀ (by norm_num) (by omega)
    have hcw : (if x.msb then (BitVec.allOnes 32) else 0#32).toInt = x.toInt / 2 ^ k.toNat := by
      rcases lt_or_ge x.toInt 0 with h | h
      · rw [if_pos (by rwa [BitVec.msb_eq_toInt, decide_eq_true_eq])]
        rw [show (BitVec.allOnes 32).toInt = -1 by decide]
        symm
        rw [Int.ediv_eq_iff_of_pos (by positivity)]
        constructor <;> omega
      · rw [if_neg (by rw [BitVec.msb_eq_toInt, decide_eq_true_eq]; omega)]
        rw [show (0#32 : BitVec 32).toInt = 0 by decide]
        symm
        exact Int.ediv_eq_zero_of_lt h (by omega)
    rw [← hcw]
    cases u <;> rfl

/-- Right shifts agree between the two units. -/
theorem shrsi_unit (u v : ArithUnit) (x k : BitVec 32) : IntOp.shrsi u x k = IntOp.shrsi v x k :=
  BitVec.eq_of_toInt_eq (by rw [shrsi_toInt, shrsi_toInt])

/-- A right shift by at least two places lands in `[-2^29, 2^29)`. -/
theorem shrsi_bounds (u : ArithUnit) (x k : BitVec 32) (hk : 2 ≤ k.toNat) :
    -2 ^ 29 ≤ (IntOp.shrsi u x k).toInt ∧ (IntOp.shrsi u x k).toInt < 2 ^ 29 := by
  have hx1 := BitVec.toInt_lt (x := x)
  have hx2 := BitVec.le_toInt (x := x)
  rw [shrsi_toInt]
  have hp : (2 : ℤ) ^ 2 ≤ 2 ^ k.toNat := pow_le_pow_right₀ (by norm_num) hk
  norm_num at hx1 hx2 hp ⊢
  constructor
  · rw [Int.le_ediv_iff_mul_le (by positivity)]; nlinarith
  · rw [Int.ediv_lt_iff_lt_mul (by positivity)]; nlinarith

end Cert.Scalar
-- ==== Proof.Gelu.lean ====
module

public import proofs.«01_k».proof.Proof.Words
public import Idealize.ShloMosaic.PureOps.Ideal.Laws

@[expose] public section

noncomputable section

namespace Cert.Scalar

open Idealize.ShloMosaic WordArith

/-! One element of the gate: the kernel's float and integer form against the reference's integer form, as functions of the
accumulator and of the column's parameters, and their equality where the parameters are in range. -/

/-- The kernel's distance to the clamp: a rounded float. -/
def dK (q invt clamp : EReal) : BitVec 32 :=
  Ideal.fptosi 32 (Ideal.liftRound Ideal.roundHalfEven (max (clamp - max q (-q) * invt) (Ideal.ofBits .f32 0x00000000#32)))

/-- The kernel's gate factor, with the sign folded into the two constants `cn` (below zero) and `cp`. -/
def eK (q invt clamp : EReal) (cp cn n : BitVec 32) : BitVec 32 :=
  IntOp.shrsi .vector (IntOp.addi (IntOp.muli (dK q invt clamp) (dK q invt clamp))
    (Scalar.select (Ideal.cmp .olt q (Ideal.ofBits .f32 0x00000000#32)) cn cp)) n

/-- The kernel's gated value. -/
def gK (q invt clamp : EReal) (cp cn n : BitVec 32) : BitVec 32 :=
  IntOp.muli (Ideal.fptosi 32 (Ideal.liftRound Ideal.roundHalfEven (max q (-q)))) (eK q invt clamp cp cn n)

/-- The kernel's requantisation of a gated value. -/
def requantK (g m half k : BitVec 32) : BitVec 8 :=
  clipK (IntOp.shrsi .vector (IntOp.addi (IntOp.muli (IntOp.shrsi .vector (IntOp.addi g 8192#32) 14#32) m) half) k)

/-- The reference's distance to the clamp: shift, cap, subtract, in whole numbers. -/
def dR (q t b : BitVec 32) : BitVec 32 :=
  IntOp.addi (IntOp.minsi (Scalar.select (IntOp.cmpi .sge t 0#32) (IntOp.shrsi .host (IntOp.absi q) (IntOp.maxsi t 0#32))
    (IntOp.shli .host (IntOp.absi q) (IntOp.maxsi (-t) 0#32))) (-b)) b

/-- The sign of a word as a word. -/
def sgn (q : BitVec 32) : BitVec 32 := if q = 0 then 0 else if q.msb then -1 else 1

/-- The reference's gate factor. -/
def eR (q t b c n one : BitVec 32) : BitVec 32 :=
  IntOp.addi (IntOp.shrsi .host (IntOp.muli (sgn q) (IntOp.addi (IntOp.muli (dR q t b) (dR q t b)) c)) n) one

/-- The reference's gated value. -/
def gR (q t b c n one : BitVec 32) : BitVec 32 := IntOp.muli q (eR q t b c n one)

/-- The reference's requantisation of a gated value. -/
def requantR (g m k : BitVec 32) : BitVec 8 :=
  clipR (IntOp.shrsi .host (IntOp.addi (IntOp.muli
    (IntOp.shrsi .host (IntOp.addi g (IntOp.shrsi .host (IntOp.shli .host 1#32 14#32) 1#32)) 14#32) m)
      (IntOp.shli .host 1#32 (IntOp.subi k 1#32))) k)

/-- The two requantisations agree when the shift is at least two. -/
theorem requantK_eq (g m k : BitVec 32) (hk : 2 ≤ k.toNat) :
    requantK g m (IntOp.shli .host 1#32 (IntOp.subi k 1#32)) k = requantR g m k := by
  unfold requantK requantR
  rw [show IntOp.shrsi .host (IntOp.shli .host 1#32 14#32) 1#32 = 8192#32 by decide]
  rw [clipK_eq _ (shrsi_bounds _ _ _ hk).1 (shrsi_bounds _ _ _ hk).2]
  rw [shrsi_unit .vector .host, shrsi_unit .vector .host]

/-- A left shift by `k` places whose result is in range multiplies by the power of two. -/
theorem shli_toInt (u : ArithUnit) (x k : BitVec 32) (hk : k.toNat < 32) (h1 : -2 ^ 31 ≤ x.toInt * 2 ^ k.toNat)
    (h2 : x.toInt * 2 ^ k.toNat < 2 ^ 31) : (IntOp.shli u x k).toInt = x.toInt * 2 ^ k.toNat := by
  unfold IntOp.shli
  rw [if_pos hk, BitVec.shiftLeft_eq', BitVec.toInt_shiftLeft, Nat.shiftLeft_eq, Int.bmod_def]
  have hx := BitVec.toInt_eq_toNat_bmod (x := x)
  have : ((x.toNat * 2 ^ k.toNat : ℕ) : ℤ) % (2 ^ 32 : ℕ) = (x.toInt * 2 ^ k.toNat) % (2 ^ 32 : ℕ) := by
    have e : ((x.toNat : ℤ)) % (2 ^ 32 : ℕ) = x.toInt % (2 ^ 32 : ℕ) := by
      rw [hx, Int.bmod_emod]
    push_cast
    push_cast at e
    rw [Int.mul_emod, e, ← Int.mul_emod]
  rw [this]
  generalize x.toInt * 2 ^ k.toNat = y at h1 h2
  norm_num at h1 h2 ⊢
  split <;> omega

/-- The size of a word that is not the least one. -/
theorem absi_toInt (q : BitVec 32) (h : -2 ^ 31 < q.toInt) : (IntOp.absi q).toInt = |q.toInt| := by
  unfold IntOp.absi
  rw [BitVec.msb_eq_toInt]
  by_cases hq : q.toInt < 0
  · rw [if_pos (by simpa using hq), abs_of_neg hq]
    have := toInt_sub_of_bounds 0#32 q (by simp; omega) (by simp; omega)
    simpa using this
  · rw [if_neg (by simpa using hq), abs_of_nonneg (by omega)]

/-- The negative of a word that is not the least one. -/
theorem neg_toInt (q : BitVec 32) (h : -2 ^ 31 < q.toInt) : (-q).toInt = -q.toInt := by
  have h2 := BitVec.toInt_lt (x := q)
  have := toInt_sub_of_bounds 0#32 q (by simp; omega) (by simp; norm_num at h2; omega)
  simpa using this

/-- The larger of two words. -/
theorem maxsi_toInt (x y : BitVec 32) : (IntOp.maxsi x y).toInt = max x.toInt y.toInt := by
  unfold IntOp.maxsi
  by_cases h : y.toInt < x.toInt
  · rw [if_pos (by rw [BitVec.slt_iff_toInt_lt]; exact h)]; omega
  · rw [if_neg (by rw [BitVec.slt_iff_toInt_lt]; exact h)]; omega

/-- The smaller of two words. -/
theorem minsi_toInt (x y : BitVec 32) : (IntOp.minsi x y).toInt = min x.toInt y.toInt := by
  unfold IntOp.minsi
  by_cases h : x.toInt < y.toInt
  · rw [if_pos (by rw [BitVec.slt_iff_toInt_lt]; exact h)]; omega
  · rw [if_neg (by rw [BitVec.slt_iff_toInt_lt]; exact h)]; omega

/-- A select on "at least zero". -/
theorem select_sge {α : Type} (t : BitVec 32) (x y : α) : Scalar.select (IntOp.cmpi .sge t 0#32) x y = if 0 ≤ t.toInt then x else y := by
  unfold Scalar.select IntOp.cmpi
  by_cases h : 0 ≤ t.toInt
  · rw [if_pos h]
    have : (0#32 : BitVec 32).sle t = true := by rw [BitVec.sle_iff_toInt_le]; simpa using h
    simp [this]
  · rw [if_neg h]
    have : (0#32 : BitVec 32).sle t = false := by
      rw [Bool.eq_false_iff]; intro hc; rw [BitVec.sle_iff_toInt_le] at hc; exact h (by simpa using hc)
    simp [this]

/-- The size of `q` shifted by `t` places: to the right, or to the left when `t` is negative. -/
def shifted (q t : ℤ) : ℤ := if 0 ≤ t then |q| / 2 ^ t.toNat else |q| * 2 ^ (-t).toNat

/-- The shifted size is not negative. -/
theorem shifted_nonneg (q t : ℤ) : 0 ≤ shifted q t := by
  unfold shifted
  split
  · exact Int.ediv_nonneg (abs_nonneg _) (by positivity)
  · positivity

/-- The reference's distance as a whole number. -/
theorem dR_toInt (q t b : BitVec 32) (hq : |q.toInt| ≤ 2 ^ 24 - 1) (ht : -7 ≤ t.toInt) (hb1 : -1000 ≤ b.toInt) (hb2 : b.toInt ≤ 0) :
    (dR q t b).toInt = min (shifted q.toInt t.toInt) (-b.toInt) + b.toInt := by
  have ha : (IntOp.absi q).toInt = |q.toInt| := absi_toInt q (by have := abs_le.1 hq; omega)
  have hnb : (-b).toInt = -b.toInt := neg_toInt b (by omega)
  have ht2 := BitVec.toInt_lt (x := t)
  have hs : (Scalar.select (IntOp.cmpi .sge t 0#32) (IntOp.shrsi .host (IntOp.absi q) (IntOp.maxsi t 0#32))
    (IntOp.shli .host (IntOp.absi q) (IntOp.maxsi (-t) 0#32))).toInt = shifted q.toInt t.toInt := by
    rw [select_sge]
    unfold shifted
    by_cases h : 0 ≤ t.toInt
    · rw [if_pos h, if_pos h, shrsi_toInt, ha]
      have hm : (IntOp.maxsi t 0#32).toInt = t.toInt := by rw [maxsi_toInt]; simpa using h
      have : (IntOp.maxsi t 0#32).toNat = t.toInt.toNat := by
        rw [← hm]; rw [← hm] at h; rw [BitVec.toInt_eq_toNat_cond] at h ⊢; split at h <;> split <;> omega
      rw [this]
    · rw [if_neg h, if_neg h]
      have hnt : (-t).toInt = -t.toInt := neg_toInt t (by omega)
      have hm : (IntOp.maxsi (-t) 0#32).toInt = -t.toInt := by rw [maxsi_toInt, hnt]; simp; omega
      have hn : (IntOp.maxsi (-t) 0#32).toNat = (-t.toInt).toNat := by
        have h0 : 0 ≤ (IntOp.maxsi (-t) 0#32).toInt := by omega
        rw [← hm]; rw [BitVec.toInt_eq_toNat_cond] at h0 ⊢; split at h0 <;> split <;> omega
      have hp : (2 : ℤ) ^ (-t.toInt).toNat ≤ 2 ^ 7 := pow_le_pow_right₀ (by norm_num) (by omega)
      have hp0 : (0 : ℤ) < 2 ^ (-t.toInt).toNat := by positivity
      have h0 := abs_nonneg q.toInt
      rw [shli_toInt, ha, hn]
      · rw [hn]; omega
      · rw [ha, hn]; nlinarith
      · rw [ha, hn]
        norm_num at hq hp ⊢
        nlinarith
  have h0 := shifted_nonneg q.toInt t.toInt
  unfold dR
  have hmin := minsi_toInt (Scalar.select (IntOp.cmpi .sge t 0#32) (IntOp.shrsi .host (IntOp.absi q) (IntOp.maxsi t 0#32))
    (IntOp.shli .host (IntOp.absi q) (IntOp.maxsi (-t) 0#32))) (-b)
  rw [hs, hnb] at hmin
  show (_ + b).toInt = _
  rw [toInt_add_of_bounds _ _ (by rw [hmin]; omega) (by rw [hmin]; omega), hmin]

/-- The kernel's clamp constant: the bound, and half a unit less half the step when the step is above one. -/
def clampR (t b : ℤ) : ℝ := -(b : ℝ) + if 0 < t then 1 / 2 - 1 / 2 * (2 : ℝ) ^ (-t) else 0

/-- The kernel's distance as a whole number: it is the reference's with the other sign. -/
theorem dK_eq (q t b : ℤ) (hb1 : -1000 ≤ b) (hb2 : b ≤ 0) :
    dK (((q : ℝ)) : EReal) (((2 : ℝ) ^ (-t) : ℝ) : EReal) ((clampR t b : ℝ) : EReal) = BitVec.ofInt 32 (-(min (shifted q t) (-b) + b)) := by
  unfold dK
  have hm : max ((q : ℝ) : EReal) (-((q : ℝ) : EReal)) = (((|q| : ℤ) : ℝ) : EReal) := by
    rw [← EReal.coe_neg, ← EReal.coe_strictMono.monotone.map_max, Int.cast_abs]; rfl
  rw [Ideal.ofBits_zero_f32, hm, ← EReal.coe_mul, ← EReal.coe_sub, ← EReal.coe_zero, ← EReal.coe_strictMono.monotone.map_max, Ideal.liftRound_coe]
  have h0 := shifted_nonneg q t
  have hA : (0 : ℤ) ≤ |q| := abs_nonneg q
  have key : Ideal.roundHalfEven (max (clampR t b - ((|q| : ℤ) : ℝ) * (2 : ℝ) ^ (-t)) 0) = -(min (shifted q t) (-b) + b) := by
    unfold clampR
    by_cases ht : 0 < t
    · rw [if_pos ht]
      have hsh : shifted q t = |q| / 2 ^ t.toNat := by unfold shifted; rw [if_pos ht.le]
      set T : ℤ := 2 ^ t.toNat with hT
      have hTpos : 0 < T := by positivity
      have hTr : (2 : ℝ) ^ (-t) = ((T : ℤ) : ℝ)⁻¹ := by
        rw [zpow_neg, hT]
        push_cast
        rw [← zpow_natCast, Int.toNat_of_nonneg ht.le]
      have hd : T * (|q| / T) + |q| % T = |q| := Int.mul_ediv_add_emod _ _
      have hr0 := Int.emod_nonneg |q| hTpos.ne'
      have hr1 := Int.emod_lt_of_pos |q| hTpos
      set a := |q| / T with ha
      set r := |q| % T with hr
      rw [hTr]
      have hTR : (0 : ℝ) < (T : ℝ) := by exact_mod_cast hTpos
      have hqr : ((|q| : ℤ) : ℝ) = T * a + r := by rw [← hd]; push_cast; ring
      have hrr : (r : ℝ) ≤ T - 1 := by have : r ≤ T - 1 := by omega
                                       exact_mod_cast this
      have hrr0 : (0 : ℝ) ≤ r := by exact_mod_cast hr0
      have hx : -(b : ℝ) + (1 / 2 - 1 / 2 * ((T : ℤ) : ℝ)⁻¹) - ((|q| : ℤ) : ℝ) * ((T : ℤ) : ℝ)⁻¹ = (-b - a : ℤ) + (1 / 2 - (r + 1 / 2) * (T : ℝ)⁻¹) := by
        rw [hqr]; push_cast; field_simp; ring
      rw [hx, hsh]
      have hu1 : 0 < (r + 1 / 2) * (T : ℝ)⁻¹ := by positivity
      have hu2 : (r + 1 / 2) * (T : ℝ)⁻¹ < 1 := by
        rw [← div_eq_mul_inv, div_lt_one hTR]; linarith
      rcases lt_or_ge (-b - a) 0 with hc | hc
      · have hneg : ((-b - a : ℤ) : ℝ) ≤ -1 := by have : (-b - a : ℤ) ≤ -1 := by omega
                                                  exact_mod_cast this
        rw [max_eq_right (by linarith)]
        rw [show (0 : ℝ) = ((0 : ℤ) : ℝ) by simp, roundHalfEven_int]
        omega
      · rw [roundHalfEven_near _ (-b - a)]
        · omega
        · exact lt_of_lt_of_le (by linarith) (le_max_left _ _)
        · have : (0 : ℝ) ≤ ((-b - a : ℤ) : ℝ) := by exact_mod_cast hc
          exact max_lt (by linarith) (by linarith)
    · rw [if_neg ht]
      have hsh : shifted q t = |q| * 2 ^ (-t).toNat := by
        unfold shifted
        split
        · have : t = 0 := by omega
          subst this; simp
        · rfl
      have hv : -(b : ℝ) + 0 - ((|q| : ℤ) : ℝ) * (2 : ℝ) ^ (-t) = ((-b - shifted q t : ℤ) : ℝ) := by
        rw [hsh]
        push_cast
        rw [← zpow_natCast, Int.toNat_of_nonneg (by omega)]
        ring
      rw [hv, show (0 : ℝ) = ((0 : ℤ) : ℝ) by simp, ← Int.cast_max, roundHalfEven_int]
      omega
  rw [key, fptosi_int _ (by omega) (by omega)]

/-- A select on a real below zero. -/
theorem select_olt {α : Type} (q : ℤ) (x y : α) :
    Scalar.select (Ideal.cmp .olt (((q : ℝ)) : EReal) (Ideal.ofBits .f32 0x00000000#32)) x y = if q < 0 then x else y := by
  unfold Scalar.select Ideal.cmp
  rw [Ideal.ofBits_zero_f32]
  have : ((q : ℝ) : EReal) < 0 ↔ q < 0 := by
    rw [← EReal.coe_zero, EReal.coe_lt_coe_iff]; exact_mod_cast Iff.rfl
  by_cases h : q < 0
  · rw [if_pos h]; simp [this, h]
  · rw [if_neg h]; simp [this, h]

end Cert.Scalar
-- ==== Proof.ChunkAt.lean ====
module

public import proofs.«01_k».proof.Proof.Chunk
public import proofs.«01_k».proof.Proof.Gelu
public import Idealize.ShloMosaic.Lib.Pointwise

@[expose] public section

set_option Elab.async false
set_option maxRecDepth 16384

noncomputable section

namespace Cert.KernelIdeal.Block

open Cert.KernelIdeal Cert.KernelIdeal.Gen Idealize.ShloMosaic Idealize.ShloMosaic.TcCoe Idealize.ShloMosaic.Tactic Cert.Scalar

/-- A word's float at an index. -/
theorem bits_at {S : Shape} (y : IVec S 32) (i : S.Idx) : bitcastToFloat (F := Ideal) .f32 y i = Ideal.ofBits .f32 (y i) := rfl

/-- The two caps of a float vector, converted, at an index. -/
theorem caps_at {S : Shape} (c₁ c₂ : EReal) (z : FVec Ideal S .f32) (b : BitVec 32) (h : 8 < 32) (i : S.Idx) :
    trunci 8 (addi (fptosi (F := Ideal) (φ := .f32) 32 (minimumf (broadcast S c₁) (maximumf (broadcast S c₂) z)))
      (broadcast S b)) h i = BitVec.setWidth 8 (IntOp.addi (Ideal.fptosi 32 (min c₁ (max c₂ (z i)))) b) := rfl

/-- A float constant's value. -/
theorem bits_scalar (b : BitVec 32) : Scalar.ofBits (F := Ideal) .f32 b = Ideal.ofBits .f32 b := rfl

/-- The conversion of rounded words to codes, at an index. -/
theorem clip_at {S : Shape} (x : IVec S 32) (h : 8 < 32) (i : S.Idx) :
    trunci 8 (addi (fptosi (F := Ideal) 32 (minimumf (broadcast S (Scalar.ofBits .f32 0x4B40007F#32))
      (maximumf (broadcast S (Scalar.ofBits .f32 0x4B3FFF81#32)) (bitcastToFloat .f32 (addi x (broadcast S 1262485504#32))))))
      (broadcast S 1249902592#32)) h i = clipK (x i) := by
  refine (caps_at _ _ _ _ h i).trans ?_
  rw [bits_at, bits_scalar, bits_scalar]
  unfold clipK
  exact congrArg (fun w => BitVec.setWidth 8 (IntOp.addi (Ideal.fptosi 32 (min (Ideal.ofBits .f32 0x4B40007F#32)
    (max (Ideal.ofBits .f32 0x4B3FFF81#32) (Ideal.ofBits .f32 w)))) 1249902592#32)) (rfl : addi x (broadcast S 1262485504#32) i = IntOp.addi (x i) 1262485504#32)

/-- A hidden code from its sum and its column's parameters, as the kernel forms it. -/
def hcode (q invt clamp : EReal) (cp cn n m half k : BitVec 32) : BitVec 8 := requantK (gK q invt clamp cp cn n) m half k

section
variable (A : Vec Ideal S512x768 .i8) (W : Vec Ideal S768x256 .bf16) (Q : Vec Ideal S3x256 .f32) (N : Vec Ideal S6x256 .i32)
    (r : Fin 512) (j : Fin 256)

/-- The chunk's sum plus its bias at an index. -/
def qAt : EReal := (∑ k : Fin 768, (((A (ix2 r k)).toInt : ℝ) : EReal) * W (ix2 k j)) + Q (ix2 0 j)

/-- The kernel's sum with its bias. -/
theorem pay14_at : k0_pay14 (F := Ideal) A W Q (ix2 r j) = qAt A W Q r j := by
  unfold qAt
  pointwise [k0_pay14, k0_pay8, k0_pay9]
  rfl

/-- The multiplier's row. -/
theorem pay11_at : k0_pay11 (F := Ideal) N (ix2 0 j) = N (ix2 3 j) := by
  pointwise [k0_pay11, k0_pay10]

/-- The row of halves. -/
theorem pay12_at : k0_pay12 (F := Ideal) N (ix2 0 j) = N (ix2 4 j) := by
  pointwise [k0_pay12, k0_pay10]

/-- The row of shifts. -/
theorem pay13_at : k0_pay13 (F := Ideal) N (ix2 0 j) = N (ix2 5 j) := by
  pointwise [k0_pay13, k0_pay10]

/-- The gate factor. -/
theorem pay16_at : k0_pay16 (F := Ideal) A W Q N (ix2 r j) = eK (qAt A W Q r j) (Q (ix2 1 j)) (Q (ix2 2 j)) (N (ix2 0 j)) (N (ix2 1 j)) (N (ix2 2 j)) := by
  rw [← pay14_at A W Q r j]
  unfold k0_pay16 k0_pay15 eK dK
  pointwise [k0_pay9, k0_pay10]
  rfl

/-- The rounded size of the sum. -/
theorem pay17_at : k0_pay17 (F := Ideal) A W Q (ix2 r j)
    = Ideal.fptosi 32 (Ideal.liftRound Ideal.roundHalfEven (max (qAt A W Q r j) (-(qAt A W Q r j)))) := by
  rw [← pay14_at A W Q r j]
  unfold k0_pay17 k0_pay15
  rfl

/-- The codes from the rows and the two factors. -/
theorem pay18_at (a b c : IVec S1x256 32) (e w : IVec S512x256 32) : k0_pay18 (F := Ideal) a b c e w (ix2 r j)
    = requantK (IntOp.muli (w (ix2 r j)) (e (ix2 r j))) (a (ix2 0 j)) (b (ix2 0 j)) (c (ix2 0 j)) := by
  unfold k0_pay18 requantK
  refine (clip_at _ _ _).trans (congrArg clipK ?_)
  pointwise

/-- A chunk at an index. -/
theorem chunk_at : chunk (F := Ideal) A W Q N (ix2 r j) = hcode (qAt A W Q r j)
      (Q (ix2 1 j)) (Q (ix2 2 j)) (N (ix2 0 j)) (N (ix2 1 j)) (N (ix2 2 j)) (N (ix2 3 j)) (N (ix2 4 j)) (N (ix2 5 j)) := by
  unfold chunk hcode gK
  rw [pay18_at, pay16_at, pay17_at, pay11_at, pay12_at, pay13_at]

end

/-- A word of the result: the second product rounded, shifted and requantised. -/
def ycode (a : EReal) (b2 m half k : BitVec 32) : BitVec 8 :=
  clipK (IntOp.shrsi .vector (IntOp.addi (IntOp.muli
    (IntOp.shrsi .vector (IntOp.addi (Ideal.fptosi 32 (Ideal.liftRound Ideal.roundHalfEven a)) b2) 4#32) m) half) k)

/-- The last codes at an index. -/
theorem pay1_at (a : FVec Ideal S512x768 .f32) (b m h k : IVec S1x768 32) (r : Fin 512) (j : Fin 768) :
    k0_pay1 (F := Ideal) a b m h k (ix2 r j) = ycode (a (ix2 r j)) (b (ix2 0 j)) (m (ix2 0 j)) (h (ix2 0 j)) (k (ix2 0 j)) := by
  unfold k0_pay1 ycode
  refine (clip_at _ _ _).trans (congrArg clipK ?_)
  pointwise
  rfl

/-- The second product at an index. -/
theorem pay126_at (a : Vec Ideal S512x3072 .bf16) (w : Vec Ideal S3072x768 .bf16) (r : Fin 512) (j : Fin 768) :
    k0_pay126 (F := Ideal) a w (ix2 r j) = (∑ k : Fin 3072, a (ix2 r k) * w (ix2 k j) : EReal) := by
  pointwise [k0_pay126]

/-- An unpacked low nibble of the first weight. -/
theorem pay3_at (x : Vec Ideal S128x1536 .i8) (r : Fin 128) (j : Fin 1536) :
    k0_pay3 (F := Ideal) x (ix2 r j) = (((IntOp.shrsi .vector (IntOp.shli .vector (BitVec.setWidth 32 (x (ix2 r j))) 28#32) 28#32).toInt : ℝ) : EReal) := by
  pointwise [k0_pay3, k0_pay2]
  rfl

/-- An unpacked high nibble of the first weight. -/
theorem pay4_at (x : Vec Ideal S128x1536 .i8) (r : Fin 128) (j : Fin 1536) :
    k0_pay4 (F := Ideal) x (ix2 r j) = (((IntOp.shrsi .vector (IntOp.shli .vector (BitVec.setWidth 32 (x (ix2 r j))) 24#32) 28#32).toInt : ℝ) : EReal) := by
  pointwise [k0_pay4, k0_pay2]
  rfl

/-- An unpacked low nibble of the second weight. -/
theorem pay6_at (x : Vec Ideal S128x768 .i8) (r : Fin 128) (j : Fin 768) :
    k0_pay6 (F := Ideal) x (ix2 r j) = (((IntOp.shrsi .vector (IntOp.shli .vector (BitVec.setWidth 32 (x (ix2 r j))) 28#32) 28#32).toInt : ℝ) : EReal) := by
  pointwise [k0_pay6, k0_pay5]
  rfl

/-- An unpacked high nibble of the second weight. -/
theorem pay7_at (x : Vec Ideal S128x768 .i8) (r : Fin 128) (j : Fin 768) :
    k0_pay7 (F := Ideal) x (ix2 r j) = (((IntOp.shrsi .vector (IntOp.shli .vector (BitVec.setWidth 32 (x (ix2 r j))) 24#32) 28#32).toInt : ℝ) : EReal) := by
  pointwise [k0_pay7, k0_pay5]
  rfl

end Cert.KernelIdeal.Block
-- ==== Proof.Block.lean ====
module

public import proofs.«01_k».proof.Proof.ChunkAt
public import Idealize.ShloMosaic.Lib.Pipeline.ValueKit.Tiles

@[expose] public section

set_option Elab.async false
set_option maxRecDepth 200000

noncomputable section

namespace Cert.KernelIdeal.Block

open Cert.KernelIdeal Cert.KernelIdeal.Gen Idealize.ShloMosaic Idealize.ShloMosaic.TcCoe Idealize.ShloMosaic.Tactic Cert.Scalar

/-- A load of some columns of every row, at an index. -/
theorem ld_cols {Val : EltTy → Type} {e' : EltTy} {N M n : ℕ} (X : (⟨2, ![N, M]⟩ : Shape).Idx → Val e') (off : ℕ)
    (inb : ∀ a, (![0, off] : Fin 2 → ℕ) a + (![N, n] : Fin 2 → ℕ) a ≤ (⟨2, ![N, M]⟩ : Shape).size a) (h : off + n ≤ M) (a : Fin N) (j : Fin n) :
    View.ld X (Rect.unit (s := ⟨2, ![N, M]⟩) ![0, off] ![N, n] inb) (ix2 a j) = X (ix2 a ⟨off + j, by omega⟩) :=
  View.ld_unit_apply_of X _ _ inb _ _ (by
    intro d
    match d with
    | 0 => exact (Nat.zero_add _).symm
    | 1 => rfl)

/-- The place of a store of some columns of every row. -/
theorem emb_cols {N M n : ℕ} (off : ℕ)
    (inb : ∀ a, (![0, off] : Fin 2 → ℕ) a + (![N, n] : Fin 2 → ℕ) a ≤ (⟨2, ![N, M]⟩ : Shape).size a) (h : off + n ≤ M) (a : Fin N) (j : Fin n) :
    (Rect.unit (s := ⟨2, ![N, M]⟩) ![0, off] ![N, n] inb).emb (ix2 a j) = ix2 a ⟨off + j, by omega⟩ := by
  refine Rect.emb_eq_of_coords _ _ _ ?_
  intro d
  match d with
  | 0 => exact ((congrArg (0 + ·) (Nat.one_mul _)).trans (Nat.zero_add _)).symm
  | 1 => exact (congrArg (off + ·) (Nat.one_mul _)).symm

/-- The hidden codes of a block of rows, from its rows, the whole first weight and the two parameter tables. -/
def hblk (x0 : Vec Ideal S512x768 .i8) (w : S768x3072.Idx → EReal) (x3 : Vec Ideal S3x3072 .f32) (x4 : Vec Ideal S6x3072 .i32)
    (y : S512x3072.Idx) : BitVec 8 :=
  hcode ((∑ k : Fin 768, (((x0 (ix2 (y 0) k)).toInt : ℝ) : EReal) * w (ix2 k (y 1))) + x3 (ix2 0 (y 1)))
    (x3 (ix2 1 (y 1))) (x3 (ix2 2 (y 1))) (x4 (ix2 0 (y 1))) (x4 (ix2 1 (y 1))) (x4 (ix2 2 (y 1)))
    (x4 (ix2 3 (y 1))) (x4 (ix2 4 (y 1))) (x4 (ix2 5 (y 1)))

/-- The results of a block of rows, from its hidden codes, the whole second weight and the parameter table. -/
def yblk (hb : S512x3072.Idx → BitVec 8) (w : S3072x768.Idx → EReal) (x5 : Vec Ideal S4x768 .i32) (y : S512x768.Idx) : BitVec 8 :=
  ycode (∑ k : Fin 3072, (((hb (ix2 (y 0) k)).toInt : ℝ) : EReal) * w (ix2 k (y 1)))
    (x5 (ix2 0 (y 1))) (x5 (ix2 1 (y 1))) (x5 (ix2 2 (y 1))) (x5 (ix2 3 (y 1)))

/-- A chunk's codes are the block's at the place they are stored. -/
theorem chunk_piece (x0 : Vec Ideal S512x768 .i8) (w : S768x3072.Idx → Elt Ideal .bf16) (x3 : Vec Ideal S3x3072 .f32) (x4 : Vec Ideal S6x3072 .i32)
    (off : ℕ) (h : off + 256 ≤ 3072) (inbw : ∀ a, (![0, off] : Fin 2 → ℕ) a + (![768, 256] : Fin 2 → ℕ) a ≤ S768x3072.size a)
    (inb3 : ∀ a, (![0, off] : Fin 2 → ℕ) a + (![3, 256] : Fin 2 → ℕ) a ≤ S3x3072.size a)
    (inb4 : ∀ a, (![0, off] : Fin 2 → ℕ) a + (![6, 256] : Fin 2 → ℕ) a ≤ S6x3072.size a)
    (inbo : ∀ a, (![0, off] : Fin 2 → ℕ) a + (![512, 256] : Fin 2 → ℕ) a ≤ S512x3072.size a) (x : S512x256.Idx) :
    chunk (F := Ideal) x0 (View.ld w (Rect.unit (s := S768x3072) ![0, off] ![768, 256] inbw))
        (View.ld (Val := Elt Ideal) (e' := .f32) x3 (Rect.unit (s := S3x3072) ![0, off] ![3, 256] inb3))
        (View.ld (Val := Elt Ideal) (e' := .i32) x4 (Rect.unit (s := S6x3072) ![0, off] ![6, 256] inb4)) x
      = hblk x0 w x3 x4 ((Rect.unit (s := S512x3072) ![0, off] ![512, 256] inbo).emb x) := by
  obtain ⟨r, j, rfl⟩ : ∃ (r : Fin 512) (j : Fin 256), x = ix2 r j := ⟨x 0, x 1, eq_ix2 x⟩
  rw [emb_cols (N := 512) (M := 3072) (n := 256) off inbo h r j, chunk_at]
  unfold hblk qAt
  simp only [ld_cols (N := 768) (M := 3072) (n := 256) w off inbw h, ld_cols (Val := Elt Ideal) (e' := .f32) (N := 3) (M := 3072) (n := 256) x3 off inb3 h,
    ld_cols (Val := Elt Ideal) (e' := .i32) (N := 6) (M := 3072) (n := 256) x4 off inb4 h]
  rfl

/-- The same at the second product's element type. -/
theorem chunkb_piece (x0 : Vec Ideal S512x768 .i8) (w : S768x3072.Idx → Elt Ideal .bf16) (x3 : Vec Ideal S3x3072 .f32) (x4 : Vec Ideal S6x3072 .i32)
    (off : ℕ) (h : off + 256 ≤ 3072) (inbw : ∀ a, (![0, off] : Fin 2 → ℕ) a + (![768, 256] : Fin 2 → ℕ) a ≤ S768x3072.size a)
    (inb3 : ∀ a, (![0, off] : Fin 2 → ℕ) a + (![3, 256] : Fin 2 → ℕ) a ≤ S3x3072.size a)
    (inb4 : ∀ a, (![0, off] : Fin 2 → ℕ) a + (![6, 256] : Fin 2 → ℕ) a ≤ S6x3072.size a)
    (inbo : ∀ a, (![0, off] : Fin 2 → ℕ) a + (![512, 256] : Fin 2 → ℕ) a ≤ S512x3072.size a) (x : S512x256.Idx) :
    (sitofp (F := Ideal) .bf16 (chunk (F := Ideal) x0 (View.ld w (Rect.unit (s := S768x3072) ![0, off] ![768, 256] inbw))
        (View.ld (Val := Elt Ideal) (e' := .f32) x3 (Rect.unit (s := S3x3072) ![0, off] ![3, 256] inb3))
        (View.ld (Val := Elt Ideal) (e' := .i32) x4 (Rect.unit (s := S6x3072) ![0, off] ![6, 256] inb4))) x : EReal)
      = (((hblk x0 w x3 x4 ((Rect.unit (s := S512x3072) ![0, off] ![512, 256] inbo).emb x)).toInt : ℝ) : EReal) :=
  congrArg (fun b : BitVec 8 => ((b.toInt : ℝ) : EReal)) (chunk_piece x0 w x3 x4 off h inbw inb3 inb4 inbo x)

/-- The twelve stores for the second product, last first. -/
def hbPieces (x0 : Vec Ideal S512x768 .i8) (w : S768x3072.Idx → Elt Ideal .bf16) (x3 : Vec Ideal S3x3072 .f32) (x4 : Vec Ideal S6x3072 .i32) :
    List (View.Piece (Elt Ideal) S512x3072 .bf16) :=
  [⟨Rect.unit ![0, 2816] ![512, 256] inb_S512x3072_S512x256_0_2816, sitofp (F := Ideal) .bf16 (chunk (F := Ideal) x0 (View.ld w (Rect.unit (s := S768x3072) ![0, 2816] ![768, 256] inb_S768x3072_S768x256_0_2816)) (View.ld (Val := Elt Ideal) (e' := .f32) x3 (Rect.unit (s := S3x3072) ![0, 2816] ![3, 256] inb_S3x3072_S3x256_0_2816)) (View.ld (Val := Elt Ideal) (e' := .i32) x4 (Rect.unit (s := S6x3072) ![0, 2816] ![6, 256] inb_S6x3072_S6x256_0_2816)))⟩,
    ⟨Rect.unit ![0, 2560] ![512, 256] inb_S512x3072_S512x256_0_2560, sitofp (F := Ideal) .bf16 (chunk (F := Ideal) x0 (View.ld w (Rect.unit (s := S768x3072) ![0, 2560] ![768, 256] inb_S768x3072_S768x256_0_2560)) (View.ld (Val := Elt Ideal) (e' := .f32) x3 (Rect.unit (s := S3x3072) ![0, 2560] ![3, 256] inb_S3x3072_S3x256_0_2560)) (View.ld (Val := Elt Ideal) (e' := .i32) x4 (Rect.unit (s := S6x3072) ![0, 2560] ![6, 256] inb_S6x3072_S6x256_0_2560)))⟩,
    ⟨Rect.unit ![0, 2304] ![512, 256] inb_S512x3072_S512x256_0_2304, sitofp (F := Ideal) .bf16 (chunk (F := Ideal) x0 (View.ld w (Rect.unit (s := S768x3072) ![0, 2304] ![768, 256] inb_S768x3072_S768x256_0_2304)) (View.ld (Val := Elt Ideal) (e' := .f32) x3 (Rect.unit (s := S3x3072) ![0, 2304] ![3, 256] inb_S3x3072_S3x256_0_2304)) (View.ld (Val := Elt Ideal) (e' := .i32) x4 (Rect.unit (s := S6x3072) ![0, 2304] ![6, 256] inb_S6x3072_S6x256_0_2304)))⟩,
    ⟨Rect.unit ![0, 2048] ![512, 256] inb_S512x3072_S512x256_0_2048, sitofp (F := Ideal) .bf16 (chunk (F := Ideal) x0 (View.ld w (Rect.unit (s := S768x3072) ![0, 2048] ![768, 256] inb_S768x3072_S768x256_0_2048)) (View.ld (Val := Elt Ideal) (e' := .f32) x3 (Rect.unit (s := S3x3072) ![0, 2048] ![3, 256] inb_S3x3072_S3x256_0_2048)) (View.ld (Val := Elt Ideal) (e' := .i32) x4 (Rect.unit (s := S6x3072) ![0, 2048] ![6, 256] inb_S6x3072_S6x256_0_2048)))⟩,
    ⟨Rect.unit ![0, 1792] ![512, 256] inb_S512x3072_S512x256_0_1792, sitofp (F := Ideal) .bf16 (chunk (F := Ideal) x0 (View.ld w (Rect.unit (s := S768x3072) ![0, 1792] ![768, 256] inb_S768x3072_S768x256_0_1792)) (View.ld (Val := Elt Ideal) (e' := .f32) x3 (Rect.unit (s := S3x3072) ![0, 1792] ![3, 256] inb_S3x3072_S3x256_0_1792)) (View.ld (Val := Elt Ideal) (e' := .i32) x4 (Rect.unit (s := S6x3072) ![0, 1792] ![6, 256] inb_S6x3072_S6x256_0_1792)))⟩,
    ⟨Rect.unit ![0, 1536] ![512, 256] inb_S512x3072_S512x256_0_1536, sitofp (F := Ideal) .bf16 (chunk (F := Ideal) x0 (View.ld w (Rect.unit (s := S768x3072) ![0, 1536] ![768, 256] inb_S768x3072_S768x256_0_1536)) (View.ld (Val := Elt Ideal) (e' := .f32) x3 (Rect.unit (s := S3x3072) ![0, 1536] ![3, 256] inb_S3x3072_S3x256_0_1536)) (View.ld (Val := Elt Ideal) (e' := .i32) x4 (Rect.unit (s := S6x3072) ![0, 1536] ![6, 256] inb_S6x3072_S6x256_0_1536)))⟩,
    ⟨Rect.unit ![0, 1280] ![512, 256] inb_S512x3072_S512x256_0_1280, sitofp (F := Ideal) .bf16 (chunk (F := Ideal) x0 (View.ld w (Rect.unit (s := S768x3072) ![0, 1280] ![768, 256] inb_S768x3072_S768x256_0_1280)) (View.ld (Val := Elt Ideal) (e' := .f32) x3 (Rect.unit (s := S3x3072) ![0, 1280] ![3, 256] inb_S3x3072_S3x256_0_1280)) (View.ld (Val := Elt Ideal) (e' := .i32) x4 (Rect.unit (s := S6x3072) ![0, 1280] ![6, 256] inb_S6x3072_S6x256_0_1280)))⟩,
    ⟨Rect.unit ![0, 1024] ![512, 256] inb_S512x3072_S512x256_0_1024, sitofp (F := Ideal) .bf16 (chunk (F := Ideal) x0 (View.ld w (Rect.unit (s := S768x3072) ![0, 1024] ![768, 256] inb_S768x3072_S768x256_0_1024)) (View.ld (Val := Elt Ideal) (e' := .f32) x3 (Rect.unit (s := S3x3072) ![0, 1024] ![3, 256] inb_S3x3072_S3x256_0_1024)) (View.ld (Val := Elt Ideal) (e' := .i32) x4 (Rect.unit (s := S6x3072) ![0, 1024] ![6, 256] inb_S6x3072_S6x256_0_1024)))⟩,
    ⟨Rect.unit ![0, 768] ![512, 256] inb_S512x3072_S512x256_0_768, sitofp (F := Ideal) .bf16 (chunk (F := Ideal) x0 (View.ld w (Rect.unit (s := S768x3072) ![0, 768] ![768, 256] inb_S768x3072_S768x256_0_768)) (View.ld (Val := Elt Ideal) (e' := .f32) x3 (Rect.unit (s := S3x3072) ![0, 768] ![3, 256] inb_S3x3072_S3x256_0_768)) (View.ld (Val := Elt Ideal) (e' := .i32) x4 (Rect.unit (s := S6x3072) ![0, 768] ![6, 256] inb_S6x3072_S6x256_0_768)))⟩,
    ⟨Rect.unit ![0, 512] ![512, 256] inb_S512x3072_S512x256_0_512, sitofp (F := Ideal) .bf16 (chunk (F := Ideal) x0 (View.ld w (Rect.unit (s := S768x3072) ![0, 512] ![768, 256] inb_S768x3072_S768x256_0_512)) (View.ld (Val := Elt Ideal) (e' := .f32) x3 (Rect.unit (s := S3x3072) ![0, 512] ![3, 256] inb_S3x3072_S3x256_0_512)) (View.ld (Val := Elt Ideal) (e' := .i32) x4 (Rect.unit (s := S6x3072) ![0, 512] ![6, 256] inb_S6x3072_S6x256_0_512)))⟩,
    ⟨Rect.unit ![0, 256] ![512, 256] inb_S512x3072_S512x256_0_256, sitofp (F := Ideal) .bf16 (chunk (F := Ideal) x0 (View.ld w (Rect.unit (s := S768x3072) ![0, 256] ![768, 256] inb_S768x3072_S768x256_0_256)) (View.ld (Val := Elt Ideal) (e' := .f32) x3 (Rect.unit (s := S3x3072) ![0, 256] ![3, 256] inb_S3x3072_S3x256_0_256)) (View.ld (Val := Elt Ideal) (e' := .i32) x4 (Rect.unit (s := S6x3072) ![0, 256] ![6, 256] inb_S6x3072_S6x256_0_256)))⟩,
    ⟨Rect.unit ![0, 0] ![512, 256] inb_S512x3072_S512x256_0_0, sitofp (F := Ideal) .bf16 (chunk (F := Ideal) x0 (View.ld w (Rect.unit (s := S768x3072) ![0, 0] ![768, 256] inb_S768x3072_S768x256_0_0)) (View.ld (Val := Elt Ideal) (e' := .f32) x3 (Rect.unit (s := S3x3072) ![0, 0] ![3, 256] inb_S3x3072_S3x256_0_0)) (View.ld (Val := Elt Ideal) (e' := .i32) x4 (Rect.unit (s := S6x3072) ![0, 0] ![6, 256] inb_S6x3072_S6x256_0_0)))⟩]

/-- Every store for the second product holds the block's codes as numbers. -/
theorem hbPieces_at (x0 : Vec Ideal S512x768 .i8) (w : S768x3072.Idx → Elt Ideal .bf16) (x3 : Vec Ideal S3x3072 .f32) (x4 : Vec Ideal S6x3072 .i32) :
    ∀ p ∈ hbPieces x0 w x3 x4, ∀ x : p.1.shape.Idx, p.2 x = (((hblk x0 w x3 x4 (p.1.emb x)).toInt : ℝ) : EReal) := by
  unfold hbPieces
  simp only [List.forall_mem_cons, List.not_mem_nil, false_imp_iff, implies_true, and_true]
  exact ⟨fun x => chunkb_piece x0 w x3 x4 2816 (by norm_num) _ _ _ _ x, fun x => chunkb_piece x0 w x3 x4 2560 (by norm_num) _ _ _ _ x, fun x => chunkb_piece x0 w x3 x4 2304 (by norm_num) _ _ _ _ x, fun x => chunkb_piece x0 w x3 x4 2048 (by norm_num) _ _ _ _ x, fun x => chunkb_piece x0 w x3 x4 1792 (by norm_num) _ _ _ _ x, fun x => chunkb_piece x0 w x3 x4 1536 (by norm_num) _ _ _ _ x, fun x => chunkb_piece x0 w x3 x4 1280 (by norm_num) _ _ _ _ x, fun x => chunkb_piece x0 w x3 x4 1024 (by norm_num) _ _ _ _ x, fun x => chunkb_piece x0 w x3 x4 768 (by norm_num) _ _ _ _ x, fun x => chunkb_piece x0 w x3 x4 512 (by norm_num) _ _ _ _ x, fun x => chunkb_piece x0 w x3 x4 256 (by norm_num) _ _ _ _ x, fun x => chunkb_piece x0 w x3 x4 0 (by norm_num) _ _ _ _ x⟩

/-- The stores for the second product fill the block. -/
theorem hbPieces_cover (x0 : Vec Ideal S512x768 .i8) (w : S768x3072.Idx → Elt Ideal .bf16) (x3 : Vec Ideal S3x3072 .f32) (x4 : Vec Ideal S6x3072 .i32)
    (y : S512x3072.Idx) : ∃ pc ∈ hbPieces x0 w x3 x4, y ∈ pc.1.set :=
  View.cover_of_tiledL (hbPieces x0 w x3 x4) S512x256.size (by sl_kernel_rfl) y

/-- What the second product reads of them. -/
theorem hb_read {sp : Space} (v : View sig .tc sp S512x3072 .bf16) (x0 : Vec Ideal S512x768 .i8) (w : S768x3072.Idx → Elt Ideal .bf16) (x3 : Vec Ideal S3x3072 .f32)
    (x4 : Vec Ideal S6x3072 .i32) (r : Fin 512) (k : Fin 3072) :
    (v.readCov (hbPieces x0 w x3 x4) (Rect.unit (s := S512x3072) ![0, 0] ![512, 3072] inb_S512x3072_S512x3072_0_0).toLoadRect (ix2 r k) : EReal)
      = (((hblk x0 w x3 x4 (ix2 r k)).toInt : ℝ) : EReal) := by
  have e : (Rect.unit (s := S512x3072) ![0, 0] ![512, 3072] inb_S512x3072_S512x3072_0_0).toLoadRect.idx (ix2 r k) = ix2 r k := by
    funext d
    match d with
    | 0 => exact Fin.ext ((congrArg (0 + ·) (Nat.one_mul _)).trans (Nat.zero_add _))
    | 1 => exact Fin.ext ((congrArg (0 + ·) (Nat.one_mul _)).trans (Nat.zero_add _))
  unfold View.readCov View.readAt
  rw [e]
  exact View.read_writes_apply_of_pieces v _ (fun y => ((((hblk x0 w x3 x4 y).toInt : ℝ) : EReal) : Elt Ideal .bf16)) _ (hbPieces_at x0 w x3 x4) _ (hbPieces_cover x0 w x3 x4 _)

/-- A load of the whole of a block reads the block. -/
theorem ld_whole {Val : EltTy → Type} {e' : EltTy} {N M : ℕ} (X : (⟨2, ![N, M]⟩ : Shape).Idx → Val e')
    (inb : ∀ a, (![0, 0] : Fin 2 → ℕ) a + (![N, M] : Fin 2 → ℕ) a ≤ (⟨2, ![N, M]⟩ : Shape).size a) :
    View.ld X (Rect.unit (s := ⟨2, ![N, M]⟩) ![0, 0] ![N, M] inb) = X := by
  funext x
  obtain ⟨r, j, rfl⟩ : ∃ (r : Fin N) (j : Fin M), x = ix2 r j := ⟨x 0, x 1, eq_ix2 x⟩
  rw [ld_cols X 0 inb (by omega)]
  congr 2
  exact Fin.ext (Nat.zero_add _)

/-- A load of one row of a table, at an index. -/
theorem ld_row {Val : EltTy → Type} {e' : EltTy} {N M : ℕ} (X : (⟨2, ![N, M]⟩ : Shape).Idx → Val e') (off : ℕ)
    (inb : ∀ a, (![off, 0] : Fin 2 → ℕ) a + (![1, M] : Fin 2 → ℕ) a ≤ (⟨2, ![N, M]⟩ : Shape).size a) (h : off < N) (j : Fin M) :
    View.ld X (Rect.unit (s := ⟨2, ![N, M]⟩) ![off, 0] ![1, M] inb) (ix2 0 j) = X (ix2 ⟨off, h⟩ j) :=
  View.ld_unit_apply_of X _ _ inb _ _ (by
    intro d
    match d with
    | 0 => rfl
    | 1 => exact (Nat.zero_add _).symm)

/-- The whole last store: the block's results. -/
theorem y_piece {sp : Space} (v : View sig .tc sp S512x3072 .bf16) (x0 : Vec Ideal S512x768 .i8) (w : S768x3072.Idx → Elt Ideal .bf16) (x3 : Vec Ideal S3x3072 .f32)
    (x4 : Vec Ideal S6x3072 .i32) (w2 : S3072x768.Idx → Elt Ideal .bf16) (x5 : Vec Ideal S4x768 .i32) (x : S512x768.Idx) :
    k0_pay1 (F := Ideal) (k0_pay126 (F := Ideal) (v.readCov (hbPieces x0 w x3 x4) (Rect.unit (s := S512x3072) ![0, 0] ![512, 3072] inb_S512x3072_S512x3072_0_0).toLoadRect) w2)
        (k0_pay127 (F := Ideal) (View.ld (Val := Elt Ideal) (e' := .i32) x5 (Rect.unit (s := S4x768) ![0, 0] ![1, 768] inb_S4x768_S1x768_0_0)))
        (k0_pay128 (F := Ideal) (View.ld (Val := Elt Ideal) (e' := .i32) x5 (Rect.unit (s := S4x768) ![1, 0] ![1, 768] inb_S4x768_S1x768_1_0)))
        (k0_pay129 (F := Ideal) (View.ld (Val := Elt Ideal) (e' := .i32) x5 (Rect.unit (s := S4x768) ![2, 0] ![1, 768] inb_S4x768_S1x768_2_0)))
        (k0_pay130 (F := Ideal) (View.ld (Val := Elt Ideal) (e' := .i32) x5 (Rect.unit (s := S4x768) ![3, 0] ![1, 768] inb_S4x768_S1x768_3_0))) x
      = yblk (hblk x0 w x3 x4) w2 x5 ((Rect.unit (s := S512x768) ![0, 0] ![512, 768] inb_S512x768_S512x768_0_0).emb x) := by
  obtain ⟨r, j, rfl⟩ : ∃ (r : Fin 512) (j : Fin 768), x = ix2 r j := ⟨x 0, x 1, eq_ix2 x⟩
  rw [emb_cols (N := 512) (M := 768) (n := 768) 0 inb_S512x768_S512x768_0_0 (by omega) r j, pay1_at, pay126_at]
  unfold yblk k0_pay127 k0_pay128 k0_pay129 k0_pay130
  simp only [shapeCast_self, hb_read]
  rw [ld_row (Val := Elt Ideal) (e' := .i32) (N := 4) (M := 768) x5 0 _ (by omega), ld_row (Val := Elt Ideal) (e' := .i32) (N := 4) (M := 768) x5 1 _ (by omega),
    ld_row (Val := Elt Ideal) (e' := .i32) (N := 4) (M := 768) x5 2 _ (by omega), ld_row (Val := Elt Ideal) (e' := .i32) (N := 4) (M := 768) x5 3 _ (by omega)]
  have e : (⟨0 + (j : ℕ), by omega⟩ : Fin 768) = j := Fin.ext (Nat.zero_add _)
  simp only [e]
  rfl

end Cert.KernelIdeal.Block
-- ==== Proof.Unpack.lean ====
module

public import proofs.«01_k».proof.Proof.Block
public import Idealize.ShloMosaic.Lib.Pipeline.ValueKit.Tiles

@[expose] public section

set_option Elab.async false
set_option maxRecDepth 200000

noncomputable section

namespace Cert.KernelIdeal.Block

open Cert.KernelIdeal Cert.KernelIdeal.Gen Idealize.ShloMosaic Idealize.ShloMosaic.TcCoe Idealize.ShloMosaic.Tactic Cert.Scalar

/-- The low nibble of a stored byte, as a signed integer. -/
def loN (b : BitVec 8) : BitVec 32 := IntOp.shrsi .vector (IntOp.shli .vector (BitVec.setWidth 32 b) 28#32) 28#32

/-- The high nibble of a stored byte, as a signed integer. -/
def hiN (b : BitVec 8) : BitVec 32 := IntOp.shrsi .vector (IntOp.shli .vector (BitVec.setWidth 32 b) 24#32) 28#32

/-- The first weight unpacked: low nibbles are the left half of the columns, high nibbles the right half. -/
def w1U (x : Vec Ideal S768x1536 .i8) (y : S768x3072.Idx) : EReal :=
  if h : (y 1 : ℕ) < 1536 then (((loN (x (ix2 (y 0) ⟨(y 1 : ℕ), h⟩))).toInt : ℝ) : EReal)
  else (((hiN (x (ix2 (y 0) ⟨(y 1 : ℕ) - 1536, by have h2 : (y 1 : ℕ) < 3072 := (y 1).isLt; omega⟩))).toInt : ℝ) : EReal)

/-- The second weight unpacked: low nibbles are the upper half of the rows, high nibbles the lower half. -/
def w2U (x : Vec Ideal S1536x768 .i8) (y : S3072x768.Idx) : EReal :=
  if h : (y 0 : ℕ) < 1536 then (((loN (x (ix2 ⟨(y 0 : ℕ), h⟩ (y 1)))).toInt : ℝ) : EReal)
  else (((hiN (x (ix2 ⟨(y 0 : ℕ) - 1536, by have h2 : (y 0 : ℕ) < 3072 := (y 0).isLt; omega⟩ (y 1)))).toInt : ℝ) : EReal)

theorem off1_eq : ∀ k : Fin k0_t1_loop.trips, k0_off1 k = ![128 * k.val, 0] := by decide
theorem off2_eq : ∀ k : Fin k0_t1_loop.trips, k0_off2 k = ![128 * k.val, 0] := by decide
theorem off3_eq : ∀ k : Fin k0_t1_loop.trips, k0_off3 k = ![128 * k.val, 1536] := by decide
theorem off4_eq : ∀ k : Fin k0_t2_loop.trips, k0_off4 k = ![128 * k.val, 0] := by decide
theorem off5_eq : ∀ k : Fin k0_t2_loop.trips, k0_off5 k = ![128 * k.val, 0] := by decide
theorem off6_eq : ∀ k : Fin k0_t2_loop.trips, k0_off6 k = ![1536 + 128 * k.val, 0] := by decide
theorem trips1 : k0_t1_loop.trips = 6 := by decide
theorem trips2 : k0_t2_loop.trips = 12 := by decide

/-- The place of a tile's element, from the tile's offsets. -/
theorem emb_tile {N M n m : ℕ} (off : Fin 2 → ℕ) (inb : ∀ a, off a + (![n, m] : Fin 2 → ℕ) a ≤ (⟨2, ![N, M]⟩ : Shape).size a) (a0 a1 : ℕ)
    (h0 : off = ![a0, a1]) (r : Fin n) (j : Fin m) (R : Fin N) (J : Fin M) (hR : (R : ℕ) = a0 + r) (hJ : (J : ℕ) = a1 + j) :
    (Rect.unit (s := ⟨2, ![N, M]⟩) off ![n, m] inb).emb (ix2 r j) = ix2 R J := by
  subst h0
  refine Rect.emb_eq_of_coords _ _ _ ?_
  intro d
  match d with
  | 0 => exact hR.trans (congrArg (a0 + ·) (Nat.one_mul _)).symm
  | 1 => exact hJ.trans (congrArg (a1 + ·) (Nat.one_mul _)).symm

/-- A tile's element, from the tile's offsets. -/
theorem ld_tile {Val : EltTy → Type} {e' : EltTy} {N M n m : ℕ} (X : (⟨2, ![N, M]⟩ : Shape).Idx → Val e') (off : Fin 2 → ℕ)
    (inb : ∀ a, off a + (![n, m] : Fin 2 → ℕ) a ≤ (⟨2, ![N, M]⟩ : Shape).size a) (a0 a1 : ℕ)
    (h0 : off = ![a0, a1]) (r : Fin n) (j : Fin m) (R : Fin N) (J : Fin M) (hR : (R : ℕ) = a0 + r) (hJ : (J : ℕ) = a1 + j) :
    View.ld X (Rect.unit (s := ⟨2, ![N, M]⟩) off ![n, m] inb) (ix2 r j) = X (ix2 R J) := by
  subst h0
  exact View.ld_unit_apply_of X _ _ inb _ _ (by
    intro d
    match d with
    | 0 => exact hR
    | 1 => exact hJ)

/-- A trip's store holds the unpacked weight's elements at their places. -/
theorem trip1_lo (x1 : Vec Ideal S768x1536 .i8) (k : Fin k0_t1_loop.trips) (inb : ∀ a, k0_off1 k a + S128x1536.size a ≤ S768x1536.size a)
    (inb' : ∀ a, k0_off2 k a + S128x1536.size a ≤ S768x3072.size a) (x : S128x1536.Idx) :
    k0_pay3 (F := Ideal) (View.ld (Val := Elt Ideal) (e' := .i8) x1 (Rect.unit (s := S768x1536) (k0_off1 k) S128x1536.size inb)) x
      = w1U x1 ((Rect.unit (s := S768x3072) (k0_off2 k) S128x1536.size inb').emb x) := by
  obtain ⟨r, j, rfl⟩ : ∃ (r : Fin 128) (j : Fin 1536), x = ix2 r j := ⟨x 0, x 1, eq_ix2 x⟩
  have hk : k.val < 6 := lt_of_lt_of_eq k.isLt trips1
  have hr := r.isLt
  have hj := j.isLt
  rw [pay3_at]
  have e1 := emb_tile (N := 768) (M := 3072) (n := 128) (m := 1536) (k0_off2 k) inb' (128 * k.val) 0 (off2_eq k) r j ⟨128 * k.val + r, by omega⟩ ⟨(j : ℕ), by omega⟩ rfl (by first | rfl | exact (Nat.zero_add _).symm)
  have e2 := ld_tile (Val := Elt Ideal) (e' := .i8) (N := 768) (M := 1536) (n := 128) (m := 1536) x1 (k0_off1 k) inb (128 * k.val) 0 (off1_eq k) r j ⟨128 * k.val + r, by omega⟩ j rfl (Nat.zero_add _).symm
  refine Eq.trans ?_ (congrArg (w1U x1) e1).symm
  refine (congrArg (fun b : BitVec 8 => ((((loN b).toInt : ℝ)) : EReal)) e2).trans ?_
  unfold w1U
  refine Eq.trans ?_ (dif_pos ?_).symm
  show (j : ℕ) < 1536
  omega
  rfl

/-- A trip's store holds the unpacked weight's elements at their places. -/
theorem trip1_hi (x1 : Vec Ideal S768x1536 .i8) (k : Fin k0_t1_loop.trips) (inb : ∀ a, k0_off1 k a + S128x1536.size a ≤ S768x1536.size a)
    (inb' : ∀ a, k0_off3 k a + S128x1536.size a ≤ S768x3072.size a) (x : S128x1536.Idx) :
    k0_pay4 (F := Ideal) (View.ld (Val := Elt Ideal) (e' := .i8) x1 (Rect.unit (s := S768x1536) (k0_off1 k) S128x1536.size inb)) x
      = w1U x1 ((Rect.unit (s := S768x3072) (k0_off3 k) S128x1536.size inb').emb x) := by
  obtain ⟨r, j, rfl⟩ : ∃ (r : Fin 128) (j : Fin 1536), x = ix2 r j := ⟨x 0, x 1, eq_ix2 x⟩
  have hk : k.val < 6 := lt_of_lt_of_eq k.isLt trips1
  have hr := r.isLt
  have hj := j.isLt
  rw [pay4_at]
  have e1 := emb_tile (N := 768) (M := 3072) (n := 128) (m := 1536) (k0_off3 k) inb' (128 * k.val) 1536 (off3_eq k) r j ⟨128 * k.val + r, by omega⟩ ⟨1536 + (j : ℕ), by omega⟩ rfl (by first | rfl | exact (Nat.zero_add _).symm)
  have e2 := ld_tile (Val := Elt Ideal) (e' := .i8) (N := 768) (M := 1536) (n := 128) (m := 1536) x1 (k0_off1 k) inb (128 * k.val) 0 (off1_eq k) r j ⟨128 * k.val + r, by omega⟩ j rfl (Nat.zero_add _).symm
  refine Eq.trans ?_ (congrArg (w1U x1) e1).symm
  refine (congrArg (fun b : BitVec 8 => ((((hiN b).toInt : ℝ)) : EReal)) e2).trans ?_
  unfold w1U
  refine Eq.trans ?_ (dif_neg ?_).symm
  · refine congrArg (fun b : BitVec 8 => ((((hiN b).toInt : ℝ)) : EReal)) (congrArg x1 ?_)
    refine congrArg (ix2 (_ : Fin 768)) (Fin.ext ?_)
    show (j : ℕ) = 1536 + (j : ℕ) - 1536
    omega
  · show ¬ (1536 + (j : ℕ) < 1536)
    omega

/-- A trip's store holds the unpacked weight's elements at their places. -/
theorem trip2_lo (x1 : Vec Ideal S1536x768 .i8) (k : Fin k0_t2_loop.trips) (inb : ∀ a, k0_off4 k a + S128x768.size a ≤ S1536x768.size a)
    (inb' : ∀ a, k0_off5 k a + S128x768.size a ≤ S3072x768.size a) (x : S128x768.Idx) :
    k0_pay6 (F := Ideal) (View.ld (Val := Elt Ideal) (e' := .i8) x1 (Rect.unit (s := S1536x768) (k0_off4 k) S128x768.size inb)) x
      = w2U x1 ((Rect.unit (s := S3072x768) (k0_off5 k) S128x768.size inb').emb x) := by
  obtain ⟨r, j, rfl⟩ : ∃ (r : Fin 128) (j : Fin 768), x = ix2 r j := ⟨x 0, x 1, eq_ix2 x⟩
  have hk : k.val < 12 := lt_of_lt_of_eq k.isLt trips2
  have hr := r.isLt
  have hj := j.isLt
  rw [pay6_at]
  have e1 := emb_tile (N := 3072) (M := 768) (n := 128) (m := 768) (k0_off5 k) inb' (128 * k.val) 0 (off5_eq k) r j ⟨128 * k.val + r, by omega⟩ j rfl (by first | rfl | exact (Nat.zero_add _).symm)
  have e2 := ld_tile (Val := Elt Ideal) (e' := .i8) (N := 1536) (M := 768) (n := 128) (m := 768) x1 (k0_off4 k) inb (128 * k.val) 0 (off4_eq k) r j ⟨128 * k.val + r, by omega⟩ j rfl (Nat.zero_add _).symm
  refine Eq.trans ?_ (congrArg (w2U x1) e1).symm
  refine (congrArg (fun b : BitVec 8 => ((((loN b).toInt : ℝ)) : EReal)) e2).trans ?_
  unfold w2U
  refine Eq.trans ?_ (dif_pos ?_).symm
  show (128 * k.val + r : ℕ) < 1536
  omega
  rfl

/-- A trip's store holds the unpacked weight's elements at their places. -/
theorem trip2_hi (x1 : Vec Ideal S1536x768 .i8) (k : Fin k0_t2_loop.trips) (inb : ∀ a, k0_off4 k a + S128x768.size a ≤ S1536x768.size a)
    (inb' : ∀ a, k0_off6 k a + S128x768.size a ≤ S3072x768.size a) (x : S128x768.Idx) :
    k0_pay7 (F := Ideal) (View.ld (Val := Elt Ideal) (e' := .i8) x1 (Rect.unit (s := S1536x768) (k0_off4 k) S128x768.size inb)) x
      = w2U x1 ((Rect.unit (s := S3072x768) (k0_off6 k) S128x768.size inb').emb x) := by
  obtain ⟨r, j, rfl⟩ : ∃ (r : Fin 128) (j : Fin 768), x = ix2 r j := ⟨x 0, x 1, eq_ix2 x⟩
  have hk : k.val < 12 := lt_of_lt_of_eq k.isLt trips2
  have hr := r.isLt
  have hj := j.isLt
  rw [pay7_at]
  have e1 := emb_tile (N := 3072) (M := 768) (n := 128) (m := 768) (k0_off6 k) inb' (1536 + 128 * k.val) 0 (off6_eq k) r j ⟨1536 + 128 * k.val + r, by omega⟩ j rfl (by first | rfl | exact (Nat.zero_add _).symm)
  have e2 := ld_tile (Val := Elt Ideal) (e' := .i8) (N := 1536) (M := 768) (n := 128) (m := 768) x1 (k0_off4 k) inb (128 * k.val) 0 (off4_eq k) r j ⟨128 * k.val + r, by omega⟩ j rfl (Nat.zero_add _).symm
  refine Eq.trans ?_ (congrArg (w2U x1) e1).symm
  refine (congrArg (fun b : BitVec 8 => ((((hiN b).toInt : ℝ)) : EReal)) e2).trans ?_
  unfold w2U
  refine Eq.trans ?_ (dif_neg ?_).symm
  · refine congrArg (fun b : BitVec 8 => ((((hiN b).toInt : ℝ)) : EReal)) (congrArg x1 ?_)
    refine congrArg (fun q : Fin 1536 => ix2 q j) (Fin.ext ?_)
    show 128 * k.val + r = 1536 + 128 * k.val + r - 1536
    omega
  · show ¬ (1536 + 128 * k.val + (r : ℕ) < 1536)
    omega

/-- Every store of the trips before one holds the unpacked weight's elements. -/
theorem pb1_at (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole)  (hc0 : cond0_0 i) (x1 : Vec Ideal S768x1536 .i8) :
    ∀ n, n ≤ k0_t1_loop.trips → ∀ p ∈ pb_k0_t1 (F := Ideal) Variants.none c none i arg1 harg1 arg2 harg2 arg3 harg3 arg4 harg4 arg5 harg5 arg6 harg6 arg7 harg7 arg8 harg8 arg9 harg9 arg10 harg10 arg11 harg11 hc0 (harg2.unread x1) n, ∀ x : p.1.shape.Idx, p.2 x = w1U x1 (p.1.emb x) := by
  intro n
  induction n with
  | zero =>
    intro _ p hp
    exact absurd hp List.not_mem_nil
  | succ n ih =>
    intro hn p hp
    have e := pb_k0_t1_succ (F := Ideal) Variants.none c none i arg1 harg1 arg2 harg2 arg3 harg3 arg4 harg4 arg5 harg5 arg6 harg6 arg7 harg7 arg8 harg8 arg9 harg9 arg10 harg10 arg11 harg11 hc0 (harg2.unread x1) ⟨n, hn⟩
    rw [e] at hp
    rcases List.mem_append.mp hp with hp | hp
    · revert p
      unfold tripL_k0_t1
      rw [trip_k0_t1]
      dsimp only
      sl_unfold_words
      simp only [View.readAt_eq_ld, Memref.IsWhole.read_unread]
      intro p _ hp
      simp only [List.mem_cons, List.not_mem_nil, or_false] at hp
      rcases hp with rfl | rfl
      · exact fun x => trip1_hi x1 ⟨n, hn⟩ (k0_off1_inb i ⟨n, hn⟩ hc0) (k0_off3_inb i ⟨n, hn⟩ hc0) x
      · exact fun x => trip1_lo x1 ⟨n, hn⟩ (k0_off1_inb i ⟨n, hn⟩ hc0) (k0_off2_inb i ⟨n, hn⟩ hc0) x
    · exact ih (Nat.le_of_succ_le hn) p hp

/-- Every store of the trips before one holds the unpacked weight's elements. -/
theorem pb2_at (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole)  (hc0 : cond0_0 i) (x2 : Vec Ideal S1536x768 .i8) :
    ∀ n, n ≤ k0_t2_loop.trips → ∀ p ∈ pb_k0_t2 (F := Ideal) Variants.none c none i arg1 harg1 arg2 harg2 arg3 harg3 arg4 harg4 arg5 harg5 arg6 harg6 arg7 harg7 arg8 harg8 arg9 harg9 arg10 harg10 arg11 harg11 hc0 (harg3.unread x2) n, ∀ x : p.1.shape.Idx, p.2 x = w2U x2 (p.1.emb x) := by
  intro n
  induction n with
  | zero =>
    intro _ p hp
    exact absurd hp List.not_mem_nil
  | succ n ih =>
    intro hn p hp
    have e := pb_k0_t2_succ (F := Ideal) Variants.none c none i arg1 harg1 arg2 harg2 arg3 harg3 arg4 harg4 arg5 harg5 arg6 harg6 arg7 harg7 arg8 harg8 arg9 harg9 arg10 harg10 arg11 harg11 hc0 (harg3.unread x2) ⟨n, hn⟩
    rw [e] at hp
    rcases List.mem_append.mp hp with hp | hp
    · revert p
      unfold tripL_k0_t2
      rw [trip_k0_t2]
      dsimp only
      sl_unfold_words
      simp only [View.readAt_eq_ld, Memref.IsWhole.read_unread]
      intro p _ hp
      simp only [List.mem_cons, List.not_mem_nil, or_false] at hp
      rcases hp with rfl | rfl
      · exact fun x => trip2_hi x2 ⟨n, hn⟩ (k0_off4_inb i ⟨n, hn⟩ hc0) (k0_off6_inb i ⟨n, hn⟩ hc0) x
      · exact fun x => trip2_lo x2 ⟨n, hn⟩ (k0_off4_inb i ⟨n, hn⟩ hc0) (k0_off5_inb i ⟨n, hn⟩ hc0) x
    · exact ih (Nat.le_of_succ_le hn) p hp

end Cert.KernelIdeal.Block
-- ==== Proof.BlockA.lean ====
module

public import proofs.«01_k».proof.Proof.Unpack
public import Idealize.ShloMosaic.Lib.Pipeline.ValueKit.Tiles

@[expose] public section

set_option Elab.async false
set_option maxRecDepth 200000

noncomputable section

namespace Cert.KernelIdeal.Block

open Cert.KernelIdeal Cert.KernelIdeal.Gen Idealize.ShloMosaic Idealize.ShloMosaic.TcCoe Idealize.ShloMosaic.Tactic Cert.Scalar

/-- The loop's stores fill the scratch. -/
theorem pb1_cover (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole) (hc0 : cond0_0 i)
    (x0 : Vec Ideal S512x768 .i8) (x1 : Vec Ideal S768x1536 .i8) (x2 : Vec Ideal S1536x768 .i8) (x3 : Vec Ideal S3x3072 .f32) (x4 : Vec Ideal S6x3072 .i32) (x5 : Vec Ideal S4x768 .i32)  :
    ∀ y, ∃ pc ∈ pb_k0_t1 (F := Ideal) Variants.none c none i arg1 harg1 arg2 harg2 arg3 harg3 arg4 harg4 arg5 harg5 arg6 harg6 arg7 harg7 arg8 harg8 arg9 harg9 arg10 harg10 arg11 harg11 hc0 (harg2.unread x1) (Scf.trips 0#32 (Scalar.addi 0#32 6#32) 1#32), y ∈ pc.1.set := by
  intro y
  have h := scover0_A_0 (F := Ideal) c i arg1 harg1 arg2 harg2 arg3 harg3 arg4 harg4 arg5 harg5 arg6 harg6 arg7 harg7 arg8 harg8 arg9 harg9 arg10 harg10 arg11 harg11 hc0 x0 x1 x2 x3 x4 x5 y
  unfold kernelRun0_A at h
  dsimp only at h
  exact h

/-- Reading the scratch after the loop reads the unpacked weight. -/
theorem pb1_read (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole) (hc0 : cond0_0 i)
    (x0 : Vec Ideal S512x768 .i8) (x1 : Vec Ideal S768x1536 .i8) (x2 : Vec Ideal S1536x768 .i8) (x3 : Vec Ideal S3x3072 .f32) (x4 : Vec Ideal S6x3072 .i32) (x5 : Vec Ideal S4x768 .i32)  (B : Rect S768x3072) :
    arg9.view.readCov (pb_k0_t1 (F := Ideal) Variants.none c none i arg1 harg1 arg2 harg2 arg3 harg3 arg4 harg4 arg5 harg5 arg6 harg6 arg7 harg7 arg8 harg8 arg9 harg9 arg10 harg10 arg11 harg11 hc0 (harg2.unread x1) (Scf.trips 0#32 (Scalar.addi 0#32 6#32) 1#32)) B.toLoadRect = View.ld (Val := Elt Ideal) (e' := .bf16) (w1U x1) B := by
  funext z
  exact View.read_writes_apply_of_pieces arg9.view _ (fun y => (w1U x1 y : Elt Ideal .bf16)) _
    (pb1_at c i arg1 harg1 arg2 harg2 arg3 harg3 arg4 harg4 arg5 harg5 arg6 harg6 arg7 harg7 arg8 harg8 arg9 harg9 arg10 harg10 arg11 harg11 hc0 x1 _ (le_of_eq (by decide))) _ (pb1_cover c i arg1 harg1 arg2 harg2 arg3 harg3 arg4 harg4 arg5 harg5 arg6 harg6 arg7 harg7 arg8 harg8 arg9 harg9 arg10 harg10 arg11 harg11 hc0 x0 x1 x2 x3 x4 x5 _)

/-- What the first grid point leaves in the scratch: the unpacked weight. -/
theorem sout1_eq (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole) (hc0 : cond0_0 i)
    (x0 : Vec Ideal S512x768 .i8) (x1 : Vec Ideal S768x1536 .i8) (x2 : Vec Ideal S1536x768 .i8) (x3 : Vec Ideal S3x3072 .f32) (x4 : Vec Ideal S6x3072 .i32) (x5 : Vec Ideal S4x768 .i32)  :
    sout0_A_0 (F := Ideal) c i arg1 harg1 arg2 harg2 arg3 harg3 arg4 harg4 arg5 harg5 arg6 harg6 arg7 harg7 arg8 harg8 arg9 harg9 arg10 harg10 arg11 harg11 hc0 x0 x1 x2 x3 x4 x5 = w1U x1 := by
  funext y
  unfold sout0_A_0
  refine View.read_writes_apply_of_pieces VS0_0 _ (fun y => (w1U x1 y : Elt Ideal .bf16)) _ ?_ y (scover0_A_0 c i arg1 harg1 arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  sl_unfold_words
  exact pb1_at c i arg1 harg1 arg2 harg2 arg3 harg3 arg4 harg4 arg5 harg5 arg6 harg6 arg7 harg7 arg8 harg8 arg9 harg9 arg10 harg10 arg11 harg11 hc0 x1 _ (le_of_eq (by decide))

/-- The loop's stores fill the scratch. -/
theorem pb2_cover (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole) (hc0 : cond0_0 i)
    (x0 : Vec Ideal S512x768 .i8) (x1 : Vec Ideal S768x1536 .i8) (x2 : Vec Ideal S1536x768 .i8) (x3 : Vec Ideal S3x3072 .f32) (x4 : Vec Ideal S6x3072 .i32) (x5 : Vec Ideal S4x768 .i32)  :
    ∀ y, ∃ pc ∈ pb_k0_t2 (F := Ideal) Variants.none c none i arg1 harg1 arg2 harg2 arg3 harg3 arg4 harg4 arg5 harg5 arg6 harg6 arg7 harg7 arg8 harg8 arg9 harg9 arg10 harg10 arg11 harg11 hc0 (harg3.unread x2) (Scf.trips 0#32 (Scalar.addi 0#32 12#32) 1#32), y ∈ pc.1.set := by
  intro y
  have h := scover0_A_1 (F := Ideal) c i arg1 harg1 arg2 harg2 arg3 harg3 arg4 harg4 arg5 harg5 arg6 harg6 arg7 harg7 arg8 harg8 arg9 harg9 arg10 harg10 arg11 harg11 hc0 x0 x1 x2 x3 x4 x5 y
  unfold kernelRun0_A at h
  dsimp only at h
  exact h

/-- Reading the scratch after the loop reads the unpacked weight. -/
theorem pb2_read (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole) (hc0 : cond0_0 i)
    (x0 : Vec Ideal S512x768 .i8) (x1 : Vec Ideal S768x1536 .i8) (x2 : Vec Ideal S1536x768 .i8) (x3 : Vec Ideal S3x3072 .f32) (x4 : Vec Ideal S6x3072 .i32) (x5 : Vec Ideal S4x768 .i32)  (B : Rect S3072x768) :
    arg10.view.readCov (pb_k0_t2 (F := Ideal) Variants.none c none i arg1 harg1 arg2 harg2 arg3 harg3 arg4 harg4 arg5 harg5 arg6 harg6 arg7 harg7 arg8 harg8 arg9 harg9 arg10 harg10 arg11 harg11 hc0 (harg3.unread x2) (Scf.trips 0#32 (Scalar.addi 0#32 12#32) 1#32)) B.toLoadRect = View.ld (Val := Elt Ideal) (e' := .bf16) (w2U x2) B := by
  funext z
  exact View.read_writes_apply_of_pieces arg10.view _ (fun y => (w2U x2 y : Elt Ideal .bf16)) _
    (pb2_at c i arg1 harg1 arg2 harg2 arg3 harg3 arg4 harg4 arg5 harg5 arg6 harg6 arg7 harg7 arg8 harg8 arg9 harg9 arg10 harg10 arg11 harg11 hc0 x2 _ (le_of_eq (by decide))) _ (pb2_cover c i arg1 harg1 arg2 harg2 arg3 harg3 arg4 harg4 arg5 harg5 arg6 harg6 arg7 harg7 arg8 harg8 arg9 harg9 arg10 harg10 arg11 harg11 hc0 x0 x1 x2 x3 x4 x5 _)

/-- What the first grid point leaves in the scratch: the unpacked weight. -/
theorem sout2_eq (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole) (hc0 : cond0_0 i)
    (x0 : Vec Ideal S512x768 .i8) (x1 : Vec Ideal S768x1536 .i8) (x2 : Vec Ideal S1536x768 .i8) (x3 : Vec Ideal S3x3072 .f32) (x4 : Vec Ideal S6x3072 .i32) (x5 : Vec Ideal S4x768 .i32)  :
    sout0_A_1 (F := Ideal) c i arg1 harg1 arg2 harg2 arg3 harg3 arg4 harg4 arg5 harg5 arg6 harg6 arg7 harg7 arg8 harg8 arg9 harg9 arg10 harg10 arg11 harg11 hc0 x0 x1 x2 x3 x4 x5 = w2U x2 := by
  funext y
  unfold sout0_A_1
  refine View.read_writes_apply_of_pieces VS0_1 _ (fun y => (w2U x2 y : Elt Ideal .bf16)) _ ?_ y (scover0_A_1 c i arg1 harg1 arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  sl_unfold_words
  exact pb2_at c i arg1 harg1 arg2 harg2 arg3 harg3 arg4 harg4 arg5 harg5 arg6 harg6 arg7 harg7 arg8 harg8 arg9 harg9 arg10 harg10 arg11 harg11 hc0 x2 _ (le_of_eq (by decide))

/-- The hidden codes the first grid point leaves: the block's, over the unpacked first weight. -/
theorem out0_A_7_eq (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole) (hc0 : cond0_0 i)
    (x0 : Vec Ideal S512x768 .i8) (x1 : Vec Ideal S768x1536 .i8) (x2 : Vec Ideal S1536x768 .i8) (x3 : Vec Ideal S3x3072 .f32) (x4 : Vec Ideal S6x3072 .i32) (x5 : Vec Ideal S4x768 .i32)  :
    out0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5 = hblk x0 (w1U x1) x3 x4 := by
  funext y
  unfold out0_A_7
  refine View.read_writes_apply_of_pieces VO0_7 _ (hblk x0 (w1U x1) x3 x4) _ ?_ y (cover0_A_7 c i arg1 harg1 arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  sl_unfold_words
  simp only [View.readAt_eq_ld, Memref.IsWhole.read_unread, pb1_read c i arg1 harg1 arg2 harg2 arg3 harg3 arg4 harg4 arg5 harg5 arg6 harg6 arg7 harg7 arg8 harg8 arg9 harg9 arg10 harg10 arg11 harg11 hc0 x0 x1 x2 x3 x4 x5, pb2_read c i arg1 harg1 arg2 harg2 arg3 harg3 arg4 harg4 arg5 harg5 arg6 harg6 arg7 harg7 arg8 harg8 arg9 harg9 arg10 harg10 arg11 harg11 hc0 x0 x1 x2 x3 x4 x5,
    ld_whole (Val := Elt Ideal) (e' := .i8) (N := 512) (M := 768), ld_whole (Val := Elt Ideal) (e' := .bf16) (N := 3072) (M := 768)]
  simp only [List.forall_mem_cons, List.not_mem_nil, false_imp_iff, implies_true, and_true]
  exact ⟨fun x => (congrFun (chunk_11 (F := Ideal) x0 _ _ _) x).trans (chunk_piece x0 (w1U x1) x3 x4 2816 (by norm_num) _ _ _ _ x), fun x => (congrFun (chunk_10 (F := Ideal) x0 _ _ _) x).trans (chunk_piece x0 (w1U x1) x3 x4 2560 (by norm_num) _ _ _ _ x), fun x => (congrFun (chunk_9 (F := Ideal) x0 _ _ _) x).trans (chunk_piece x0 (w1U x1) x3 x4 2304 (by norm_num) _ _ _ _ x), fun x => (congrFun (chunk_8 (F := Ideal) x0 _ _ _) x).trans (chunk_piece x0 (w1U x1) x3 x4 2048 (by norm_num) _ _ _ _ x), fun x => (congrFun (chunk_7 (F := Ideal) x0 _ _ _) x).trans (chunk_piece x0 (w1U x1) x3 x4 1792 (by norm_num) _ _ _ _ x), fun x => (congrFun (chunk_6 (F := Ideal) x0 _ _ _) x).trans (chunk_piece x0 (w1U x1) x3 x4 1536 (by norm_num) _ _ _ _ x), fun x => (congrFun (chunk_5 (F := Ideal) x0 _ _ _) x).trans (chunk_piece x0 (w1U x1) x3 x4 1280 (by norm_num) _ _ _ _ x), fun x => (congrFun (chunk_4 (F := Ideal) x0 _ _ _) x).trans (chunk_piece x0 (w1U x1) x3 x4 1024 (by norm_num) _ _ _ _ x), fun x => (congrFun (chunk_3 (F := Ideal) x0 _ _ _) x).trans (chunk_piece x0 (w1U x1) x3 x4 768 (by norm_num) _ _ _ _ x), fun x => (congrFun (chunk_2 (F := Ideal) x0 _ _ _) x).trans (chunk_piece x0 (w1U x1) x3 x4 512 (by norm_num) _ _ _ _ x), fun x => (congrFun (chunk_1 (F := Ideal) x0 _ _ _) x).trans (chunk_piece x0 (w1U x1) x3 x4 256 (by norm_num) _ _ _ _ x), fun x => (congrFun (chunk_0 (F := Ideal) x0 _ _ _) x).trans (chunk_piece x0 (w1U x1) x3 x4 0 (by norm_num) _ _ _ _ x)⟩

/-- The results the first grid point leaves: the block's, over the unpacked weights. -/
theorem out0_A_6_eq (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole) (hc0 : cond0_0 i)
    (x0 : Vec Ideal S512x768 .i8) (x1 : Vec Ideal S768x1536 .i8) (x2 : Vec Ideal S1536x768 .i8) (x3 : Vec Ideal S3x3072 .f32) (x4 : Vec Ideal S6x3072 .i32) (x5 : Vec Ideal S4x768 .i32)  :
    out0_A_6 (F := Ideal) c i arg1 harg1 arg2 harg2 arg3 harg3 arg4 harg4 arg5 harg5 arg6 harg6 arg7 harg7 arg8 harg8 arg9 harg9 arg10 harg10 arg11 harg11 hc0 x0 x1 x2 x3 x4 x5 = yblk (hblk x0 (w1U x1) x3 x4) (w2U x2) x5 := by
  funext y
  unfold out0_A_6
  refine View.read_writes_apply_of_pieces VO0_6 _ (yblk (hblk x0 (w1U x1) x3 x4) (w2U x2) x5) _ ?_ y (cover0_A_6 c i arg1 harg1 arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  sl_unfold_words
  simp only [View.readAt_eq_ld, Memref.IsWhole.read_unread, pb1_read c i arg1 harg1 arg2 harg2 arg3 harg3 arg4 harg4 arg5 harg5 arg6 harg6 arg7 harg7 arg8 harg8 arg9 harg9 arg10 harg10 arg11 harg11 hc0 x0 x1 x2 x3 x4 x5, pb2_read c i arg1 harg1 arg2 harg2 arg3 harg3 arg4 harg4 arg5 harg5 arg6 harg6 arg7 harg7 arg8 harg8 arg9 harg9 arg10 harg10 arg11 harg11 hc0 x0 x1 x2 x3 x4 x5,
    ld_whole (Val := Elt Ideal) (e' := .i8) (N := 512) (M := 768), ld_whole (Val := Elt Ideal) (e' := .bf16) (N := 3072) (M := 768)]
  simp only [List.forall_mem_cons, List.not_mem_nil, false_imp_iff, implies_true, and_true]
  intro x
  rw [chunkb_11 (F := Ideal), chunkb_10 (F := Ideal), chunkb_9 (F := Ideal), chunkb_8 (F := Ideal), chunkb_7 (F := Ideal), chunkb_6 (F := Ideal), chunkb_5 (F := Ideal), chunkb_4 (F := Ideal), chunkb_3 (F := Ideal), chunkb_2 (F := Ideal), chunkb_1 (F := Ideal), chunkb_0 (F := Ideal)]
  exact y_piece arg11.view x0 (w1U x1) x3 x4 (w2U x2) x5 x

end Cert.KernelIdeal.Block
-- ==== Proof.BlockB.lean ====
module

public import proofs.«01_k».proof.Proof.Block
public import Idealize.ShloMosaic.Lib.Pipeline.ValueKit.Tiles

@[expose] public section

set_option Elab.async false
set_option maxRecDepth 200000

noncomputable section

namespace Cert.KernelIdeal.Block

open Cert.KernelIdeal Cert.KernelIdeal.Gen Idealize.ShloMosaic Idealize.ShloMosaic.TcCoe Idealize.ShloMosaic.Tactic Cert.Scalar

/-- The hidden codes a later grid point leaves: the block's. -/
theorem out0_B_7_eq (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole) (hc0 : ¬cond0_0 i)
    (x0 : Vec Ideal S512x768 .i8) (x1 : Vec Ideal S768x1536 .i8) (x2 : Vec Ideal S1536x768 .i8) (x3 : Vec Ideal S3x3072 .f32) (x4 : Vec Ideal S6x3072 .i32) (x5 : Vec Ideal S4x768 .i32) (xs0 : Vec Ideal S768x3072 .bf16) (xs1 : Vec Ideal S3072x768 .bf16)  :
    out0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 xs0 xs1 = hblk x0 xs0 x3 x4 := by
  funext y
  unfold out0_B_7
  refine View.read_writes_apply_of_pieces VO0_7 _ (hblk x0 xs0 x3 x4) _ ?_ y (cover0_B_7 c i arg1 harg1 arg2 harg2 arg3 harg3 arg4 harg4 arg5 harg5 arg6 harg6 arg7 harg7 arg8 harg8 arg9 harg9 arg10 harg10 arg11 harg11 hc0 x0 x1 x2 x3 x4 x5 xs0 xs1 y)
  unfold kernelRun0_B
  dsimp only
  sl_unfold_words
  simp only [View.readAt_eq_ld, Memref.IsWhole.read_unread, ld_whole (Val := Elt Ideal) (e' := .i8) (N := 512) (M := 768),
    ld_whole (Val := Elt Ideal) (e' := .bf16) (N := 3072) (M := 768)]
  simp only [List.forall_mem_cons, List.not_mem_nil, false_imp_iff, implies_true, and_true]
  exact ⟨fun x => (congrFun (chunk_11 (F := Ideal) x0 _ _ _) x).trans (chunk_piece x0 xs0 x3 x4 2816 (by norm_num) _ _ _ _ x), fun x => (congrFun (chunk_10 (F := Ideal) x0 _ _ _) x).trans (chunk_piece x0 xs0 x3 x4 2560 (by norm_num) _ _ _ _ x), fun x => (congrFun (chunk_9 (F := Ideal) x0 _ _ _) x).trans (chunk_piece x0 xs0 x3 x4 2304 (by norm_num) _ _ _ _ x), fun x => (congrFun (chunk_8 (F := Ideal) x0 _ _ _) x).trans (chunk_piece x0 xs0 x3 x4 2048 (by norm_num) _ _ _ _ x), fun x => (congrFun (chunk_7 (F := Ideal) x0 _ _ _) x).trans (chunk_piece x0 xs0 x3 x4 1792 (by norm_num) _ _ _ _ x), fun x => (congrFun (chunk_6 (F := Ideal) x0 _ _ _) x).trans (chunk_piece x0 xs0 x3 x4 1536 (by norm_num) _ _ _ _ x), fun x => (congrFun (chunk_5 (F := Ideal) x0 _ _ _) x).trans (chunk_piece x0 xs0 x3 x4 1280 (by norm_num) _ _ _ _ x), fun x => (congrFun (chunk_4 (F := Ideal) x0 _ _ _) x).trans (chunk_piece x0 xs0 x3 x4 1024 (by norm_num) _ _ _ _ x), fun x => (congrFun (chunk_3 (F := Ideal) x0 _ _ _) x).trans (chunk_piece x0 xs0 x3 x4 768 (by norm_num) _ _ _ _ x), fun x => (congrFun (chunk_2 (F := Ideal) x0 _ _ _) x).trans (chunk_piece x0 xs0 x3 x4 512 (by norm_num) _ _ _ _ x), fun x => (congrFun (chunk_1 (F := Ideal) x0 _ _ _) x).trans (chunk_piece x0 xs0 x3 x4 256 (by norm_num) _ _ _ _ x), fun x => (congrFun (chunk_0 (F := Ideal) x0 _ _ _) x).trans (chunk_piece x0 xs0 x3 x4 0 (by norm_num) _ _ _ _ x)⟩

/-- The results a later grid point leaves: the block's. -/
theorem out0_B_6_eq (c : Dev nD) (i : grid0.Coords) (arg1 : Memref sig .tc .vmem S512x768 .i8) (harg1 : arg1.IsWhole) (arg2 : Memref sig .tc .vmem S768x1536 .i8) (harg2 : arg2.IsWhole) (arg3 : Memref sig .tc .vmem S1536x768 .i8) (harg3 : arg3.IsWhole) (arg4 : Memref sig .tc .vmem S3x3072 .f32) (harg4 : arg4.IsWhole) (arg5 : Memref sig .tc .vmem S6x3072 .i32) (harg5 : arg5.IsWhole) (arg6 : Memref sig .tc .vmem S4x768 .i32) (harg6 : arg6.IsWhole) (arg7 : Memref sig .tc .vmem S512x768 .i8) (harg7 : arg7.IsWhole) (arg8 : Memref sig .tc .vmem S512x3072 .i8) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S512x3072 .bf16) (harg11 : arg11.IsWhole) (hc0 : ¬cond0_0 i)
    (x0 : Vec Ideal S512x768 .i8) (x1 : Vec Ideal S768x1536 .i8) (x2 : Vec Ideal S1536x768 .i8) (x3 : Vec Ideal S3x3072 .f32) (x4 : Vec Ideal S6x3072 .i32) (x5 : Vec Ideal S4x768 .i32) (xs0 : Vec Ideal S768x3072 .bf16) (xs1 : Vec Ideal S3072x768 .bf16)  :
    out0_B_6 (F := Ideal) c i arg1 harg1 arg2 harg2 arg3 harg3 arg4 harg4 arg5 harg5 arg6 harg6 arg7 harg7 arg8 harg8 arg9 harg9 arg10 harg10 arg11 harg11 hc0 x0 x1 x2 x3 x4 x5 xs0 xs1 = yblk (hblk x0 xs0 x3 x4) xs1 x5 := by
  funext y
  unfold out0_B_6
  refine View.read_writes_apply_of_pieces VO0_6 _ (yblk (hblk x0 xs0 x3 x4) xs1 x5) _ ?_ y (cover0_B_6 c i arg1 harg1 arg2 harg2 arg3 harg3 arg4 harg4 arg5 harg5 arg6 harg6 arg7 harg7 arg8 harg8 arg9 harg9 arg10 harg10 arg11 harg11 hc0 x0 x1 x2 x3 x4 x5 xs0 xs1 y)
  unfold kernelRun0_B
  dsimp only
  sl_unfold_words
  simp only [View.readAt_eq_ld, Memref.IsWhole.read_unread, ld_whole (Val := Elt Ideal) (e' := .i8) (N := 512) (M := 768),
    ld_whole (Val := Elt Ideal) (e' := .bf16) (N := 3072) (M := 768)]
  simp only [List.forall_mem_cons, List.not_mem_nil, false_imp_iff, implies_true, and_true]
  intro x
  rw [chunkb_11 (F := Ideal), chunkb_10 (F := Ideal), chunkb_9 (F := Ideal), chunkb_8 (F := Ideal), chunkb_7 (F := Ideal), chunkb_6 (F := Ideal), chunkb_5 (F := Ideal), chunkb_4 (F := Ideal), chunkb_3 (F := Ideal), chunkb_2 (F := Ideal), chunkb_1 (F := Ideal), chunkb_0 (F := Ideal)]
  exact y_piece arg11.view x0 xs0 x3 x4 xs1 x5 x

end Cert.KernelIdeal.Block
-- ==== Proof.Arr.lean ====
module

public import proofs.«01_k».proof.Proof.BlockA
public import proofs.«01_k».proof.Proof.BlockB
public import Idealize.ShloMosaic.Lib.Pipeline.ValueKit

@[expose] public section

set_option Elab.async false
set_option maxRecDepth 16384

noncomputable section

namespace Cert.KernelIdeal.Block

open Cert.KernelIdeal Cert.KernelIdeal.Gen Cert.KernelIdeal.Value Idealize.ShloMosaic Idealize.ShloMosaic.TcCoe Idealize.ShloMosaic.Tactic Cert.Scalar

variable (m : ∀ l : Loc nD τ sig, Buf (Elt Ideal) l)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- A block of rows, at an index. -/
theorem iblk0_at (c : Dev nD) (t : Fin cfg0.N) (r : Fin 512) (k : Fin 768) (R : Fin 16384) (hR : (R : ℕ) = t.val * 512 + r) :
    iblk m c 0 t (ix2 r k) = V m c (Pipeline.arrRef spec0 0) (ix2 R k) := by
  obtain ⟨e0, e1⟩ := idx0 t
  refine congrArg (V m c (Pipeline.arrRef spec0 0)) ?_
  funext a
  apply Fin.ext
  match a with
  | ⟨0, _⟩ =>
    show win0_0.index t (0 : Fin 2) * 512 + 1 * (r : ℕ) = R
    rw [e0, hR]; omega
  | ⟨1, _⟩ =>
    show win0_0.index t (1 : Fin 2) * 768 + 1 * (k : ℕ) = k
    rw [e1]; omega

/-- A window over the whole of its array reads the array. -/
theorem iblk1_eq (c : Dev nD) (t : Fin cfg0.N) : iblk m c 1 t = V m c (Pipeline.arrRef spec0 1) := by
  obtain ⟨e0, e1⟩ := idx1 t
  funext y
  refine congrArg (V m c (Pipeline.arrRef spec0 1)) ?_
  funext a
  apply Fin.ext
  match a with
  | ⟨0, _⟩ =>
    show win0_1.index t (0 : Fin 2) * 768 + 1 * (y 0 : ℕ) = y 0
    rw [e0]; omega
  | ⟨1, _⟩ =>
    show win0_1.index t (1 : Fin 2) * 1536 + 1 * (y 1 : ℕ) = y 1
    rw [e1]; omega

/-- A window over the whole of its array reads the array. -/
theorem iblk2_eq (c : Dev nD) (t : Fin cfg0.N) : iblk m c 2 t = V m c (Pipeline.arrRef spec0 2) := by
  obtain ⟨e0, e1⟩ := idx2 t
  funext y
  refine congrArg (V m c (Pipeline.arrRef spec0 2)) ?_
  funext a
  apply Fin.ext
  match a with
  | ⟨0, _⟩ =>
    show win0_2.index t (0 : Fin 2) * 1536 + 1 * (y 0 : ℕ) = y 0
    rw [e0]; omega
  | ⟨1, _⟩ =>
    show win0_2.index t (1 : Fin 2) * 768 + 1 * (y 1 : ℕ) = y 1
    rw [e1]; omega

/-- A window over the whole of its array reads the array. -/
theorem iblk3_eq (c : Dev nD) (t : Fin cfg0.N) : iblk m c 3 t = V m c (Pipeline.arrRef spec0 3) := by
  obtain ⟨e0, e1⟩ := idx3 t
  funext y
  refine congrArg (V m c (Pipeline.arrRef spec0 3)) ?_
  funext a
  apply Fin.ext
  match a with
  | ⟨0, _⟩ =>
    show win0_3.index t (0 : Fin 2) * 3 + 1 * (y 0 : ℕ) = y 0
    rw [e0]; omega
  | ⟨1, _⟩ =>
    show win0_3.index t (1 : Fin 2) * 3072 + 1 * (y 1 : ℕ) = y 1
    rw [e1]; omega

/-- A window over the whole of its array reads the array. -/
theorem iblk4_eq (c : Dev nD) (t : Fin cfg0.N) : iblk m c 4 t = V m c (Pipeline.arrRef spec0 4) := by
  obtain ⟨e0, e1⟩ := idx4 t
  funext y
  refine congrArg (V m c (Pipeline.arrRef spec0 4)) ?_
  funext a
  apply Fin.ext
  match a with
  | ⟨0, _⟩ =>
    show win0_4.index t (0 : Fin 2) * 6 + 1 * (y 0 : ℕ) = y 0
    rw [e0]; omega
  | ⟨1, _⟩ =>
    show win0_4.index t (1 : Fin 2) * 3072 + 1 * (y 1 : ℕ) = y 1
    rw [e1]; omega

/-- A window over the whole of its array reads the array. -/
theorem iblk5_eq (c : Dev nD) (t : Fin cfg0.N) : iblk m c 5 t = V m c (Pipeline.arrRef spec0 5) := by
  obtain ⟨e0, e1⟩ := idx5 t
  funext y
  refine congrArg (V m c (Pipeline.arrRef spec0 5)) ?_
  funext a
  apply Fin.ext
  match a with
  | ⟨0, _⟩ =>
    show win0_5.index t (0 : Fin 2) * 4 + 1 * (y 0 : ℕ) = y 0
    rw [e0]; omega
  | ⟨1, _⟩ =>
    show win0_5.index t (1 : Fin 2) * 768 + 1 * (y 1 : ℕ) = y 1
    rw [e1]; omega

/-- What the four buffers hold after a grid point. -/
def stG (c : Dev nD) (t : Fin cfg0.N) : Vec Ideal S512x768 .i8 × Vec Ideal S512x3072 .i8 × Vec Ideal S768x3072 .bf16 × Vec Ideal S3072x768 .bf16 :=
  (yblk (hblk (iblk m c 0 t) (w1U (V m c (Pipeline.arrRef spec0 1))) (V m c (Pipeline.arrRef spec0 3)) (V m c (Pipeline.arrRef spec0 4))) (w2U (V m c (Pipeline.arrRef spec0 2))) (V m c (Pipeline.arrRef spec0 5)),
    hblk (iblk m c 0 t) (w1U (V m c (Pipeline.arrRef spec0 1))) (V m c (Pipeline.arrRef spec0 3)) (V m c (Pipeline.arrRef spec0 4)),
    w1U (V m c (Pipeline.arrRef spec0 1)), w2U (V m c (Pipeline.arrRef spec0 2)))

/-- The first grid point leaves this. -/
theorem stAt_first (c : Dev nD) (t : Fin cfg0.N) (acc) (h0 : t.val % 32 = 0) : stAt0 m c t.val t.isLt acc = stG m c t := by
  rw [stAt0_A m c t acc h0, out0_A_6_eq, out0_A_7_eq, sout1_eq, sout2_eq, iblk1_eq, iblk2_eq, iblk3_eq, iblk4_eq, iblk5_eq]
  rfl

/-- A later grid point leaves this, the scratch holding the unpacked weights. -/
theorem stAt_later (c : Dev nD) (t : Fin cfg0.N) (y h) (h0 : ¬t.val % 32 = 0) :
    stAt0 m c t.val t.isLt (y, h, w1U (V m c (Pipeline.arrRef spec0 1)), w2U (V m c (Pipeline.arrRef spec0 2))) = stG m c t := by
  rw [stAt0_B m c t _ h0, out0_B_6_eq, out0_B_7_eq, iblk3_eq, iblk4_eq, iblk5_eq]
  rfl

/-- The fold over the grid is that at every point. -/
theorem acc_eq (c : Dev nD) : ∀ (n : ℕ) (hn : 0 + n < cfg0.N),
    Pipeline.accAt (fun n h => stAt0 m c n h junk0) (stAt0 m c) 0 n hn = stG m c ⟨n, by omega⟩ := by
  intro n
  induction n with
  | zero => exact fun hn => stAt_first m c ⟨0, hn⟩ _ rfl
  | succ n ih =>
    intro hn
    have hN := lt_of_lt_of_eq hn (show cfg0.N = 32 from N_0)
    rw [Pipeline.accAt_succ, ih (by omega)]
    have e : 0 + (n + 1) = n + 1 := Nat.zero_add _
    have h0 : ¬(⟨n + 1, by omega⟩ : Fin cfg0.N).val % 32 = 0 := by
      show ¬(n + 1) % 32 = 0
      omega
    have k := stAt_later m c ⟨n + 1, by omega⟩ (stG m c ⟨n, by omega⟩).1 (stG m c ⟨n, by omega⟩).2.1 h0
    refine Eq.trans ?_ k
    congr 1

/-- The hidden code at a row and a column of the whole array. -/
def hval (c : Dev nD) (R : Fin 16384) (j : Fin 3072) : BitVec 8 :=
  let x : S16384x768.Idx → BitVec 8 := V m c (Pipeline.arrRef spec0 0)
  let pf : S3x3072.Idx → EReal := V m c (Pipeline.arrRef spec0 3)
  let pi : S6x3072.Idx → BitVec 32 := V m c (Pipeline.arrRef spec0 4)
  hcode ((∑ k : Fin 768, (((x (ix2 R k)).toInt : ℝ) : EReal) * w1U (V m c (Pipeline.arrRef spec0 1)) (ix2 k j)) + pf (ix2 0 j))
    (pf (ix2 1 j)) (pf (ix2 2 j)) (pi (ix2 0 j)) (pi (ix2 1 j)) (pi (ix2 2 j)) (pi (ix2 3 j)) (pi (ix2 4 j)) (pi (ix2 5 j))

/-- The result at a row and a column of the whole array. -/
def yval (c : Dev nD) (R : Fin 16384) (j : Fin 768) : BitVec 8 :=
  let p : S4x768.Idx → BitVec 32 := V m c (Pipeline.arrRef spec0 5)
  ycode (∑ k : Fin 3072, (((hval m c R k).toInt : ℝ) : EReal) * w2U (V m c (Pipeline.arrRef spec0 2)) (ix2 k j))
    (p (ix2 0 j)) (p (ix2 1 j)) (p (ix2 2 j)) (p (ix2 3 j))

/-- A block's codes are the array's. -/
theorem hblk_at (c : Dev nD) (t : Fin cfg0.N) (r : Fin 512) (j : Fin 3072) (R : Fin 16384) (hR : (R : ℕ) = t.val * 512 + r) :
    hblk (iblk m c 0 t) (w1U (V m c (Pipeline.arrRef spec0 1))) (V m c (Pipeline.arrRef spec0 3)) (V m c (Pipeline.arrRef spec0 4)) (ix2 r j)
      = hval m c R j := by
  unfold hblk hval
  have e : ∀ k : Fin 768, iblk m c 0 t (ix2 r k) = V m c (Pipeline.arrRef spec0 0) (ix2 R k) := fun k => iblk0_at m c t r k R hR
  have s : (∑ k : Fin 768, (((show BitVec 8 from iblk m c 0 t (ix2 r k)).toInt : ℝ) : EReal) * w1U (V m c (Pipeline.arrRef spec0 1)) (ix2 k j))
      = ∑ k : Fin 768, (((show BitVec 8 from V m c (Pipeline.arrRef spec0 0) (ix2 R k)).toInt : ℝ) : EReal) * w1U (V m c (Pipeline.arrRef spec0 1)) (ix2 k j) :=
    Finset.sum_congr rfl fun k _ => congrArg (fun b : BitVec 8 => ((b.toInt : ℝ) : EReal) * w1U (V m c (Pipeline.arrRef spec0 1)) (ix2 k j)) (e k)
  exact congrArg (fun q : EReal => hcode (q + (show S3x3072.Idx → EReal from V m c (Pipeline.arrRef spec0 3)) (ix2 0 j)) _ _ _ _ _ _ _ _) s

/-- A block's result, from its row of hidden codes. -/
theorem yblk_row (hb : S512x3072.Idx → BitVec 8) (w : S3072x768.Idx → EReal) (x5 : Vec Ideal S4x768 .i32) (r : Fin 512) (j : Fin 768)
    (hv : Fin 3072 → BitVec 8) (h : ∀ k, hb (ix2 r k) = hv k) :
    yblk hb w x5 (ix2 r j) = ycode (∑ k : Fin 3072, (((hv k).toInt : ℝ) : EReal) * w (ix2 k j)) (x5 (ix2 0 j)) (x5 (ix2 1 j)) (x5 (ix2 2 j)) (x5 (ix2 3 j)) := by
  obtain rfl : (fun k => hb (ix2 r k)) = hv := funext h
  rfl

/-- The hidden output array. -/
theorem G7_at (c : Dev nD) (R : Fin 16384) (j : Fin 3072) : G7 m c (ix2 R j) = hval m c R j := by
  have hp : pt7Of (ix2 R j) = R.val / 512 := by
    show 1 * (R.val / 512 - 0) + 1 * (j.val / 3072 - 0) = _
    omega
  have hN : cfg0.N = 32 := N_0
  unfold G7
  rw [dif_pos (by rw [hp, hN]; omega), acc_eq m c _ (by rw [hp, hN]; omega)]
  have hl : loc7Of (ix2 R j) = ix2 ⟨R.val % 512, Nat.mod_lt _ (by decide)⟩ j := by
    funext a
    apply Fin.ext
    match a with
    | ⟨0, _⟩ => rfl
    | ⟨1, _⟩ => exact Nat.mod_eq_of_lt j.isLt
  rw [hl]
  exact hblk_at m c _ _ j R (by show R.val = pt7Of (ix2 R j) * 512 + R.val % 512; rw [hp]; omega)

/-- The result output array. -/
theorem G6_at (c : Dev nD) (R : Fin 16384) (j : Fin 768) : G6 m c (ix2 R j) = yval m c R j := by
  have hp : pt6Of (ix2 R j) = R.val / 512 := by
    show 1 * (R.val / 512 - 0) + 1 * (j.val / 768 - 0) = _
    omega
  have hN : cfg0.N = 32 := N_0
  unfold G6
  rw [dif_pos (by rw [hp, hN]; omega), acc_eq m c _ (by rw [hp, hN]; omega)]
  have hl : loc6Of (ix2 R j) = ix2 ⟨R.val % 512, Nat.mod_lt _ (by decide)⟩ j := by
    funext a
    apply Fin.ext
    match a with
    | ⟨0, _⟩ => rfl
    | ⟨1, _⟩ => exact Nat.mod_eq_of_lt j.isLt
  rw [hl]
  have s : ∀ k : Fin 3072, hblk (iblk m c 0 ⟨pt6Of (ix2 R j), by rw [hp, hN]; omega⟩) (w1U (V m c (Pipeline.arrRef spec0 1))) (V m c (Pipeline.arrRef spec0 3)) (V m c (Pipeline.arrRef spec0 4)) (ix2 ⟨R.val % 512, Nat.mod_lt _ (by decide)⟩ k)
      = hval m c R k := fun k => hblk_at m c _ _ k R (by show R.val = pt6Of (ix2 R j) * 512 + R.val % 512; rw [hp]; omega)
  exact yblk_row _ _ _ _ j _ s

end Cert.KernelIdeal.Block
-- ==== Proof.KHost.lean ====
module

public import proofs.«01_k».proof.Proof.Gen.KernelIdeal.Frame.Runs
public import Idealize.ShloMosaic.Lib.StableHlo.RunRead

@[expose] public section

set_option Elab.async false
set_option maxRecDepth 16384

noncomputable section

namespace Cert.KernelIdeal.Host

open Cert.KernelIdeal Cert.KernelIdeal.Gen Idealize.ShloMosaic Idealize.ShloMosaic.TcCoe Idealize.ShloMosaic.StableHlo

variable {F : FTy → Type} [FloatOps F]

/-! The kernel's host parameters: each named vector as a term of the arguments' contents, and the host line read back to
them, window by window. -/

/-- The vector `main_v1`. -/
def k_v1 (V0 : Valuation τ sig (Elt F)) : (⟨S3072, .f32⟩ : BufTy).Contents (Elt F) :=
  (mulf (broadcastInDim S3072 ![] bcast_S_S3072 (V0 (Proc.devRef .tc main_arg1))) (V0 (Proc.devRef .tc main_arg3)))

/-- The vector `main_v3`. -/
def k_v3 (V0 : Valuation τ sig (Elt F)) : (⟨S3072, .f32⟩ : BufTy).Contents (Elt F) :=
  (Host.divf (k_v1 V0) (broadcastInDim S3072 ![] bcast_S_S3072 (constant S_ .f32 0x3FB50481#32)))

/-- The vector `main_v21`. -/
def k_v21 (V0 : Valuation τ sig (Elt F)) : (⟨S3072, .i32⟩ : BufTy).Contents (Elt F) :=
  (subi ((fun x v => Host.reduce IntOp.addi x v reducesTo_S3072x253_S3072_d1 h_S_) ((fun x => (extui 32 x natLt_1_32)) (cmpf .oge (broadcastInDim S3072x253 ![0, 1] bcast_S3072x1_S3072x253_0_1 (broadcastInDim S3072x1 ![0] bcast_S3072_S3072x1_0 (Host.absf (k_v3 V0)))) (broadcastInDim S3072x253 ![0, 1] bcast_S1x253_S3072x253_0_1 (broadcastInDim S1x253 ![1] bcast_S253_S1x253_1 (bitcastToFloat .f32 (Host.shli (addi (subi (iotaInDim S253 32 0) (broadcastInDim S253 ![] bcast_S_S253 (constantI S_ 32 126#32))) (broadcastInDim S253 ![] bcast_S_S253 (constantI S_ 32 127#32))) (broadcastInDim S253 ![] bcast_S_S253 (constantI S_ 32 23#32)))))))) (constantI S_ 32 0#32)) (broadcastInDim S3072 ![] bcast_S_S3072 (constantI S_ 32 126#32)))

/-- The vector `main_v30`. -/
def k_v30 (V0 : Valuation τ sig (Elt F)) : (⟨S3072, .i32⟩ : BufTy).Contents (Elt F) :=
  (subi (broadcastInDim S3072 ![] bcast_S_S3072 (constantI S_ 32 4294967288#32)) (k_v21 V0))

/-- The vector `main_v36`. -/
def k_v36 (V0 : Valuation τ sig (Elt F)) : (⟨S3072, .f32⟩ : BufTy).Contents (Elt F) :=
  (mulf (k_v3 V0) (bitcastToFloat .f32 (Host.shli (addi (k_v30 V0) (broadcastInDim S3072 ![] bcast_S_S3072 (constantI S_ 32 127#32))) (broadcastInDim S3072 ![] bcast_S_S3072 (constantI S_ 32 23#32)))))

/-- The vector `main_v40`. -/
def k_v40 (V0 : Valuation τ sig (Elt F)) : (⟨S3072, .i32⟩ : BufTy).Contents (Elt F) :=
  (fptosi 32 (Host.floor (Host.divf (broadcastInDim S3072 ![] bcast_S_S3072 (constant S_ .f32 0xBFE26E98#32)) (k_v36 V0))))

/-- The vector `main_v45`. -/
def k_v45 (V0 : Valuation τ sig (Elt F)) : (⟨S3072, .i32⟩ : BufTy).Contents (Elt F) :=
  (fptosi 32 (Host.floor (Host.divf (broadcastInDim S3072 ![] bcast_S_S3072 (constant S_ .f32 0xC05D9B4D#32)) (mulf (k_v36 V0) (k_v36 V0)))))

/-- The vector `main_v48`. -/
def k_v48 (V0 : Valuation τ sig (Elt F)) : (⟨S3072, .f32⟩ : BufTy).Contents (Elt F) :=
  (mulf (mulf (k_v36 V0) (k_v36 V0)) (broadcastInDim S3072 ![] bcast_S_S3072 (constant S_ .f32 0xBE93DD98#32)))

/-- The vector `main_v66`. -/
def k_v66 (V0 : Valuation τ sig (Elt F)) : (⟨S3072, .i32⟩ : BufTy).Contents (Elt F) :=
  (subi ((fun x v => Host.reduce IntOp.addi x v reducesTo_S3072x253_S3072_d1 h_S_) ((fun x => (extui 32 x natLt_1_32)) (cmpf .oge (broadcastInDim S3072x253 ![0, 1] bcast_S3072x1_S3072x253_0_1 (broadcastInDim S3072x1 ![0] bcast_S3072_S3072x1_0 (Host.absf (k_v48 V0)))) (broadcastInDim S3072x253 ![0, 1] bcast_S1x253_S3072x253_0_1 (broadcastInDim S1x253 ![1] bcast_S253_S1x253_1 (bitcastToFloat .f32 (Host.shli (addi (subi (iotaInDim S253 32 0) (broadcastInDim S253 ![] bcast_S_S253 (constantI S_ 32 126#32))) (broadcastInDim S253 ![] bcast_S_S253 (constantI S_ 32 127#32))) (broadcastInDim S253 ![] bcast_S_S253 (constantI S_ 32 23#32)))))))) (constantI S_ 32 0#32)) (broadcastInDim S3072 ![] bcast_S_S3072 (constantI S_ 32 126#32)))

/-- The vector `main_v75`. -/
def k_v75 (V0 : Valuation τ sig (Elt F)) : (⟨S3072, .i32⟩ : BufTy).Contents (Elt F) :=
  (subi (broadcastInDim S3072 ![] bcast_S_S3072 (constantI S_ 32 4294967287#32)) (k_v66 V0))

/-- The vector `main_v81`. -/
def k_v81 (V0 : Valuation τ sig (Elt F)) : (⟨S3072, .f32⟩ : BufTy).Contents (Elt F) :=
  (mulf (k_v48 V0) (bitcastToFloat .f32 (Host.shli (addi (k_v75 V0) (broadcastInDim S3072 ![] bcast_S_S3072 (constantI S_ 32 127#32))) (broadcastInDim S3072 ![] bcast_S_S3072 (constantI S_ 32 23#32)))))

/-- The vector `main_v85`. -/
def k_v85 (V0 : Valuation τ sig (Elt F)) : (⟨S3072, .i32⟩ : BufTy).Contents (Elt F) :=
  (fptosi 32 (Host.floor (Host.divf (broadcastInDim S3072 ![] bcast_S_S3072 (constant S_ .f32 0x3F800000#32)) (k_v81 V0))))

/-- The vector `main_v90`. -/
def k_v90 (V0 : Valuation τ sig (Elt F)) : (⟨S3072, .f32⟩ : BufTy).Contents (Elt F) :=
  (Host.divf (mulf (mulf (k_v1 V0) (k_v81 V0)) (broadcastInDim S3072 ![] bcast_S_S3072 (constant S_ .f32 0x3F000000#32))) (broadcastInDim S3072 ![] bcast_S_S3072 (V0 (Proc.devRef .tc main_arg5))))

/-- The vector `main_v108`. -/
def k_v108 (V0 : Valuation τ sig (Elt F)) : (⟨S3072, .i32⟩ : BufTy).Contents (Elt F) :=
  (subi ((fun x v => Host.reduce IntOp.addi x v reducesTo_S3072x253_S3072_d1 h_S_) ((fun x => (extui 32 x natLt_1_32)) (cmpf .oge (broadcastInDim S3072x253 ![0, 1] bcast_S3072x1_S3072x253_0_1 (broadcastInDim S3072x1 ![0] bcast_S3072_S3072x1_0 (Host.absf (k_v90 V0)))) (broadcastInDim S3072x253 ![0, 1] bcast_S1x253_S3072x253_0_1 (broadcastInDim S1x253 ![1] bcast_S253_S1x253_1 (bitcastToFloat .f32 (Host.shli (addi (subi (iotaInDim S253 32 0) (broadcastInDim S253 ![] bcast_S_S253 (constantI S_ 32 126#32))) (broadcastInDim S253 ![] bcast_S_S253 (constantI S_ 32 127#32))) (broadcastInDim S253 ![] bcast_S_S253 (constantI S_ 32 23#32)))))))) (constantI S_ 32 0#32)) (broadcastInDim S3072 ![] bcast_S_S3072 (constantI S_ 32 126#32)))

/-- The vector `main_v119`. -/
def k_v119 (V0 : Valuation τ sig (Elt F)) : (⟨S3072, .i32⟩ : BufTy).Contents (Elt F) :=
  (fptosi 32 (Host.roundeven (mulf (mulf (k_v90 V0) (bitcastToFloat .f32 (Host.shli (addi (negi (k_v108 V0)) (broadcastInDim S3072 ![] bcast_S_S3072 (constantI S_ 32 127#32))) (broadcastInDim S3072 ![] bcast_S_S3072 (constantI S_ 32 23#32))))) (broadcastInDim S3072 ![] bcast_S_S3072 (constant S_ .f32 0x46800000#32)))))

/-- The vector `main_v121`. -/
def k_v121 (V0 : Valuation τ sig (Elt F)) : (⟨S3072, .i32⟩ : BufTy).Contents (Elt F) :=
  (subi (broadcastInDim S3072 ![] bcast_S_S3072 (constantI S_ 32 0#32)) (k_v108 V0))

/-- The vector `main_v125`. -/
def k_v125 (V0 : Valuation τ sig (Elt F)) : (⟨S3072, .i32⟩ : BufTy).Contents (Elt F) :=
  (Host.shli (broadcastInDim S3072 ![] bcast_S_S3072 (constantI S_ 32 1#32)) (subi (k_v121 V0) (broadcastInDim S3072 ![] bcast_S_S3072 (constantI S_ 32 1#32))))

/-- The vector `main_v133`. -/
def k_v133 (V0 : Valuation τ sig (Elt F)) : (⟨S3072, .f32⟩ : BufTy).Contents (Elt F) :=
  (mulf (broadcastInDim S3072 ![] bcast_S_S3072 (constant S_ .f32 0x3F800000#32)) (bitcastToFloat .f32 (Host.shli (addi (negi (k_v30 V0)) (broadcastInDim S3072 ![] bcast_S_S3072 (constantI S_ 32 127#32))) (broadcastInDim S3072 ![] bcast_S_S3072 (constantI S_ 32 23#32)))))

/-- The vector `main_v135`. -/
def k_v135 (V0 : Valuation τ sig (Elt F)) : (⟨S3072, .f32⟩ : BufTy).Contents (Elt F) :=
  (Host.negf (sitofp .f32 (k_v40 V0)))

/-- The vector `main_v137`. -/
def k_v137 (V0 : Valuation τ sig (Elt F)) : (⟨S3072, .i1⟩ : BufTy).Contents (Elt F) :=
  (cmpi .sgt (k_v30 V0) (broadcastInDim S3072 ![] bcast_S_S3072 (constantI S_ 32 0#32)))

/-- The vector `main_v141`. -/
def k_v141 (V0 : Valuation τ sig (Elt F)) : (⟨S3072, .f32⟩ : BufTy).Contents (Elt F) :=
  (subf (broadcastInDim S3072 ![] bcast_S_S3072 (constant S_ .f32 0x3F000000#32)) (mulf (broadcastInDim S3072 ![] bcast_S_S3072 (constant S_ .f32 0x3F000000#32)) (k_v133 V0)))

/-- The vector `main_cst_41`. -/
def k_cst_41 (V0 : Valuation τ sig (Elt F)) : (⟨S_, .f32⟩ : BufTy).Contents (Elt F) :=
  (constant S_ .f32 0x00000000#32)

/-- The vector `main_v142`. -/
def k_v142 (V0 : Valuation τ sig (Elt F)) : (⟨S3072, .f32⟩ : BufTy).Contents (Elt F) :=
  (select (k_v137 V0) (k_v141 V0) ((broadcastInDim S3072 ![] bcast_S_S3072) (id (k_cst_41 V0))))

/-- The vector `main_v143`. -/
def k_v143 (V0 : Valuation τ sig (Elt F)) : (⟨S3072, .f32⟩ : BufTy).Contents (Elt F) :=
  (addf (k_v135 V0) (k_v142 V0))

/-- The vector `main_v145`. -/
def k_v145 (V0 : Valuation τ sig (Elt F)) : (⟨S3072, .i32⟩ : BufTy).Contents (Elt F) :=
  (addi (k_v45 V0) (Host.shli (k_v85 V0) (k_v75 V0)))

/-- The vector `main_v151`. -/
def k_v151 (V0 : Valuation τ sig (Elt F)) : (⟨S3072, .i32⟩ : BufTy).Contents (Elt F) :=
  (subi (addi (subi (k_v45 V0) (broadcastInDim S3072 ![] bcast_S_S3072 (constantI S_ 32 1#32))) (Host.shli (broadcastInDim S3072 ![] bcast_S_S3072 (constantI S_ 32 1#32)) (k_v75 V0))) (Host.shli (k_v85 V0) (k_v75 V0)))

/-- The vector `main_v153`. -/
def k_v153 (V0 : Valuation τ sig (Elt F)) : (⟨S1x3072, .f32⟩ : BufTy).Contents (Elt F) :=
  (broadcastInDim S1x3072 ![1] bcast_S3072_S1x3072_1 (sitofp .f32 (V0 (Proc.devRef .tc main_arg4))))

/-- The vector `main_v154`. -/
def k_v154 (V0 : Valuation τ sig (Elt F)) : (⟨S1x3072, .f32⟩ : BufTy).Contents (Elt F) :=
  (broadcastInDim S1x3072 ![1] bcast_S3072_S1x3072_1 (k_v133 V0))

/-- The vector `main_v155`. -/
def k_v155 (V0 : Valuation τ sig (Elt F)) : (⟨S1x3072, .f32⟩ : BufTy).Contents (Elt F) :=
  (broadcastInDim S1x3072 ![1] bcast_S3072_S1x3072_1 (k_v143 V0))

/-- The vector `main_v156`. -/
def k_v156 (V0 : Valuation τ sig (Elt F)) : (⟨S3x3072, .f32⟩ : BufTy).Contents (Elt F) :=
  concatenate S3x3072 0 [⟨S1x3072, (k_v153 V0)⟩, ⟨S1x3072, (k_v154 V0)⟩, ⟨S1x3072, (k_v155 V0)⟩] concatenates_S1x3072_S1x3072_S1x3072_S3x3072_d0

/-- The vector `main_v157`. -/
def k_v157 (V0 : Valuation τ sig (Elt F)) : (⟨S1x3072, .i32⟩ : BufTy).Contents (Elt F) :=
  (broadcastInDim S1x3072 ![1] bcast_S3072_S1x3072_1 (k_v145 V0))

/-- The vector `main_v158`. -/
def k_v158 (V0 : Valuation τ sig (Elt F)) : (⟨S1x3072, .i32⟩ : BufTy).Contents (Elt F) :=
  (broadcastInDim S1x3072 ![1] bcast_S3072_S1x3072_1 (k_v151 V0))

/-- The vector `main_v159`. -/
def k_v159 (V0 : Valuation τ sig (Elt F)) : (⟨S1x3072, .i32⟩ : BufTy).Contents (Elt F) :=
  (broadcastInDim S1x3072 ![1] bcast_S3072_S1x3072_1 (k_v75 V0))

/-- The vector `main_v160`. -/
def k_v160 (V0 : Valuation τ sig (Elt F)) : (⟨S1x3072, .i32⟩ : BufTy).Contents (Elt F) :=
  (broadcastInDim S1x3072 ![1] bcast_S3072_S1x3072_1 (k_v119 V0))

/-- The vector `main_v161`. -/
def k_v161 (V0 : Valuation τ sig (Elt F)) : (⟨S1x3072, .i32⟩ : BufTy).Contents (Elt F) :=
  (broadcastInDim S1x3072 ![1] bcast_S3072_S1x3072_1 (k_v125 V0))

/-- The vector `main_v162`. -/
def k_v162 (V0 : Valuation τ sig (Elt F)) : (⟨S1x3072, .i32⟩ : BufTy).Contents (Elt F) :=
  (broadcastInDim S1x3072 ![1] bcast_S3072_S1x3072_1 (k_v121 V0))

/-- The vector `main_v163`. -/
def k_v163 (V0 : Valuation τ sig (Elt F)) : (⟨S6x3072, .i32⟩ : BufTy).Contents (Elt F) :=
  concatenate S6x3072 0 [⟨S1x3072, (k_v157 V0)⟩, ⟨S1x3072, (k_v158 V0)⟩, ⟨S1x3072, (k_v159 V0)⟩, ⟨S1x3072, (k_v160 V0)⟩, ⟨S1x3072, (k_v161 V0)⟩, ⟨S1x3072, (k_v162 V0)⟩] concatenates_S1x3072_S1x3072_S1x3072_S1x3072_S1x3072_S1x3072_S6x3072_d0

/-- The vector `main_v167`. -/
def k_v167 (V0 : Valuation τ sig (Elt F)) : (⟨S768, .f32⟩ : BufTy).Contents (Elt F) :=
  (Host.divf (mulf (broadcastInDim S768 ![] bcast_S_S768 (V0 (Proc.devRef .tc main_arg5))) (V0 (Proc.devRef .tc main_arg7))) (broadcastInDim S768 ![] bcast_S_S768 (V0 (Proc.devRef .tc main_arg9))))

/-- The vector `main_v185`. -/
def k_v185 (V0 : Valuation τ sig (Elt F)) : (⟨S768, .i32⟩ : BufTy).Contents (Elt F) :=
  (subi ((fun x v => Host.reduce IntOp.addi x v reducesTo_S768x253_S768_d1 h_S_) ((fun x => (extui 32 x natLt_1_32)) (cmpf .oge (broadcastInDim S768x253 ![0, 1] bcast_S768x1_S768x253_0_1 (broadcastInDim S768x1 ![0] bcast_S768_S768x1_0 (Host.absf (k_v167 V0)))) (broadcastInDim S768x253 ![0, 1] bcast_S1x253_S768x253_0_1 (broadcastInDim S1x253 ![1] bcast_S253_S1x253_1 (bitcastToFloat .f32 (Host.shli (addi (subi (iotaInDim S253 32 0) (broadcastInDim S253 ![] bcast_S_S253 (constantI S_ 32 126#32))) (broadcastInDim S253 ![] bcast_S_S253 (constantI S_ 32 127#32))) (broadcastInDim S253 ![] bcast_S_S253 (constantI S_ 32 23#32)))))))) (constantI S_ 32 0#32)) (broadcastInDim S768 ![] bcast_S_S768 (constantI S_ 32 126#32)))

/-- The vector `main_v196`. -/
def k_v196 (V0 : Valuation τ sig (Elt F)) : (⟨S768, .i32⟩ : BufTy).Contents (Elt F) :=
  (fptosi 32 (Host.roundeven (mulf (mulf (k_v167 V0) (bitcastToFloat .f32 (Host.shli (addi (negi (k_v185 V0)) (broadcastInDim S768 ![] bcast_S_S768 (constantI S_ 32 127#32))) (broadcastInDim S768 ![] bcast_S_S768 (constantI S_ 32 23#32))))) (broadcastInDim S768 ![] bcast_S_S768 (constant S_ .f32 0x46800000#32)))))

/-- The vector `main_v198`. -/
def k_v198 (V0 : Valuation τ sig (Elt F)) : (⟨S768, .i32⟩ : BufTy).Contents (Elt F) :=
  (subi (broadcastInDim S768 ![] bcast_S_S768 (constantI S_ 32 10#32)) (k_v185 V0))

/-- The vector `main_v202`. -/
def k_v202 (V0 : Valuation τ sig (Elt F)) : (⟨S768, .i32⟩ : BufTy).Contents (Elt F) :=
  (Host.shli (broadcastInDim S768 ![] bcast_S_S768 (constantI S_ 32 1#32)) (subi (k_v198 V0) (broadcastInDim S768 ![] bcast_S_S768 (constantI S_ 32 1#32))))

/-- The vector `main_v205`. -/
def k_v205 (V0 : Valuation τ sig (Elt F)) : (⟨S1x768, .i32⟩ : BufTy).Contents (Elt F) :=
  (broadcastInDim S1x768 ![1] bcast_S768_S1x768_1 (addi (V0 (Proc.devRef .tc main_arg8)) (broadcastInDim S768 ![] bcast_S_S768 (constantI S_ 32 8#32))))

/-- The vector `main_v206`. -/
def k_v206 (V0 : Valuation τ sig (Elt F)) : (⟨S1x768, .i32⟩ : BufTy).Contents (Elt F) :=
  (broadcastInDim S1x768 ![1] bcast_S768_S1x768_1 (k_v196 V0))

/-- The vector `main_v207`. -/
def k_v207 (V0 : Valuation τ sig (Elt F)) : (⟨S1x768, .i32⟩ : BufTy).Contents (Elt F) :=
  (broadcastInDim S1x768 ![1] bcast_S768_S1x768_1 (k_v202 V0))

/-- The vector `main_v208`. -/
def k_v208 (V0 : Valuation τ sig (Elt F)) : (⟨S1x768, .i32⟩ : BufTy).Contents (Elt F) :=
  (broadcastInDim S1x768 ![1] bcast_S768_S1x768_1 (k_v198 V0))

/-- The vector `main_v209`. -/
def k_v209 (V0 : Valuation τ sig (Elt F)) : (⟨S4x768, .i32⟩ : BufTy).Contents (Elt F) :=
  concatenate S4x768 0 [⟨S1x768, (k_v205 V0)⟩, ⟨S1x768, (k_v206 V0)⟩, ⟨S1x768, (k_v207 V0)⟩, ⟨S1x768, (k_v208 V0)⟩] concatenates_S1x768_S1x768_S1x768_S1x768_S4x768_d0

/-- The vector `main_v210`. -/
def k_v210 (V0 : Valuation τ sig (Elt F)) : (⟨S16384x768, .i8⟩ : BufTy).Contents (Elt F) :=
  (shapeCast _ (V0 (Proc.devRef .tc main_arg0)) shapeCasts_S32x512x768_S16384x768)

/-- The whole host line. -/
abbrev line : List (HloOp τ sig (Elt F)) := List.flatten [hostOps0, hostOps0_1, hostOps0_2, hostOps0_3, hostOps0_4, hostOps0_5, hostOps0_6]

/-- The contents at the start. -/
def st0 (V0 : Valuation τ sig (Elt F)) : Valuation τ sig (Elt F) := V0
theorem st0_arg0 (V0 : Valuation τ sig (Elt F)) : st0 V0 (no_index (Proc.devRef .tc main_arg0)) = V0 (Proc.devRef .tc main_arg0) := rfl
theorem st0_arg1 (V0 : Valuation τ sig (Elt F)) : st0 V0 (no_index (Proc.devRef .tc main_arg1)) = V0 (Proc.devRef .tc main_arg1) := rfl
theorem st0_arg2 (V0 : Valuation τ sig (Elt F)) : st0 V0 (no_index (Proc.devRef .tc main_arg2)) = V0 (Proc.devRef .tc main_arg2) := rfl
theorem st0_arg3 (V0 : Valuation τ sig (Elt F)) : st0 V0 (no_index (Proc.devRef .tc main_arg3)) = V0 (Proc.devRef .tc main_arg3) := rfl
theorem st0_arg4 (V0 : Valuation τ sig (Elt F)) : st0 V0 (no_index (Proc.devRef .tc main_arg4)) = V0 (Proc.devRef .tc main_arg4) := rfl
theorem st0_arg5 (V0 : Valuation τ sig (Elt F)) : st0 V0 (no_index (Proc.devRef .tc main_arg5)) = V0 (Proc.devRef .tc main_arg5) := rfl
theorem st0_arg6 (V0 : Valuation τ sig (Elt F)) : st0 V0 (no_index (Proc.devRef .tc main_arg6)) = V0 (Proc.devRef .tc main_arg6) := rfl
theorem st0_arg7 (V0 : Valuation τ sig (Elt F)) : st0 V0 (no_index (Proc.devRef .tc main_arg7)) = V0 (Proc.devRef .tc main_arg7) := rfl
theorem st0_arg8 (V0 : Valuation τ sig (Elt F)) : st0 V0 (no_index (Proc.devRef .tc main_arg8)) = V0 (Proc.devRef .tc main_arg8) := rfl
theorem st0_arg9 (V0 : Valuation τ sig (Elt F)) : st0 V0 (no_index (Proc.devRef .tc main_arg9)) = V0 (Proc.devRef .tc main_arg9) := rfl
/-- The contents after the first 40 operations. -/
def st1 (V0 : Valuation τ sig (Elt F)) : Valuation τ sig (Elt F) := after ((line.drop 0).take 40) (st0 V0)
theorem st1_arg0 (V0 : Valuation τ sig (Elt F)) : st1 V0 (no_index (Proc.devRef .tc main_arg0)) = V0 (Proc.devRef .tc main_arg0) := by
  unfold st1
  after_reads_simp
  simp only [st0_arg0] <;> rfl
theorem st1_arg4 (V0 : Valuation τ sig (Elt F)) : st1 V0 (no_index (Proc.devRef .tc main_arg4)) = V0 (Proc.devRef .tc main_arg4) := by
  unfold st1
  after_reads_simp
  simp only [st0_arg4] <;> rfl
theorem st1_arg5 (V0 : Valuation τ sig (Elt F)) : st1 V0 (no_index (Proc.devRef .tc main_arg5)) = V0 (Proc.devRef .tc main_arg5) := by
  unfold st1
  after_reads_simp
  simp only [st0_arg5] <;> rfl
theorem st1_arg7 (V0 : Valuation τ sig (Elt F)) : st1 V0 (no_index (Proc.devRef .tc main_arg7)) = V0 (Proc.devRef .tc main_arg7) := by
  unfold st1
  after_reads_simp
  simp only [st0_arg7] <;> rfl
theorem st1_arg8 (V0 : Valuation τ sig (Elt F)) : st1 V0 (no_index (Proc.devRef .tc main_arg8)) = V0 (Proc.devRef .tc main_arg8) := by
  unfold st1
  after_reads_simp
  simp only [st0_arg8] <;> rfl
theorem st1_arg9 (V0 : Valuation τ sig (Elt F)) : st1 V0 (no_index (Proc.devRef .tc main_arg9)) = V0 (Proc.devRef .tc main_arg9) := by
  unfold st1
  after_reads_simp
  simp only [st0_arg9] <;> rfl
theorem st1_v1 (V0 : Valuation τ sig (Elt F)) : st1 V0 (no_index (Proc.devRef .tc main_v1)) = k_v1 V0 := by
  unfold st1
  after_reads_simp
  simp only [st0_arg1, st0_arg3] <;> rfl
theorem st1_v3 (V0 : Valuation τ sig (Elt F)) : st1 V0 (no_index (Proc.devRef .tc main_v3)) = k_v3 V0 := by
  unfold st1
  after_reads_simp
  simp only [st0_arg1, st0_arg3] <;> rfl
theorem st1_v30 (V0 : Valuation τ sig (Elt F)) : st1 V0 (no_index (Proc.devRef .tc main_v30)) = k_v30 V0 := by
  unfold st1
  after_reads_simp
  simp only [st0_arg1, st0_arg3] <;> rfl
/-- The contents after the first 63 operations. -/
def st2 (V0 : Valuation τ sig (Elt F)) : Valuation τ sig (Elt F) := after ((line.drop 40).take 23) (st1 V0)
theorem st2_arg0 (V0 : Valuation τ sig (Elt F)) : st2 V0 (no_index (Proc.devRef .tc main_arg0)) = V0 (Proc.devRef .tc main_arg0) := by
  unfold st2
  after_reads_simp
  simp only [st1_arg0] <;> rfl
theorem st2_arg4 (V0 : Valuation τ sig (Elt F)) : st2 V0 (no_index (Proc.devRef .tc main_arg4)) = V0 (Proc.devRef .tc main_arg4) := by
  unfold st2
  after_reads_simp
  simp only [st1_arg4] <;> rfl
theorem st2_arg5 (V0 : Valuation τ sig (Elt F)) : st2 V0 (no_index (Proc.devRef .tc main_arg5)) = V0 (Proc.devRef .tc main_arg5) := by
  unfold st2
  after_reads_simp
  simp only [st1_arg5] <;> rfl
theorem st2_arg7 (V0 : Valuation τ sig (Elt F)) : st2 V0 (no_index (Proc.devRef .tc main_arg7)) = V0 (Proc.devRef .tc main_arg7) := by
  unfold st2
  after_reads_simp
  simp only [st1_arg7] <;> rfl
theorem st2_arg8 (V0 : Valuation τ sig (Elt F)) : st2 V0 (no_index (Proc.devRef .tc main_arg8)) = V0 (Proc.devRef .tc main_arg8) := by
  unfold st2
  after_reads_simp
  simp only [st1_arg8] <;> rfl
theorem st2_arg9 (V0 : Valuation τ sig (Elt F)) : st2 V0 (no_index (Proc.devRef .tc main_arg9)) = V0 (Proc.devRef .tc main_arg9) := by
  unfold st2
  after_reads_simp
  simp only [st1_arg9] <;> rfl
theorem st2_v1 (V0 : Valuation τ sig (Elt F)) : st2 V0 (no_index (Proc.devRef .tc main_v1)) = k_v1 V0 := by
  unfold st2
  after_reads_simp
  simp only [st1_v1] <;> rfl
theorem st2_v30 (V0 : Valuation τ sig (Elt F)) : st2 V0 (no_index (Proc.devRef .tc main_v30)) = k_v30 V0 := by
  unfold st2
  after_reads_simp
  simp only [st1_v30] <;> rfl
theorem st2_v40 (V0 : Valuation τ sig (Elt F)) : st2 V0 (no_index (Proc.devRef .tc main_v40)) = k_v40 V0 := by
  unfold st2
  after_reads_simp
  simp only [st1_v3, st1_v30] <;> rfl
theorem st2_v45 (V0 : Valuation τ sig (Elt F)) : st2 V0 (no_index (Proc.devRef .tc main_v45)) = k_v45 V0 := by
  unfold st2
  after_reads_simp
  simp only [st1_v3, st1_v30] <;> rfl
theorem st2_v48 (V0 : Valuation τ sig (Elt F)) : st2 V0 (no_index (Proc.devRef .tc main_v48)) = k_v48 V0 := by
  unfold st2
  after_reads_simp
  simp only [st1_v3, st1_v30] <;> rfl
/-- The contents after the first 98 operations. -/
def st3 (V0 : Valuation τ sig (Elt F)) : Valuation τ sig (Elt F) := after ((line.drop 63).take 35) (st2 V0)
theorem st3_arg0 (V0 : Valuation τ sig (Elt F)) : st3 V0 (no_index (Proc.devRef .tc main_arg0)) = V0 (Proc.devRef .tc main_arg0) := by
  unfold st3
  after_reads_simp
  simp only [st2_arg0] <;> rfl
theorem st3_arg4 (V0 : Valuation τ sig (Elt F)) : st3 V0 (no_index (Proc.devRef .tc main_arg4)) = V0 (Proc.devRef .tc main_arg4) := by
  unfold st3
  after_reads_simp
  simp only [st2_arg4] <;> rfl
theorem st3_arg5 (V0 : Valuation τ sig (Elt F)) : st3 V0 (no_index (Proc.devRef .tc main_arg5)) = V0 (Proc.devRef .tc main_arg5) := by
  unfold st3
  after_reads_simp
  simp only [st2_arg5] <;> rfl
theorem st3_arg7 (V0 : Valuation τ sig (Elt F)) : st3 V0 (no_index (Proc.devRef .tc main_arg7)) = V0 (Proc.devRef .tc main_arg7) := by
  unfold st3
  after_reads_simp
  simp only [st2_arg7] <;> rfl
theorem st3_arg8 (V0 : Valuation τ sig (Elt F)) : st3 V0 (no_index (Proc.devRef .tc main_arg8)) = V0 (Proc.devRef .tc main_arg8) := by
  unfold st3
  after_reads_simp
  simp only [st2_arg8] <;> rfl
theorem st3_arg9 (V0 : Valuation τ sig (Elt F)) : st3 V0 (no_index (Proc.devRef .tc main_arg9)) = V0 (Proc.devRef .tc main_arg9) := by
  unfold st3
  after_reads_simp
  simp only [st2_arg9] <;> rfl
theorem st3_v1 (V0 : Valuation τ sig (Elt F)) : st3 V0 (no_index (Proc.devRef .tc main_v1)) = k_v1 V0 := by
  unfold st3
  after_reads_simp
  simp only [st2_v1] <;> rfl
theorem st3_v30 (V0 : Valuation τ sig (Elt F)) : st3 V0 (no_index (Proc.devRef .tc main_v30)) = k_v30 V0 := by
  unfold st3
  after_reads_simp
  simp only [st2_v30] <;> rfl
theorem st3_v40 (V0 : Valuation τ sig (Elt F)) : st3 V0 (no_index (Proc.devRef .tc main_v40)) = k_v40 V0 := by
  unfold st3
  after_reads_simp
  simp only [st2_v40] <;> rfl
theorem st3_v45 (V0 : Valuation τ sig (Elt F)) : st3 V0 (no_index (Proc.devRef .tc main_v45)) = k_v45 V0 := by
  unfold st3
  after_reads_simp
  simp only [st2_v45] <;> rfl
theorem st3_v48 (V0 : Valuation τ sig (Elt F)) : st3 V0 (no_index (Proc.devRef .tc main_v48)) = k_v48 V0 := by
  unfold st3
  after_reads_simp
  simp only [st2_v48] <;> rfl
theorem st3_v75 (V0 : Valuation τ sig (Elt F)) : st3 V0 (no_index (Proc.devRef .tc main_v75)) = k_v75 V0 := by
  unfold st3
  after_reads_simp
  simp only [st2_v48] <;> rfl
/-- The contents after the first 117 operations. -/
def st4 (V0 : Valuation τ sig (Elt F)) : Valuation τ sig (Elt F) := after ((line.drop 98).take 19) (st3 V0)
theorem st4_arg0 (V0 : Valuation τ sig (Elt F)) : st4 V0 (no_index (Proc.devRef .tc main_arg0)) = V0 (Proc.devRef .tc main_arg0) := by
  unfold st4
  after_reads_simp
  simp only [st3_arg0] <;> rfl
theorem st4_arg4 (V0 : Valuation τ sig (Elt F)) : st4 V0 (no_index (Proc.devRef .tc main_arg4)) = V0 (Proc.devRef .tc main_arg4) := by
  unfold st4
  after_reads_simp
  simp only [st3_arg4] <;> rfl
theorem st4_arg5 (V0 : Valuation τ sig (Elt F)) : st4 V0 (no_index (Proc.devRef .tc main_arg5)) = V0 (Proc.devRef .tc main_arg5) := by
  unfold st4
  after_reads_simp
  simp only [st3_arg5] <;> rfl
theorem st4_arg7 (V0 : Valuation τ sig (Elt F)) : st4 V0 (no_index (Proc.devRef .tc main_arg7)) = V0 (Proc.devRef .tc main_arg7) := by
  unfold st4
  after_reads_simp
  simp only [st3_arg7] <;> rfl
theorem st4_arg8 (V0 : Valuation τ sig (Elt F)) : st4 V0 (no_index (Proc.devRef .tc main_arg8)) = V0 (Proc.devRef .tc main_arg8) := by
  unfold st4
  after_reads_simp
  simp only [st3_arg8] <;> rfl
theorem st4_arg9 (V0 : Valuation τ sig (Elt F)) : st4 V0 (no_index (Proc.devRef .tc main_arg9)) = V0 (Proc.devRef .tc main_arg9) := by
  unfold st4
  after_reads_simp
  simp only [st3_arg9] <;> rfl
theorem st4_v30 (V0 : Valuation τ sig (Elt F)) : st4 V0 (no_index (Proc.devRef .tc main_v30)) = k_v30 V0 := by
  unfold st4
  after_reads_simp
  simp only [st3_v30] <;> rfl
theorem st4_v40 (V0 : Valuation τ sig (Elt F)) : st4 V0 (no_index (Proc.devRef .tc main_v40)) = k_v40 V0 := by
  unfold st4
  after_reads_simp
  simp only [st3_v40] <;> rfl
theorem st4_v45 (V0 : Valuation τ sig (Elt F)) : st4 V0 (no_index (Proc.devRef .tc main_v45)) = k_v45 V0 := by
  unfold st4
  after_reads_simp
  simp only [st3_v45] <;> rfl
theorem st4_v75 (V0 : Valuation τ sig (Elt F)) : st4 V0 (no_index (Proc.devRef .tc main_v75)) = k_v75 V0 := by
  unfold st4
  after_reads_simp
  simp only [st3_v75] <;> rfl
theorem st4_v85 (V0 : Valuation τ sig (Elt F)) : st4 V0 (no_index (Proc.devRef .tc main_v85)) = k_v85 V0 := by
  unfold st4
  after_reads_simp
  simp only [st3_v48, st3_v75] <;> rfl
theorem st4_v90 (V0 : Valuation τ sig (Elt F)) : st4 V0 (no_index (Proc.devRef .tc main_v90)) = k_v90 V0 := by
  unfold st4
  after_reads_simp
  simp only [st3_arg5, st3_v1, st3_v48, st3_v75] <;> rfl
/-- The contents after the first 157 operations. -/
def st5 (V0 : Valuation τ sig (Elt F)) : Valuation τ sig (Elt F) := after ((line.drop 117).take 40) (st4 V0)
theorem st5_arg0 (V0 : Valuation τ sig (Elt F)) : st5 V0 (no_index (Proc.devRef .tc main_arg0)) = V0 (Proc.devRef .tc main_arg0) := by
  unfold st5
  after_reads_simp
  simp only [st4_arg0] <;> rfl
theorem st5_arg4 (V0 : Valuation τ sig (Elt F)) : st5 V0 (no_index (Proc.devRef .tc main_arg4)) = V0 (Proc.devRef .tc main_arg4) := by
  unfold st5
  after_reads_simp
  simp only [st4_arg4] <;> rfl
theorem st5_arg5 (V0 : Valuation τ sig (Elt F)) : st5 V0 (no_index (Proc.devRef .tc main_arg5)) = V0 (Proc.devRef .tc main_arg5) := by
  unfold st5
  after_reads_simp
  simp only [st4_arg5] <;> rfl
theorem st5_arg7 (V0 : Valuation τ sig (Elt F)) : st5 V0 (no_index (Proc.devRef .tc main_arg7)) = V0 (Proc.devRef .tc main_arg7) := by
  unfold st5
  after_reads_simp
  simp only [st4_arg7] <;> rfl
theorem st5_arg8 (V0 : Valuation τ sig (Elt F)) : st5 V0 (no_index (Proc.devRef .tc main_arg8)) = V0 (Proc.devRef .tc main_arg8) := by
  unfold st5
  after_reads_simp
  simp only [st4_arg8] <;> rfl
theorem st5_arg9 (V0 : Valuation τ sig (Elt F)) : st5 V0 (no_index (Proc.devRef .tc main_arg9)) = V0 (Proc.devRef .tc main_arg9) := by
  unfold st5
  after_reads_simp
  simp only [st4_arg9] <;> rfl
theorem st5_v30 (V0 : Valuation τ sig (Elt F)) : st5 V0 (no_index (Proc.devRef .tc main_v30)) = k_v30 V0 := by
  unfold st5
  after_reads_simp
  simp only [st4_v30] <;> rfl
theorem st5_v40 (V0 : Valuation τ sig (Elt F)) : st5 V0 (no_index (Proc.devRef .tc main_v40)) = k_v40 V0 := by
  unfold st5
  after_reads_simp
  simp only [st4_v40] <;> rfl
theorem st5_v45 (V0 : Valuation τ sig (Elt F)) : st5 V0 (no_index (Proc.devRef .tc main_v45)) = k_v45 V0 := by
  unfold st5
  after_reads_simp
  simp only [st4_v45] <;> rfl
theorem st5_v75 (V0 : Valuation τ sig (Elt F)) : st5 V0 (no_index (Proc.devRef .tc main_v75)) = k_v75 V0 := by
  unfold st5
  after_reads_simp
  simp only [st4_v75] <;> rfl
theorem st5_v85 (V0 : Valuation τ sig (Elt F)) : st5 V0 (no_index (Proc.devRef .tc main_v85)) = k_v85 V0 := by
  unfold st5
  after_reads_simp
  simp only [st4_v85] <;> rfl
theorem st5_v119 (V0 : Valuation τ sig (Elt F)) : st5 V0 (no_index (Proc.devRef .tc main_v119)) = k_v119 V0 := by
  unfold st5
  after_reads_simp
  simp only [st4_v90] <;> rfl
theorem st5_v121 (V0 : Valuation τ sig (Elt F)) : st5 V0 (no_index (Proc.devRef .tc main_v121)) = k_v121 V0 := by
  unfold st5
  after_reads_simp
  simp only [st4_v90] <;> rfl
/-- The contents after the first 186 operations. -/
def st6 (V0 : Valuation τ sig (Elt F)) : Valuation τ sig (Elt F) := after ((line.drop 157).take 29) (st5 V0)
theorem st6_arg0 (V0 : Valuation τ sig (Elt F)) : st6 V0 (no_index (Proc.devRef .tc main_arg0)) = V0 (Proc.devRef .tc main_arg0) := by
  unfold st6
  after_reads_simp
  simp only [st5_arg0] <;> rfl
theorem st6_arg4 (V0 : Valuation τ sig (Elt F)) : st6 V0 (no_index (Proc.devRef .tc main_arg4)) = V0 (Proc.devRef .tc main_arg4) := by
  unfold st6
  after_reads_simp
  simp only [st5_arg4] <;> rfl
theorem st6_arg5 (V0 : Valuation τ sig (Elt F)) : st6 V0 (no_index (Proc.devRef .tc main_arg5)) = V0 (Proc.devRef .tc main_arg5) := by
  unfold st6
  after_reads_simp
  simp only [st5_arg5] <;> rfl
theorem st6_arg7 (V0 : Valuation τ sig (Elt F)) : st6 V0 (no_index (Proc.devRef .tc main_arg7)) = V0 (Proc.devRef .tc main_arg7) := by
  unfold st6
  after_reads_simp
  simp only [st5_arg7] <;> rfl
theorem st6_arg8 (V0 : Valuation τ sig (Elt F)) : st6 V0 (no_index (Proc.devRef .tc main_arg8)) = V0 (Proc.devRef .tc main_arg8) := by
  unfold st6
  after_reads_simp
  simp only [st5_arg8] <;> rfl
theorem st6_arg9 (V0 : Valuation τ sig (Elt F)) : st6 V0 (no_index (Proc.devRef .tc main_arg9)) = V0 (Proc.devRef .tc main_arg9) := by
  unfold st6
  after_reads_simp
  simp only [st5_arg9] <;> rfl
theorem st6_v45 (V0 : Valuation τ sig (Elt F)) : st6 V0 (no_index (Proc.devRef .tc main_v45)) = k_v45 V0 := by
  unfold st6
  after_reads_simp
  simp only [st5_v45] <;> rfl
theorem st6_v75 (V0 : Valuation τ sig (Elt F)) : st6 V0 (no_index (Proc.devRef .tc main_v75)) = k_v75 V0 := by
  unfold st6
  after_reads_simp
  simp only [st5_v75] <;> rfl
theorem st6_v85 (V0 : Valuation τ sig (Elt F)) : st6 V0 (no_index (Proc.devRef .tc main_v85)) = k_v85 V0 := by
  unfold st6
  after_reads_simp
  simp only [st5_v85] <;> rfl
theorem st6_v119 (V0 : Valuation τ sig (Elt F)) : st6 V0 (no_index (Proc.devRef .tc main_v119)) = k_v119 V0 := by
  unfold st6
  after_reads_simp
  simp only [st5_v119] <;> rfl
theorem st6_v121 (V0 : Valuation τ sig (Elt F)) : st6 V0 (no_index (Proc.devRef .tc main_v121)) = k_v121 V0 := by
  unfold st6
  after_reads_simp
  simp only [st5_v121] <;> rfl
theorem st6_v125 (V0 : Valuation τ sig (Elt F)) : st6 V0 (no_index (Proc.devRef .tc main_v125)) = k_v125 V0 := by
  unfold st6
  after_reads_simp
  simp only [st5_v121] <;> rfl
theorem st6_v133 (V0 : Valuation τ sig (Elt F)) : st6 V0 (no_index (Proc.devRef .tc main_v133)) = k_v133 V0 := by
  unfold st6
  after_reads_simp
  simp only [st5_v30] <;> rfl
theorem st6_v135 (V0 : Valuation τ sig (Elt F)) : st6 V0 (no_index (Proc.devRef .tc main_v135)) = k_v135 V0 := by
  unfold st6
  after_reads_simp
  simp only [st5_v40] <;> rfl
theorem st6_v137 (V0 : Valuation τ sig (Elt F)) : st6 V0 (no_index (Proc.devRef .tc main_v137)) = k_v137 V0 := by
  unfold st6
  after_reads_simp
  simp only [st5_v30] <;> rfl
theorem st6_v141 (V0 : Valuation τ sig (Elt F)) : st6 V0 (no_index (Proc.devRef .tc main_v141)) = k_v141 V0 := by
  unfold st6
  after_reads_simp
  simp only [st5_v30] <;> rfl
theorem st6_cst_41 (V0 : Valuation τ sig (Elt F)) : st6 V0 (no_index (Proc.devRef .tc main_cst_41)) = k_cst_41 V0 := by
  unfold st6
  after_reads_simp
  rfl
/-- The contents after the first 189 operations. -/
def st7 (V0 : Valuation τ sig (Elt F)) : Valuation τ sig (Elt F) := after ((line.drop 186).take 3) (st6 V0)
theorem st7_arg0 (V0 : Valuation τ sig (Elt F)) : st7 V0 (no_index (Proc.devRef .tc main_arg0)) = V0 (Proc.devRef .tc main_arg0) := by
  unfold st7
  after_reads_simp
  simp only [st6_arg0] <;> rfl
theorem st7_arg4 (V0 : Valuation τ sig (Elt F)) : st7 V0 (no_index (Proc.devRef .tc main_arg4)) = V0 (Proc.devRef .tc main_arg4) := by
  unfold st7
  after_reads_simp
  simp only [st6_arg4] <;> rfl
theorem st7_arg5 (V0 : Valuation τ sig (Elt F)) : st7 V0 (no_index (Proc.devRef .tc main_arg5)) = V0 (Proc.devRef .tc main_arg5) := by
  unfold st7
  after_reads_simp
  simp only [st6_arg5] <;> rfl
theorem st7_arg7 (V0 : Valuation τ sig (Elt F)) : st7 V0 (no_index (Proc.devRef .tc main_arg7)) = V0 (Proc.devRef .tc main_arg7) := by
  unfold st7
  after_reads_simp
  simp only [st6_arg7] <;> rfl
theorem st7_arg8 (V0 : Valuation τ sig (Elt F)) : st7 V0 (no_index (Proc.devRef .tc main_arg8)) = V0 (Proc.devRef .tc main_arg8) := by
  unfold st7
  after_reads_simp
  simp only [st6_arg8] <;> rfl
theorem st7_arg9 (V0 : Valuation τ sig (Elt F)) : st7 V0 (no_index (Proc.devRef .tc main_arg9)) = V0 (Proc.devRef .tc main_arg9) := by
  unfold st7
  after_reads_simp
  simp only [st6_arg9] <;> rfl
theorem st7_v45 (V0 : Valuation τ sig (Elt F)) : st7 V0 (no_index (Proc.devRef .tc main_v45)) = k_v45 V0 := by
  unfold st7
  after_reads_simp
  simp only [st6_v45] <;> rfl
theorem st7_v75 (V0 : Valuation τ sig (Elt F)) : st7 V0 (no_index (Proc.devRef .tc main_v75)) = k_v75 V0 := by
  unfold st7
  after_reads_simp
  simp only [st6_v75] <;> rfl
theorem st7_v85 (V0 : Valuation τ sig (Elt F)) : st7 V0 (no_index (Proc.devRef .tc main_v85)) = k_v85 V0 := by
  unfold st7
  after_reads_simp
  simp only [st6_v85] <;> rfl
theorem st7_v119 (V0 : Valuation τ sig (Elt F)) : st7 V0 (no_index (Proc.devRef .tc main_v119)) = k_v119 V0 := by
  unfold st7
  after_reads_simp
  simp only [st6_v119] <;> rfl
theorem st7_v121 (V0 : Valuation τ sig (Elt F)) : st7 V0 (no_index (Proc.devRef .tc main_v121)) = k_v121 V0 := by
  unfold st7
  after_reads_simp
  simp only [st6_v121] <;> rfl
theorem st7_v125 (V0 : Valuation τ sig (Elt F)) : st7 V0 (no_index (Proc.devRef .tc main_v125)) = k_v125 V0 := by
  unfold st7
  after_reads_simp
  simp only [st6_v125] <;> rfl
theorem st7_v133 (V0 : Valuation τ sig (Elt F)) : st7 V0 (no_index (Proc.devRef .tc main_v133)) = k_v133 V0 := by
  unfold st7
  after_reads_simp
  simp only [st6_v133] <;> rfl
theorem st7_v135 (V0 : Valuation τ sig (Elt F)) : st7 V0 (no_index (Proc.devRef .tc main_v135)) = k_v135 V0 := by
  unfold st7
  after_reads_simp
  simp only [st6_v135] <;> rfl
theorem st7_v142 (V0 : Valuation τ sig (Elt F)) : st7 V0 (no_index (Proc.devRef .tc main_v142)) = k_v142 V0 := by
  unfold st7
  after_reads_simp
  simp only [st6_v137, st6_v141, st6_cst_41, TRef.toBuf, TRef.ofBuf, cast_eq] <;> rfl
/-- The contents after the first 204 operations. -/
def st8 (V0 : Valuation τ sig (Elt F)) : Valuation τ sig (Elt F) := after ((line.drop 189).take 15) (st7 V0)
theorem st8_arg0 (V0 : Valuation τ sig (Elt F)) : st8 V0 (no_index (Proc.devRef .tc main_arg0)) = V0 (Proc.devRef .tc main_arg0) := by
  unfold st8
  after_reads_simp
  simp only [st7_arg0] <;> rfl
theorem st8_arg5 (V0 : Valuation τ sig (Elt F)) : st8 V0 (no_index (Proc.devRef .tc main_arg5)) = V0 (Proc.devRef .tc main_arg5) := by
  unfold st8
  after_reads_simp
  simp only [st7_arg5] <;> rfl
theorem st8_arg7 (V0 : Valuation τ sig (Elt F)) : st8 V0 (no_index (Proc.devRef .tc main_arg7)) = V0 (Proc.devRef .tc main_arg7) := by
  unfold st8
  after_reads_simp
  simp only [st7_arg7] <;> rfl
theorem st8_arg8 (V0 : Valuation τ sig (Elt F)) : st8 V0 (no_index (Proc.devRef .tc main_arg8)) = V0 (Proc.devRef .tc main_arg8) := by
  unfold st8
  after_reads_simp
  simp only [st7_arg8] <;> rfl
theorem st8_arg9 (V0 : Valuation τ sig (Elt F)) : st8 V0 (no_index (Proc.devRef .tc main_arg9)) = V0 (Proc.devRef .tc main_arg9) := by
  unfold st8
  after_reads_simp
  simp only [st7_arg9] <;> rfl
theorem st8_v75 (V0 : Valuation τ sig (Elt F)) : st8 V0 (no_index (Proc.devRef .tc main_v75)) = k_v75 V0 := by
  unfold st8
  after_reads_simp
  simp only [st7_v75] <;> rfl
theorem st8_v119 (V0 : Valuation τ sig (Elt F)) : st8 V0 (no_index (Proc.devRef .tc main_v119)) = k_v119 V0 := by
  unfold st8
  after_reads_simp
  simp only [st7_v119] <;> rfl
theorem st8_v121 (V0 : Valuation τ sig (Elt F)) : st8 V0 (no_index (Proc.devRef .tc main_v121)) = k_v121 V0 := by
  unfold st8
  after_reads_simp
  simp only [st7_v121] <;> rfl
theorem st8_v125 (V0 : Valuation τ sig (Elt F)) : st8 V0 (no_index (Proc.devRef .tc main_v125)) = k_v125 V0 := by
  unfold st8
  after_reads_simp
  simp only [st7_v125] <;> rfl
theorem st8_v145 (V0 : Valuation τ sig (Elt F)) : st8 V0 (no_index (Proc.devRef .tc main_v145)) = k_v145 V0 := by
  unfold st8
  after_reads_simp
  simp only [st7_v45, st7_v75, st7_v85] <;> rfl
theorem st8_v151 (V0 : Valuation τ sig (Elt F)) : st8 V0 (no_index (Proc.devRef .tc main_v151)) = k_v151 V0 := by
  unfold st8
  after_reads_simp
  simp only [st7_v45, st7_v75, st7_v85] <;> rfl
theorem st8_v153 (V0 : Valuation τ sig (Elt F)) : st8 V0 (no_index (Proc.devRef .tc main_v153)) = k_v153 V0 := by
  unfold st8
  after_reads_simp
  simp only [st7_arg4] <;> rfl
theorem st8_v154 (V0 : Valuation τ sig (Elt F)) : st8 V0 (no_index (Proc.devRef .tc main_v154)) = k_v154 V0 := by
  unfold st8
  after_reads_simp
  simp only [st7_v133] <;> rfl
theorem st8_v155 (V0 : Valuation τ sig (Elt F)) : st8 V0 (no_index (Proc.devRef .tc main_v155)) = k_v155 V0 := by
  unfold st8
  after_reads_simp
  simp only [st7_v135, st7_v142] <;> rfl
/-- The contents after the first 205 operations. -/
def st9 (V0 : Valuation τ sig (Elt F)) : Valuation τ sig (Elt F) := after ((line.drop 204).take 1) (st8 V0)
theorem st9_arg0 (V0 : Valuation τ sig (Elt F)) : st9 V0 (no_index (Proc.devRef .tc main_arg0)) = V0 (Proc.devRef .tc main_arg0) := by
  unfold st9
  after_reads_simp
  simp only [st8_arg0] <;> rfl
theorem st9_arg5 (V0 : Valuation τ sig (Elt F)) : st9 V0 (no_index (Proc.devRef .tc main_arg5)) = V0 (Proc.devRef .tc main_arg5) := by
  unfold st9
  after_reads_simp
  simp only [st8_arg5] <;> rfl
theorem st9_arg7 (V0 : Valuation τ sig (Elt F)) : st9 V0 (no_index (Proc.devRef .tc main_arg7)) = V0 (Proc.devRef .tc main_arg7) := by
  unfold st9
  after_reads_simp
  simp only [st8_arg7] <;> rfl
theorem st9_arg8 (V0 : Valuation τ sig (Elt F)) : st9 V0 (no_index (Proc.devRef .tc main_arg8)) = V0 (Proc.devRef .tc main_arg8) := by
  unfold st9
  after_reads_simp
  simp only [st8_arg8] <;> rfl
theorem st9_arg9 (V0 : Valuation τ sig (Elt F)) : st9 V0 (no_index (Proc.devRef .tc main_arg9)) = V0 (Proc.devRef .tc main_arg9) := by
  unfold st9
  after_reads_simp
  simp only [st8_arg9] <;> rfl
theorem st9_v75 (V0 : Valuation τ sig (Elt F)) : st9 V0 (no_index (Proc.devRef .tc main_v75)) = k_v75 V0 := by
  unfold st9
  after_reads_simp
  simp only [st8_v75] <;> rfl
theorem st9_v119 (V0 : Valuation τ sig (Elt F)) : st9 V0 (no_index (Proc.devRef .tc main_v119)) = k_v119 V0 := by
  unfold st9
  after_reads_simp
  simp only [st8_v119] <;> rfl
theorem st9_v121 (V0 : Valuation τ sig (Elt F)) : st9 V0 (no_index (Proc.devRef .tc main_v121)) = k_v121 V0 := by
  unfold st9
  after_reads_simp
  simp only [st8_v121] <;> rfl
theorem st9_v125 (V0 : Valuation τ sig (Elt F)) : st9 V0 (no_index (Proc.devRef .tc main_v125)) = k_v125 V0 := by
  unfold st9
  after_reads_simp
  simp only [st8_v125] <;> rfl
theorem st9_v145 (V0 : Valuation τ sig (Elt F)) : st9 V0 (no_index (Proc.devRef .tc main_v145)) = k_v145 V0 := by
  unfold st9
  after_reads_simp
  simp only [st8_v145] <;> rfl
theorem st9_v151 (V0 : Valuation τ sig (Elt F)) : st9 V0 (no_index (Proc.devRef .tc main_v151)) = k_v151 V0 := by
  unfold st9
  after_reads_simp
  simp only [st8_v151] <;> rfl
theorem st9_v156 (V0 : Valuation τ sig (Elt F)) : st9 V0 (no_index (Proc.devRef .tc main_v156)) = k_v156 V0 := by
  unfold k_v156
  rw [← st8_v153 V0, ← st8_v154 V0, ← st8_v155 V0]
  rfl
/-- The contents after the first 211 operations. -/
def st10 (V0 : Valuation τ sig (Elt F)) : Valuation τ sig (Elt F) := after ((line.drop 205).take 6) (st9 V0)
theorem st10_arg0 (V0 : Valuation τ sig (Elt F)) : st10 V0 (no_index (Proc.devRef .tc main_arg0)) = V0 (Proc.devRef .tc main_arg0) := by
  unfold st10
  after_reads_simp
  simp only [st9_arg0] <;> rfl
theorem st10_arg5 (V0 : Valuation τ sig (Elt F)) : st10 V0 (no_index (Proc.devRef .tc main_arg5)) = V0 (Proc.devRef .tc main_arg5) := by
  unfold st10
  after_reads_simp
  simp only [st9_arg5] <;> rfl
theorem st10_arg7 (V0 : Valuation τ sig (Elt F)) : st10 V0 (no_index (Proc.devRef .tc main_arg7)) = V0 (Proc.devRef .tc main_arg7) := by
  unfold st10
  after_reads_simp
  simp only [st9_arg7] <;> rfl
theorem st10_arg8 (V0 : Valuation τ sig (Elt F)) : st10 V0 (no_index (Proc.devRef .tc main_arg8)) = V0 (Proc.devRef .tc main_arg8) := by
  unfold st10
  after_reads_simp
  simp only [st9_arg8] <;> rfl
theorem st10_arg9 (V0 : Valuation τ sig (Elt F)) : st10 V0 (no_index (Proc.devRef .tc main_arg9)) = V0 (Proc.devRef .tc main_arg9) := by
  unfold st10
  after_reads_simp
  simp only [st9_arg9] <;> rfl
theorem st10_v156 (V0 : Valuation τ sig (Elt F)) : st10 V0 (no_index (Proc.devRef .tc main_v156)) = k_v156 V0 := by
  unfold st10
  after_reads_simp
  simp only [st9_v156] <;> rfl
theorem st10_v157 (V0 : Valuation τ sig (Elt F)) : st10 V0 (no_index (Proc.devRef .tc main_v157)) = k_v157 V0 := by
  unfold st10
  after_reads_simp
  simp only [st9_v145] <;> rfl
theorem st10_v158 (V0 : Valuation τ sig (Elt F)) : st10 V0 (no_index (Proc.devRef .tc main_v158)) = k_v158 V0 := by
  unfold st10
  after_reads_simp
  simp only [st9_v151] <;> rfl
theorem st10_v159 (V0 : Valuation τ sig (Elt F)) : st10 V0 (no_index (Proc.devRef .tc main_v159)) = k_v159 V0 := by
  unfold st10
  after_reads_simp
  simp only [st9_v75] <;> rfl
theorem st10_v160 (V0 : Valuation τ sig (Elt F)) : st10 V0 (no_index (Proc.devRef .tc main_v160)) = k_v160 V0 := by
  unfold st10
  after_reads_simp
  simp only [st9_v119] <;> rfl
theorem st10_v161 (V0 : Valuation τ sig (Elt F)) : st10 V0 (no_index (Proc.devRef .tc main_v161)) = k_v161 V0 := by
  unfold st10
  after_reads_simp
  simp only [st9_v125] <;> rfl
theorem st10_v162 (V0 : Valuation τ sig (Elt F)) : st10 V0 (no_index (Proc.devRef .tc main_v162)) = k_v162 V0 := by
  unfold st10
  after_reads_simp
  simp only [st9_v121] <;> rfl
/-- The contents after the first 212 operations. -/
def st11 (V0 : Valuation τ sig (Elt F)) : Valuation τ sig (Elt F) := after ((line.drop 211).take 1) (st10 V0)
theorem st11_arg0 (V0 : Valuation τ sig (Elt F)) : st11 V0 (no_index (Proc.devRef .tc main_arg0)) = V0 (Proc.devRef .tc main_arg0) := by
  unfold st11
  after_reads_simp
  simp only [st10_arg0] <;> rfl
theorem st11_arg5 (V0 : Valuation τ sig (Elt F)) : st11 V0 (no_index (Proc.devRef .tc main_arg5)) = V0 (Proc.devRef .tc main_arg5) := by
  unfold st11
  after_reads_simp
  simp only [st10_arg5] <;> rfl
theorem st11_arg7 (V0 : Valuation τ sig (Elt F)) : st11 V0 (no_index (Proc.devRef .tc main_arg7)) = V0 (Proc.devRef .tc main_arg7) := by
  unfold st11
  after_reads_simp
  simp only [st10_arg7] <;> rfl
theorem st11_arg8 (V0 : Valuation τ sig (Elt F)) : st11 V0 (no_index (Proc.devRef .tc main_arg8)) = V0 (Proc.devRef .tc main_arg8) := by
  unfold st11
  after_reads_simp
  simp only [st10_arg8] <;> rfl
theorem st11_arg9 (V0 : Valuation τ sig (Elt F)) : st11 V0 (no_index (Proc.devRef .tc main_arg9)) = V0 (Proc.devRef .tc main_arg9) := by
  unfold st11
  after_reads_simp
  simp only [st10_arg9] <;> rfl
theorem st11_v156 (V0 : Valuation τ sig (Elt F)) : st11 V0 (no_index (Proc.devRef .tc main_v156)) = k_v156 V0 := by
  unfold st11
  after_reads_simp
  simp only [st10_v156] <;> rfl
theorem st11_v163 (V0 : Valuation τ sig (Elt F)) : st11 V0 (no_index (Proc.devRef .tc main_v163)) = k_v163 V0 := by
  unfold k_v163
  rw [← st10_v157 V0, ← st10_v158 V0, ← st10_v159 V0, ← st10_v160 V0, ← st10_v161 V0, ← st10_v162 V0]
  rfl
/-- The contents after the first 239 operations. -/
def st12 (V0 : Valuation τ sig (Elt F)) : Valuation τ sig (Elt F) := after ((line.drop 212).take 27) (st11 V0)
theorem st12_arg0 (V0 : Valuation τ sig (Elt F)) : st12 V0 (no_index (Proc.devRef .tc main_arg0)) = V0 (Proc.devRef .tc main_arg0) := by
  unfold st12
  after_reads_simp
  simp only [st11_arg0] <;> rfl
theorem st12_arg8 (V0 : Valuation τ sig (Elt F)) : st12 V0 (no_index (Proc.devRef .tc main_arg8)) = V0 (Proc.devRef .tc main_arg8) := by
  unfold st12
  after_reads_simp
  simp only [st11_arg8] <;> rfl
theorem st12_v156 (V0 : Valuation τ sig (Elt F)) : st12 V0 (no_index (Proc.devRef .tc main_v156)) = k_v156 V0 := by
  unfold st12
  after_reads_simp
  simp only [st11_v156] <;> rfl
theorem st12_v163 (V0 : Valuation τ sig (Elt F)) : st12 V0 (no_index (Proc.devRef .tc main_v163)) = k_v163 V0 := by
  unfold st12
  after_reads_simp
  simp only [st11_v163] <;> rfl
theorem st12_v167 (V0 : Valuation τ sig (Elt F)) : st12 V0 (no_index (Proc.devRef .tc main_v167)) = k_v167 V0 := by
  unfold st12
  after_reads_simp
  simp only [st11_arg5, st11_arg7, st11_arg9] <;> rfl
theorem st12_v185 (V0 : Valuation τ sig (Elt F)) : st12 V0 (no_index (Proc.devRef .tc main_v185)) = k_v185 V0 := by
  unfold st12
  after_reads_simp
  simp only [st11_arg5, st11_arg7, st11_arg9] <;> rfl
/-- The contents after the first 269 operations. -/
def st13 (V0 : Valuation τ sig (Elt F)) : Valuation τ sig (Elt F) := after ((line.drop 239).take 30) (st12 V0)
theorem st13_arg0 (V0 : Valuation τ sig (Elt F)) : st13 V0 (no_index (Proc.devRef .tc main_arg0)) = V0 (Proc.devRef .tc main_arg0) := by
  unfold st13
  after_reads_simp
  simp only [st12_arg0] <;> rfl
theorem st13_v156 (V0 : Valuation τ sig (Elt F)) : st13 V0 (no_index (Proc.devRef .tc main_v156)) = k_v156 V0 := by
  unfold st13
  after_reads_simp
  simp only [st12_v156] <;> rfl
theorem st13_v163 (V0 : Valuation τ sig (Elt F)) : st13 V0 (no_index (Proc.devRef .tc main_v163)) = k_v163 V0 := by
  unfold st13
  after_reads_simp
  simp only [st12_v163] <;> rfl
theorem st13_v205 (V0 : Valuation τ sig (Elt F)) : st13 V0 (no_index (Proc.devRef .tc main_v205)) = k_v205 V0 := by
  unfold st13
  after_reads_simp
  simp only [st12_arg8] <;> rfl
theorem st13_v206 (V0 : Valuation τ sig (Elt F)) : st13 V0 (no_index (Proc.devRef .tc main_v206)) = k_v206 V0 := by
  unfold st13
  after_reads_simp
  simp only [st12_v167, st12_v185] <;> rfl
theorem st13_v207 (V0 : Valuation τ sig (Elt F)) : st13 V0 (no_index (Proc.devRef .tc main_v207)) = k_v207 V0 := by
  unfold st13
  after_reads_simp
  simp only [st12_v185] <;> rfl
theorem st13_v208 (V0 : Valuation τ sig (Elt F)) : st13 V0 (no_index (Proc.devRef .tc main_v208)) = k_v208 V0 := by
  unfold st13
  after_reads_simp
  simp only [st12_v185] <;> rfl
/-- The contents after the first 270 operations. -/
def st14 (V0 : Valuation τ sig (Elt F)) : Valuation τ sig (Elt F) := after ((line.drop 269).take 1) (st13 V0)
theorem st14_arg0 (V0 : Valuation τ sig (Elt F)) : st14 V0 (no_index (Proc.devRef .tc main_arg0)) = V0 (Proc.devRef .tc main_arg0) := by
  unfold st14
  after_reads_simp
  simp only [st13_arg0] <;> rfl
theorem st14_v156 (V0 : Valuation τ sig (Elt F)) : st14 V0 (no_index (Proc.devRef .tc main_v156)) = k_v156 V0 := by
  unfold st14
  after_reads_simp
  simp only [st13_v156] <;> rfl
theorem st14_v163 (V0 : Valuation τ sig (Elt F)) : st14 V0 (no_index (Proc.devRef .tc main_v163)) = k_v163 V0 := by
  unfold st14
  after_reads_simp
  simp only [st13_v163] <;> rfl
theorem st14_v209 (V0 : Valuation τ sig (Elt F)) : st14 V0 (no_index (Proc.devRef .tc main_v209)) = k_v209 V0 := by
  unfold k_v209
  rw [← st13_v205 V0, ← st13_v206 V0, ← st13_v207 V0, ← st13_v208 V0]
  rfl
/-- The contents after the first 271 operations. -/
def st15 (V0 : Valuation τ sig (Elt F)) : Valuation τ sig (Elt F) := after ((line.drop 270).take 1) (st14 V0)
theorem st15_v156 (V0 : Valuation τ sig (Elt F)) : st15 V0 (no_index (Proc.devRef .tc main_v156)) = k_v156 V0 := by
  unfold st15
  after_reads_simp
  simp only [st14_v156] <;> rfl
theorem st15_v163 (V0 : Valuation τ sig (Elt F)) : st15 V0 (no_index (Proc.devRef .tc main_v163)) = k_v163 V0 := by
  unfold st15
  after_reads_simp
  simp only [st14_v163] <;> rfl
theorem st15_v209 (V0 : Valuation τ sig (Elt F)) : st15 V0 (no_index (Proc.devRef .tc main_v209)) = k_v209 V0 := by
  unfold st15
  after_reads_simp
  simp only [st14_v209] <;> rfl
theorem st15_v210 (V0 : Valuation τ sig (Elt F)) : st15 V0 (no_index (Proc.devRef .tc main_v210)) = k_v210 V0 := by
  unfold st15
  after_reads_simp
  simp only [st14_arg0] <;> rfl

/-- The host line is the windows in order. -/
theorem after_line (V0 : Valuation τ sig (Elt F)) : after line V0 = st15 V0 := by
  unfold st15 st14 st13 st12 st11 st10 st9 st8 st7 st6 st5 st4 st3 st2 st1 st0
  rfl

end Cert.KernelIdeal.Host
-- ==== Proof.Powers.lean ====
module

public import proofs.«01_k».proof.Proof.Words

@[expose] public section

noncomputable section

namespace Cert.Scalar

open Idealize.ShloMosaic

/-! Powers of two written two ways, and the binary exponent of a number as a count of the powers not above it. -/

/-- The kernel's power of two: the float whose exponent field is `n + 127`. -/
def pow2K (n : BitVec 32) : EReal := Ideal.ofBits .f32 (IntOp.shli .host (IntOp.addi n 127#32) 23#32)

/-- The reference's power of two: two raised to the number. -/
def powR (n : BitVec 32) : EReal := Ideal.pow (Ideal.ofBits .f32 0x40000000#32) (((n.toInt : ℤ) : ℝ) : EReal)

/-- The float with exponent field `n + 127` is `2^n`, for `n` from -126 to 127. -/
theorem pow2K_eq (n : BitVec 32) (h1 : -126 ≤ n.toInt) (h2 : n.toInt ≤ 127) : pow2K n = (((2 : ℝ) ^ n.toInt : ℝ) : EReal) := by
  have hu : ((IntOp.shli .host (IntOp.addi n 127#32) 23#32).toNat : ℤ) = (n.toInt + 127) * 2 ^ 23 := by
    unfold IntOp.shli IntOp.addi
    rw [if_pos (by decide)]
    rw [BitVec.shiftLeft_eq', BitVec.toNat_shiftLeft, Nat.shiftLeft_eq]
    rw [BitVec.toInt_eq_toNat_cond] at h1 h2 ⊢
    have := n.isLt
    simp only [BitVec.toNat_add, BitVec.toNat_ofNat, show (2 : ℕ) ^ (23 % 2 ^ 32) = 8388608 by norm_num]
    split at h1 <;> split <;> omega
  set u := IntOp.shli .host (IntOp.addi n 127#32) 23#32 with hud
  unfold pow2K
  rw [← hud, ofBits_normal u (by omega) (by omega)]
  congr 1
  have hm : u.toNat % 2 ^ 23 = 0 := by omega
  have hd : ((u.toNat / 2 ^ 23 : ℕ) : ℤ) - 150 = n.toInt - 23 := by omega
  rw [hm, hd, zpow_sub₀ (by norm_num)]
  norm_num
  ring

/-- The float pattern of two. -/
theorem ofBits_two : Ideal.ofBits .f32 0x40000000#32 = ((2 : ℝ) : EReal) := by
  rw [ofBits_normal _ (by norm_num) (by norm_num)]
  norm_num

/-- Two raised to a whole number is the power of two. -/
theorem powR_eq (n : BitVec 32) : powR n = (((2 : ℝ) ^ n.toInt : ℝ) : EReal) := by
  unfold powR
  rw [ofBits_two, Ideal.pow_coe_coe]
  congr 1
  exact Real.rpow_intCast 2 n.toInt

/-- The binary exponent of `x`: how many of the powers `2^-126 … 2^126` are at most `|x|`, less 126. -/
def expo (x : EReal) : BitVec 32 :=
  BitVec.ofNat 32 (Finset.univ.filter fun j : Fin 253 => (((2 : ℝ) ^ (((j : ℕ) : ℤ) - 126) : ℝ) : EReal) ≤ max x (-x)).card - 126#32

/-- A downward closed set of the first `n` numbers is the numbers below its size. -/
theorem card_filter_lt {n : ℕ} (p : Fin n → Prop) [DecidablePred p] (hp : ∀ i j, i ≤ j → p j → p i) (j : Fin n) :
    (j : ℕ) < (Finset.univ.filter p).card ↔ p j := by
  constructor
  · intro h
    by_contra hn
    have : (Finset.univ.filter p) ⊆ Finset.Iio j := by
      intro i hi
      rw [Finset.mem_filter] at hi
      rw [Finset.mem_Iio]
      by_contra hc
      exact hn (hp j i (not_lt.1 hc) hi.2)
    have := Finset.card_le_card this
    rw [Fin.card_Iio] at this
    omega
  · intro h
    have : Finset.Iic j ⊆ (Finset.univ.filter p) := by
      intro i hi
      rw [Finset.mem_filter]
      exact ⟨Finset.mem_univ _, hp i j (Finset.mem_Iic.1 hi) h⟩
    have := Finset.card_le_card this
    rw [Fin.card_Iic] at this
    omega

/-- The exponent's value is that count less 126. -/
theorem expo_toInt (x : EReal) :
    (expo x).toInt = ((Finset.univ.filter fun j : Fin 253 => (((2 : ℝ) ^ (((j : ℕ) : ℤ) - 126) : ℝ) : EReal) ≤ max x (-x)).card : ℤ) - 126 := by
  have hc := Finset.card_filter_le (Finset.univ : Finset (Fin 253)) fun j : Fin 253 => (((2 : ℝ) ^ (((j : ℕ) : ℤ) - 126) : ℝ) : EReal) ≤ max x (-x)
  rw [Finset.card_univ, Fintype.card_fin] at hc
  unfold expo
  generalize (Finset.univ.filter fun j : Fin 253 => (((2 : ℝ) ^ (((j : ℕ) : ℤ) - 126) : ℝ) : EReal) ≤ max x (-x)).card = N at hc ⊢
  have h1 : (BitVec.ofNat 32 N).toInt = N := WordArith.toInt_ofNat_small N (by omega)
  have h2 : (126#32 : BitVec 32).toInt = 126 := by decide
  rw [WordArith.toInt_sub_of_bounds _ _ (by rw [h1, h2]; omega) (by rw [h1, h2]; omega), h1, h2]

/-- The exponent always lies between -126 and 127. -/
theorem expo_bounds (x : EReal) : -126 ≤ (expo x).toInt ∧ (expo x).toInt ≤ 127 := by
  have hc := Finset.card_filter_le (Finset.univ : Finset (Fin 253)) fun j : Fin 253 => (((2 : ℝ) ^ (((j : ℕ) : ℤ) - 126) : ℝ) : EReal) ≤ max x (-x)
  rw [Finset.card_univ, Fintype.card_fin] at hc
  rw [expo_toInt]
  omega

/-- A whole number from -126 to 126 is below the exponent of a real number exactly when its power of two is at most the
number's size. -/
theorem lt_expo (x : ℝ) (j : ℤ) (h1 : -126 ≤ j) (h2 : j ≤ 126) : j < (expo (x : EReal)).toInt ↔ (2 : ℝ) ^ j ≤ |x| := by
  rw [expo_toInt]
  have hp : ∀ i k : Fin 253, i ≤ k → (((2 : ℝ) ^ (((k : ℕ) : ℤ) - 126) : ℝ) : EReal) ≤ max (x : EReal) (-(x : EReal)) →
      (((2 : ℝ) ^ (((i : ℕ) : ℤ) - 126) : ℝ) : EReal) ≤ max (x : EReal) (-(x : EReal)) := by
    intro i k hik h
    refine le_trans (EReal.coe_le_coe_iff.2 (zpow_le_zpow_right₀ (by norm_num) ?_)) h
    have : (i : ℕ) ≤ (k : ℕ) := hik
    omega
  have hq := card_filter_lt _ hp ⟨(j + 126).toNat, by omega⟩
  have hm : max (x : EReal) (-(x : EReal)) = ((|x| : ℝ) : EReal) := by
    rw [← EReal.coe_neg, ← EReal.coe_strictMono.monotone.map_max]; rfl
  rw [hm] at hq ⊢
  have he : (((⟨(j + 126).toNat, by omega⟩ : Fin 253) : ℕ) : ℤ) - 126 = j := by simp only; omega
  rw [he, EReal.coe_le_coe_iff] at hq
  rw [← hq]
  simp only
  omega

end Cert.Scalar
-- ==== Proof.Expo.lean ====
module

public import proofs.«01_k».proof.Proof.Powers
public import Idealize.ShloMosaic.Lib.IdealHost
public import Idealize.ShloMosaic.Lib.Pointwise
public import Idealize.ShloMosaic.Lib.IndicatorCount

@[expose] public section

noncomputable section

namespace Cert.Scalar

open Idealize.ShloMosaic

/-! The host's exponents: a row of 253 comparisons, summed. -/

/-- The sum of a row's comparisons of `|x|` with the powers of two, less 126, is the exponent of `x`. -/
theorem reduce_expo {N : ℕ} (hr : (⟨2, ![N, 253]⟩ : Shape).ReducesTo [1] ⟨1, ![N]⟩) (hu : 0 < (⟨0, ![]⟩ : Shape).numel) (hlt : 1 < 32)
    (X P : (⟨2, ![N, 253]⟩ : Shape).Idx → Elt Ideal .f32) (i : (⟨1, ![N]⟩ : Shape).Idx) (x : EReal)
    (hX : ∀ j : Fin 253, X (ix2 (i 0) j) = max x (-x))
    (hP : ∀ j : Fin 253, P (ix2 (i 0) j) = (((2 : ℝ) ^ (((j : ℕ) : ℤ) - 126) : ℝ) : EReal)) :
    IntOp.subi (Host.reduce IntOp.addi (extui 32 (cmpf (F := Ideal) (φ := .f32) .oge X P) hlt) (constantI ⟨0, ![]⟩ 32 0#32) hr hu i) 126#32 = expo x := by
  unfold expo IntOp.subi
  congr 1
  rw [Host.reduce_eq_fold, Shape.ReducesTo.fold_fiber_r2_a1]
  refine (IndicatorCount.fold_addi_setWidth_eq_card (fun j : Fin 253 => cmpf (F := Ideal) (φ := .f32) .oge X P (ix2 (i 0) j)) Finset.univ).trans ?_
  congr 2
  apply Finset.filter_congr
  intro j _
  show BitVec.ofBool (decide (P (ix2 (i 0) j) ≤ X (ix2 (i 0) j))) = 1#1 ↔ _
  rw [hX, hP]
  by_cases hc : (((2 : ℝ) ^ (((j : ℕ) : ℤ) - 126) : ℝ) : EReal) ≤ max x (-x)
  · rw [decide_eq_true hc]; exact ⟨fun _ => hc, fun _ => rfl⟩
  · rw [decide_eq_false hc]; exact ⟨fun h => absurd h (by decide), fun h => absurd h hc⟩

/-- A column broadcast along the row reads its own entry. -/
theorem bcast_col {α : Type} {N M : ℕ} (hN : N ≠ 1) (h1 : (⟨2, ![N, 1]⟩ : Shape).BroadcastsInDim ⟨2, ![N, M]⟩ ![0, 1])
    (h2 : (⟨1, ![N]⟩ : Shape).BroadcastsInDim ⟨2, ![N, 1]⟩ ![0]) (x : (⟨1, ![N]⟩ : Shape).Idx → α) (i : (⟨1, ![N]⟩ : Shape).Idx) (j : Fin M) :
    broadcastInDim ⟨2, ![N, M]⟩ ![0, 1] h1 (broadcastInDim ⟨2, ![N, 1]⟩ ![0] h2 x) (ix2 (i 0) j) = x i := by
  unfold broadcastInDim
  congr 1
  funext a
  match a with
  | ⟨0, _⟩ => simp [hN]

/-- A row broadcast down the columns reads its own entry. -/
theorem bcast_row {α : Type} {N M : ℕ} (hM : M ≠ 1) (h1 : (⟨2, ![1, M]⟩ : Shape).BroadcastsInDim ⟨2, ![N, M]⟩ ![0, 1])
    (h2 : (⟨1, ![M]⟩ : Shape).BroadcastsInDim ⟨2, ![1, M]⟩ ![1]) (x : (⟨1, ![M]⟩ : Shape).Idx → α) (i : Fin N) (j : Fin M) :
    broadcastInDim ⟨2, ![N, M]⟩ ![0, 1] h1 (broadcastInDim ⟨2, ![1, M]⟩ ![1] h2 x) (ix2 i j) = x (ix1 j) := by
  unfold broadcastInDim
  congr 1
  funext a
  match a with
  | ⟨0, _⟩ => simp [hM]; rfl

/-- The kernel's power at position `j`. -/
theorem pow2K_pos (j : Fin 253) : pow2K (IntOp.subi (BitVec.ofNat 32 (j : ℕ)) 126#32) = (((2 : ℝ) ^ (((j : ℕ) : ℤ) - 126) : ℝ) : EReal) := by
  have h : (IntOp.subi (BitVec.ofNat 32 (j : ℕ)) 126#32).toInt = ((j : ℕ) : ℤ) - 126 := by revert j; decide
  have := j.isLt
  rw [pow2K_eq _ (by omega) (by omega), h]

/-- The reference's power at position `j`. -/
theorem powR_pos (j : Fin 253) : powR (IntOp.addi 4294967170#32 (BitVec.ofNat 32 (j : ℕ))) = (((2 : ℝ) ^ (((j : ℕ) : ℤ) - 126) : ℝ) : EReal) := by
  have h : (IntOp.addi 4294967170#32 (BitVec.ofNat 32 (j : ℕ))).toInt = ((j : ℕ) : ℤ) - 126 := by revert j; decide
  rw [powR_eq, h]

end Cert.Scalar
-- ==== Proof.Gate.lean ====
module

public import proofs.«01_k».proof.Proof.Gelu

@[expose] public section

noncomputable section

namespace Cert.Scalar

open Idealize.ShloMosaic WordArith

/-- The distance is between the bound and zero. -/
theorem dist_bounds (q t b : ℤ) (hb1 : -1000 ≤ b) (hb2 : b ≤ 0) : -1000 ≤ min (shifted q t) (-b) + b ∧ min (shifted q t) (-b) + b ≤ 0 := by
  have := shifted_nonneg q t
  omega

/-- The word of a signed value is the word. -/
theorem ofInt_toInt' (q : BitVec 32) : BitVec.ofInt 32 q.toInt = q := BitVec.ofInt_toInt

/-- The rounded size of an integer float as a word. -/
theorem absK_eq (q : ℤ) (h : |q| < 2 ^ 31) :
    Ideal.fptosi 32 (Ideal.liftRound Ideal.roundHalfEven (max (((q : ℝ)) : EReal) (-((q : ℝ) : EReal)))) = BitVec.ofInt 32 |q| := by
  have hm : max ((q : ℝ) : EReal) (-((q : ℝ) : EReal)) = (((|q| : ℤ) : ℝ) : EReal) := by
    rw [← EReal.coe_neg, ← EReal.coe_strictMono.monotone.map_max, Int.cast_abs]; rfl
  have h0 := abs_nonneg q
  rw [hm, Ideal.liftRound_coe, roundHalfEven_int, fptosi_int _ (by omega) (by omega)]

/-- The kernel's constants with the sign folded in. -/
def cpK (c n one : BitVec 32) : BitVec 32 := IntOp.addi c (IntOp.shli .host one n)

/-- The kernel's constant below zero. -/
def cnK (c n one : BitVec 32) : BitVec 32 :=
  IntOp.subi (IntOp.addi (IntOp.subi c 1#32) (IntOp.shli .host 1#32 n)) (IntOp.shli .host one n)

section

variable {c n one : BitVec 32} (hc1 : -2 ^ 20 ≤ c.toInt) (hc2 : c.toInt ≤ 0) (hn : n.toNat ≤ 10) (ho1 : -1024 ≤ one.toInt) (ho2 : one.toInt ≤ 0)

/-- A small power of two. -/
theorem pow_bounds {k : ℕ} (hn : k ≤ 10) : (1 : ℤ) ≤ 2 ^ k ∧ (2 : ℤ) ^ k ≤ 1024 :=
  ⟨one_le_pow₀ (by norm_num), le_trans (pow_le_pow_right₀ (by norm_num) hn) (by norm_num)⟩

include hn ho1 ho2 in
/-- The shifted unit. -/
theorem one_n_toInt : (IntOp.shli .host one n).toInt = one.toInt * 2 ^ n.toNat := by
  have hp := pow_bounds hn
  apply shli_toInt _ _ _ (by omega)
  · norm_num; nlinarith
  · norm_num; nlinarith

include hc1 hc2 hn ho1 ho2 in
/-- The constant above zero as a whole number. -/
theorem cpK_toInt : (cpK c n one).toInt = c.toInt + one.toInt * 2 ^ n.toNat := by
  have hp := pow_bounds hn
  have h1 := one_n_toInt hn ho1 ho2
  have h3 : -1048576 ≤ one.toInt * 2 ^ n.toNat := by nlinarith
  have h4 : one.toInt * 2 ^ n.toNat ≤ 0 := by nlinarith
  unfold cpK
  show (_ + _ : BitVec 32).toInt = _
  rw [toInt_add_of_bounds _ _ (by rw [h1]; norm_num at hc1 ⊢; omega) (by rw [h1]; norm_num; omega), h1]

include hc1 hc2 hn ho1 ho2 in
/-- The constant below zero as a whole number. -/
theorem cnK_toInt : (cnK c n one).toInt = c.toInt - 1 + 2 ^ n.toNat - one.toInt * 2 ^ n.toNat := by
  have hp := pow_bounds hn
  have h1 := one_n_toInt hn ho1 ho2
  have h2 : (IntOp.shli .host 1#32 n).toInt = 2 ^ n.toNat := by
    have : (1#32 : BitVec 32).toInt = 1 := by decide
    rw [shli_toInt _ _ _ (by omega) (by rw [this]; norm_num; omega) (by rw [this]; norm_num; omega), this, one_mul]
  have h3 : -1048576 ≤ one.toInt * 2 ^ n.toNat := by nlinarith
  have h4 : one.toInt * 2 ^ n.toNat ≤ 0 := by nlinarith
  have e1 : (1#32 : BitVec 32).toInt = 1 := by decide
  have a1 : (IntOp.subi c 1#32).toInt = c.toInt - 1 := by
    show (_ - _ : BitVec 32).toInt = _
    rw [toInt_sub_of_bounds _ _ (by rw [e1]; norm_num at hc1 ⊢; omega) (by rw [e1]; norm_num; omega), e1]
  have a2 : (IntOp.addi (IntOp.subi c 1#32) (IntOp.shli .host 1#32 n)).toInt = c.toInt - 1 + 2 ^ n.toNat := by
    show (_ + _ : BitVec 32).toInt = _
    rw [toInt_add_of_bounds _ _ (by rw [a1, h2]; norm_num at hc1 ⊢; omega) (by rw [a1, h2]; norm_num; omega), a1, h2]
  unfold cnK
  show (_ - _ : BitVec 32).toInt = _
  rw [toInt_sub_of_bounds _ _ (by rw [a2, h1]; norm_num at hc1 ⊢; omega) (by rw [a2, h1]; norm_num at hc1 ⊢; omega), a2, h1]

end

/-- **The gate.** The kernel's gated value is the reference's, for an accumulator word `q` and a column's parameters in range. -/
theorem gate_eq (q t b c n one : BitVec 32) (hq : |q.toInt| ≤ 2 ^ 24 - 1) (ht : -7 ≤ t.toInt) (hb1 : -1000 ≤ b.toInt) (hb2 : b.toInt ≤ 0)
    (hc1 : -2 ^ 20 ≤ c.toInt) (hc2 : c.toInt ≤ 0) (hn : n.toNat ≤ 10) (ho1 : -1024 ≤ one.toInt) (ho2 : one.toInt ≤ 0) :
    gK ((q.toInt : ℝ) : EReal) (((2 : ℝ) ^ (-t.toInt) : ℝ) : EReal) ((clampR t.toInt b.toInt : ℝ) : EReal) (cpK c n one) (cnK c n one) n
      = gR q t b c n one := by
  have hq' : |q.toInt| < 2 ^ 31 := by norm_num at hq ⊢; omega
  unfold gK gR
  rw [absK_eq _ hq']
  rcases eq_or_ne q.toInt 0 with hz | hz
  · have : q = 0 := by rw [← ofInt_toInt' q, hz]; rfl
    subst this
    rw [hz]
    simp [IntOp.muli]
  have hqz : q ≠ 0 := by rintro rfl; exact hz rfl
  have hcp := cpK_toInt hc1 hc2 hn ho1 ho2
  have hcn := cnK_toInt hc1 hc2 hn ho1 ho2
  have hD := dR_toInt q t b hq ht hb1 hb2
  have hB := dist_bounds q.toInt t.toInt b.toInt hb1 hb2
  unfold eK eR
  rw [dK_eq _ _ _ hb1 hb2, select_olt]
  generalize hDD : min (shifted q.toInt t.toInt) (-b.toInt) + b.toInt = D at *
  have hp := pow_bounds hn
  have hp0 : (0 : ℤ) < 2 ^ n.toNat := by positivity
  have hDk : (BitVec.ofInt 32 (-D)).toInt = -D := toInt_ofInt32 _ (by omega) (by omega)
  have hDD0 : (0 : ℤ) ≤ D * D := mul_self_nonneg D
  have hDD1 : D * D ≤ 1000000 := by nlinarith [hB.1, hB.2]
  have hmk : (IntOp.muli (BitVec.ofInt 32 (-D)) (BitVec.ofInt 32 (-D))).toInt = D * D := by
    show (_ * _ : BitVec 32).toInt = _
    rw [toInt_mul_of_bounds _ _ (by rw [hDk, neg_mul_neg]; norm_num; omega) (by rw [hDk, neg_mul_neg]; norm_num; omega), hDk, neg_mul_neg]
  have hmr : (IntOp.muli (dR q t b) (dR q t b)).toInt = D * D := by
    show (_ * _ : BitVec 32).toInt = _
    rw [toInt_mul_of_bounds _ _ (by rw [hD]; norm_num; omega) (by rw [hD]; norm_num; omega), hD]
  have hP : (IntOp.addi (IntOp.muli (dR q t b) (dR q t b)) c).toInt = D * D + c.toInt := by
    show (_ + _ : BitVec 32).toInt = _
    norm_num at hc1
    rw [toInt_add_of_bounds _ _ (by rw [hmr]; norm_num; omega) (by rw [hmr]; norm_num; omega), hmr]
  set P := D * D + c.toInt with hPdef
  have hP1 : -2000000 ≤ P := by norm_num at hc1; omega
  have hP2 : P ≤ 2000000 := by omega
  have ho3 : -1048576 ≤ one.toInt * 2 ^ n.toNat := by nlinarith
  have ho4 : one.toInt * 2 ^ n.toNat ≤ 0 := by nlinarith
  norm_num at hc1
  have dvd_b : ∀ x : ℤ, -2000000 ≤ x → x ≤ 2000000 → -2000000 ≤ x / 2 ^ n.toNat ∧ x / 2 ^ n.toNat ≤ 2000000 := by
    intro x h1 h2
    constructor
    · rw [Int.le_ediv_iff_mul_le hp0]; nlinarith
    · exact Int.ediv_le_of_le_mul hp0 (by nlinarith)
  rcases lt_or_gt_of_ne hz with hs | hs
  · -- below zero: both factors are the negative of the other
    rw [if_pos hs, abs_of_neg hs]
    have hsg : (sgn q) = -1#32 := by
      unfold sgn
      rw [if_neg hqz, BitVec.msb_eq_toInt, if_pos (by simpa using hs)]; rfl
    have m1 : (IntOp.muli (-1#32) (IntOp.addi (IntOp.muli (dR q t b) (dR q t b)) c)).toInt = -P := by
      have e1 : (-1#32 : BitVec 32).toInt = -1 := by decide
      show (_ * _ : BitVec 32).toInt = _
      rw [toInt_mul_of_bounds _ _ (by rw [e1, hP]; norm_num; omega) (by rw [e1, hP]; norm_num; omega), e1, hP]; ring
    have r1 : (IntOp.addi (IntOp.shrsi .host (IntOp.muli (-1#32) (IntOp.addi (IntOp.muli (dR q t b) (dR q t b)) c)) n) one).toInt
        = (-P) / 2 ^ n.toNat + one.toInt := by
      have hb := dvd_b (-P) (by omega) (by omega)
      have hsr : (IntOp.shrsi .host (IntOp.muli (-1#32) (IntOp.addi (IntOp.muli (dR q t b) (dR q t b)) c)) n).toInt = (-P) / 2 ^ n.toNat := by
        rw [shrsi_toInt, m1]
      show (_ + _ : BitVec 32).toInt = _
      rw [toInt_add_of_bounds _ _ (by rw [hsr]; norm_num; omega) (by rw [hsr]; norm_num; omega), hsr]
    have k0 : (IntOp.addi (IntOp.muli (BitVec.ofInt 32 (-D)) (BitVec.ofInt 32 (-D))) (cnK c n one)).toInt
        = P - 1 + 2 ^ n.toNat - one.toInt * 2 ^ n.toNat := by
      show (_ + _ : BitVec 32).toInt = _
      rw [toInt_add_of_bounds _ _ (by rw [hmk, hcn]; norm_num; omega) (by rw [hmk, hcn]; norm_num; omega), hmk, hcn]; omega
    have k1 : (IntOp.shrsi .vector (IntOp.addi (IntOp.muli (BitVec.ofInt 32 (-D)) (BitVec.ofInt 32 (-D))) (cnK c n one)) n).toInt
        = -((-P) / 2 ^ n.toNat + one.toInt) := by
      rw [shrsi_toInt, k0]
      generalize (2 : ℤ) ^ n.toNat = T at *
      have hd := Int.mul_ediv_add_emod (-P) T
      have h0 := Int.emod_nonneg (-P) hp0.ne'
      have h1 := Int.emod_lt_of_pos (-P) hp0
      rw [show P - 1 + T - one.toInt * T = (T - 1 - (-P) % T) + T * (-((-P) / T) - one.toInt) by linear_combination hd]
      rw [Int.add_mul_ediv_left _ _ hp0.ne', Int.ediv_eq_zero_of_lt (by omega) (by omega)]
      ring
    rw [hsg]
    have hk : IntOp.shrsi .vector (IntOp.addi (IntOp.muli (BitVec.ofInt 32 (-D)) (BitVec.ofInt 32 (-D))) (cnK c n one)) n
        = -(IntOp.addi (IntOp.shrsi .host (IntOp.muli (-1#32) (IntOp.addi (IntOp.muli (dR q t b) (dR q t b)) c)) n) one) := by
      apply BitVec.eq_of_toInt_eq
      have hb := dvd_b (-P) (by omega) (by omega)
      rw [k1, neg_toInt _ (by rw [r1]; omega), r1]
    rw [hk, BitVec.ofInt_neg, ofInt_toInt']
    unfold IntOp.muli
    rw [neg_mul_neg]
  · -- above zero: the same factor
    rw [if_neg (by omega), abs_of_pos hs, ofInt_toInt']
    have hsg : (sgn q) = 1#32 := by
      unfold sgn
      rw [if_neg hqz, BitVec.msb_eq_toInt, if_neg (by simpa using hs.le)]; rfl
    rw [hsg]
    congr 1
    apply BitVec.eq_of_toInt_eq
    have m1 : IntOp.muli 1#32 (IntOp.addi (IntOp.muli (dR q t b) (dR q t b)) c) = IntOp.addi (IntOp.muli (dR q t b) (dR q t b)) c := by
      simp [IntOp.muli]
    have k0 : (IntOp.addi (IntOp.muli (BitVec.ofInt 32 (-D)) (BitVec.ofInt 32 (-D))) (cpK c n one)).toInt = P + 2 ^ n.toNat * one.toInt := by
      show (_ + _ : BitVec 32).toInt = _
      rw [toInt_add_of_bounds _ _ (by rw [hmk, hcp]; norm_num; omega) (by rw [hmk, hcp]; norm_num; omega), hmk, hcp, mul_comm one.toInt]; omega
    have hb := dvd_b P (by omega) (by omega)
    have hsr : (IntOp.shrsi .host (IntOp.addi (IntOp.muli (dR q t b) (dR q t b)) c) n).toInt = P / 2 ^ n.toNat := by rw [shrsi_toInt, hP]
    rw [shrsi_toInt, k0, Int.add_mul_ediv_left _ _ hp0.ne', m1]
    show _ = (_ + _ : BitVec 32).toInt
    rw [toInt_add_of_bounds _ _ (by rw [hsr]; norm_num; omega) (by rw [hsr]; norm_num; omega), hsr]

end Cert.Scalar
-- ==== Proof.Params.lean ====
module

public import proofs.«01_k».proof.Proof.Powers
public import proofs.«01_k».proof.Proof.Gate
public import Idealize.ShloMosaic.Lib.IdealHost

@[expose] public section

noncomputable section

namespace Cert.Scalar

open Idealize.ShloMosaic WordArith

/-! A column's parameters as functions of its scales, written once over the power of two `pw`, which the two programs
write differently; their ranges where the scales are in range, and that there the two powers give the same parameters. -/

/-- The erf polynomial's input scale. -/
def seOf (s : EReal) : EReal := Ideal.div s (Ideal.ofBits .f32 0x3FB50481#32)
/-- The shift that brings the input scale near `2^-8`. -/
def tOf (s : EReal) : BitVec 32 := IntOp.subi 4294967288#32 (expo (seOf s))

section
variable (pw : BitVec 32 → EReal)

/-- The shifted scale. -/
def e2Of (s : EReal) : EReal := seOf s * pw (tOf s)
/-- The polynomial's bound as a whole number. -/
def bOf (s : EReal) : BitVec 32 := Ideal.fptosi 32 (Ideal.liftRound Int.floor (Ideal.div (Ideal.ofBits .f32 0xBFE26E98#32) (e2Of pw s)))
/-- The polynomial's constant as a whole number. -/
def cOf (s : EReal) : BitVec 32 :=
  Ideal.fptosi 32 (Ideal.liftRound Int.floor (Ideal.div (Ideal.ofBits .f32 0xC05D9B4D#32) (e2Of pw s * e2Of pw s)))
/-- The polynomial's output scale. -/
def erf0Of (s : EReal) : EReal := e2Of pw s * e2Of pw s * Ideal.ofBits .f32 0xBE93DD98#32
/-- The shift that brings the output scale near `2^-9`. -/
def nOf (s : EReal) : BitVec 32 := IntOp.subi 4294967287#32 (expo (erf0Of pw s))
/-- The shifted output scale. -/
def erfOf (s : EReal) : EReal := erf0Of pw s * pw (nOf pw s)
/-- One as a whole number at that scale. -/
def oneOf (s : EReal) : BitVec 32 := Ideal.fptosi 32 (Ideal.liftRound Int.floor (Ideal.div (Ideal.ofBits .f32 0x3F800000#32) (erfOf pw s)))
/-- The first requantisation's factor. -/
def multOf (s h : EReal) : EReal := Ideal.div (s * erfOf pw s * Ideal.ofBits .f32 0x3F000000#32) h

end

/-- The kernel's mantissa of a factor. -/
def mK (x : EReal) : BitVec 32 :=
  Ideal.fptosi 32 (Ideal.liftRound Ideal.roundHalfEven (x * pow2K (-(expo x)) * Ideal.ofBits .f32 0x46800000#32))
/-- The reference's mantissa of a factor. -/
def mR (x : EReal) : BitVec 32 :=
  Ideal.fptosi 32 (Ideal.liftRound Ideal.roundHalfEven (Ideal.div x (powR (expo x)) * Ideal.ofBits .f32 0x46800000#32))

/-- The two mantissas agree. -/
theorem mK_eq (x : EReal) (h : (expo x).toInt ≤ 126) : mK x = mR x := by
  have hb := expo_bounds x
  have hn : (-(expo x)).toInt = -(expo x).toInt := neg_toInt _ (by omega)
  unfold mK mR
  rw [pow2K_eq _ (by omega) (by omega), powR_eq, hn, Ideal.div_coe (by positivity), zpow_neg, one_div]

/-! The constants. -/

theorem ofBits_sqrt2 : Ideal.ofBits .f32 0x3FB50481#32 = (((11863169 : ℝ) / 2 ^ 23 : ℝ) : EReal) := by
  rw [ofBits_normal _ (by norm_num) (by norm_num)]; norm_num
theorem ofBits_half : Ideal.ofBits .f32 0x3F000000#32 = ((1 / 2 : ℝ) : EReal) := by
  rw [ofBits_normal _ (by norm_num) (by norm_num)]; norm_num
theorem ofBits_one' : Ideal.ofBits .f32 0x3F800000#32 = ((1 : ℝ) : EReal) := by
  rw [ofBits_normal _ (by norm_num) (by norm_num)]; norm_num
theorem ofBits_256 : Ideal.ofBits .f32 0x43800000#32 = ((256 : ℝ) : EReal) := by
  rw [ofBits_normal _ (by norm_num) (by norm_num)]; norm_num
theorem ofBits_low : Ideal.ofBits .f32 0x01000000#32 = (((2 : ℝ) ^ (-125 : ℤ) : ℝ) : EReal) := by
  rw [ofBits_normal _ (by norm_num) (by norm_num)]; norm_num
/-- A pattern with the sign bit set denotes the negative. -/
theorem ofBits_neg (u : BitVec 32) (h1 : 2 ^ 23 ≤ u.toNat) (h2 : u.toNat < 255 * 2 ^ 23) (w : BitVec 32) (hw : w.toNat = u.toNat + 2 ^ 31) :
    Ideal.ofBits .f32 w = ((-(((2 ^ 23 + u.toNat % 2 ^ 23 : ℕ) : ℝ) * (2 : ℝ) ^ (((u.toNat / 2 ^ 23 : ℕ) : ℤ) - 150)) : ℝ) : EReal) := by
  have hs : w.extractLsb' 31 1 = 1#1 := by
    apply BitVec.eq_of_toNat_eq
    rw [BitVec.extractLsb'_toNat, hw]
    simp only [Nat.shiftRight_eq_div_pow]
    have : (u.toNat + 2 ^ 31) / 2 ^ 31 = 1 := by omega
    rw [this]; rfl
  have he : (w.extractLsb' 23 8).toNat = u.toNat / 2 ^ 23 := by
    rw [BitVec.extractLsb'_toNat, hw]
    simp only [Nat.shiftRight_eq_div_pow]
    omega
  have hf : (w.extractLsb' 0 23).toNat = u.toNat % 2 ^ 23 := by
    rw [BitVec.extractLsb'_toNat, hw]
    simp only [Nat.shiftRight_zero]
    omega
  unfold Ideal.ofBits Ideal.ieee
  simp only [hf, he, show (8 + 23 : ℕ) = 31 from rfl, hs]
  rw [if_neg (by omega), if_neg (by omega)]
  congr 1
  rw [if_pos (by decide)]
  rw [neg_one_mul, neg_mul]
  congr 3
  norm_num
  ring
theorem ofBits_cb : Ideal.ofBits .f32 0xBFE26E98#32 = ((-(14839448 / 2 ^ 23) : ℝ) : EReal) := by
  rw [ofBits_neg 0x3FE26E98#32 (by norm_num) (by norm_num) _ (by norm_num)]; norm_num
theorem ofBits_cc : Ideal.ofBits .f32 0xC05D9B4D#32 = ((-(14523213 / 2 ^ 22) : ℝ) : EReal) := by
  rw [ofBits_neg 0x405D9B4D#32 (by norm_num) (by norm_num) _ (by norm_num)]; norm_num
theorem ofBits_ca : Ideal.ofBits .f32 0xBE93DD98#32 = ((-(9690520 / 2 ^ 25) : ℝ) : EReal) := by
  rw [ofBits_neg 0x3E93DD98#32 (by norm_num) (by norm_num) _ (by norm_num)]; norm_num

/-- The exponent brackets the number. -/
theorem expo_spec (x : ℝ) (h1 : (2 : ℝ) ^ (-126 : ℤ) ≤ |x|) (h2 : |x| < (2 : ℝ) ^ (126 : ℤ)) :
    (2 : ℝ) ^ ((expo (x : EReal)).toInt - 1) ≤ |x| ∧ |x| < (2 : ℝ) ^ (expo (x : EReal)).toInt := by
  have a := (lt_expo x (-126) (by norm_num) (by norm_num)).2 h1
  have b : ¬ (126 : ℤ) < (expo (x : EReal)).toInt := fun h => absurd ((lt_expo x 126 (by norm_num) (by norm_num)).1 h) (not_le.2 h2)
  constructor
  · exact (lt_expo x _ (by omega) (by omega)).1 (by omega)
  · by_contra hc
    exact absurd ((lt_expo x _ (by omega) (by omega)).2 (not_lt.1 hc)) (lt_irrefl _)

/-- An upper bound of the exponent. -/
theorem expo_le (x : ℝ) (j : ℤ) (h1 : -126 ≤ j) (h2 : j ≤ 126) (h : |x| < (2 : ℝ) ^ j) : (expo (x : EReal)).toInt ≤ j := by
  by_contra hc
  exact absurd ((lt_expo x j h1 h2).1 (by omega)) (not_le.2 h)

/-- The floor of a real quotient as a word. -/
theorem floor_div (a b : ℝ) (hb : b ≠ 0) (h1 : -2 ^ 30 ≤ a / b) (h2 : a / b ≤ 2 ^ 30) :
    (Ideal.fptosi 32 (Ideal.liftRound Int.floor (Ideal.div ((a : ℝ) : EReal) ((b : ℝ) : EReal)))).toInt = ⌊a / b⌋ := by
  rw [Ideal.div_coe hb, ← EReal.coe_mul, Ideal.liftRound_coe, mul_one_div]
  have h3 : -2 ^ 30 ≤ ⌊a / b⌋ := Int.le_floor.2 (by push_cast; norm_num at h1 ⊢; exact h1)
  have h4 : ⌊a / b⌋ ≤ 2 ^ 30 := by
    have : ((⌊a / b⌋ : ℤ) : ℝ) ≤ ((2 ^ 30 : ℤ) : ℝ) := le_trans (Int.floor_le _) (by push_cast; norm_num at h2 ⊢; exact h2)
    exact_mod_cast this
  rw [fptosi_int _ (by omega) (by omega), toInt_ofInt32 _ (by omega) (by omega)]

/-- What a column's parameters satisfy. -/
structure InRange (s h : EReal) : Prop where
  ht1 : -7 ≤ (tOf s).toInt
  ht2 : (tOf s).toInt ≤ 117
  hb1 : -1000 ≤ (bOf powR s).toInt
  hb2 : (bOf powR s).toInt ≤ 0
  hc1 : -2 ^ 20 ≤ (cOf powR s).toInt
  hc2 : (cOf powR s).toInt ≤ 0
  hn1 : 8 ≤ (nOf powR s).toInt
  hn2 : (nOf powR s).toInt ≤ 10
  ho1 : -1024 ≤ (oneOf powR s).toInt
  ho2 : (oneOf powR s).toInt ≤ 0
  hm : (expo (multOf powR s h)).toInt ≤ -2

/-- A number whose quotient by `h` is bounded: the quotient is a product by a real number. -/
theorem div_real (s : ℝ) (h : EReal) (B : ℝ) (hd : max (Ideal.div (s : EReal) h) (-(Ideal.div (s : EReal) h)) ≤ (B : EReal)) :
    ∃ r : ℝ, |s * r| ≤ B ∧ ∀ x : ℝ, Ideal.div (x : EReal) h = ((x * r : ℝ) : EReal) := by
  have h0 : h ≠ 0 := by
    rintro rfl
    unfold Ideal.div at hd
    rw [if_pos rfl] at hd
    have : max (if 0 < (s : EReal) then (⊤ : EReal) else ⊥) (-(if 0 < (s : EReal) then (⊤ : EReal) else ⊥)) = ⊤ := by split <;> simp
    rw [this] at hd
    exact absurd hd (not_le.2 (EReal.coe_lt_top B))
  obtain ⟨r, hr⟩ : ∃ r : ℝ, h⁻¹ = (r : EReal) := by
    induction h with
    | bot => exact ⟨0, by simp⟩
    | top => exact ⟨0, by simp⟩
    | coe y => exact ⟨y⁻¹, (EReal.coe_inv y).symm⟩
  have hx : ∀ x : ℝ, Ideal.div (x : EReal) h = ((x * r : ℝ) : EReal) := by
    intro x
    unfold Ideal.div
    rw [if_neg h0, hr, EReal.coe_mul]
  refine ⟨r, ?_, hx⟩
  rw [hx, ← EReal.coe_neg, ← EReal.coe_strictMono.monotone.map_max, EReal.coe_le_coe_iff] at hd
  exact hd

/-- The shifted input scale: a real number between `2^-9` and `2^-8`, with the shift's range. -/
theorem scale_spec (s : ℝ) (h1 : (2 : ℝ) ^ (-125 : ℤ) ≤ s) (h2 : s ≤ 1 / 2) :
    -7 ≤ (tOf (s : EReal)).toInt ∧ (tOf (s : EReal)).toInt ≤ 117 ∧
    ∃ y : ℝ, e2Of powR (s : EReal) = (y : EReal) ∧ 1 / 512 ≤ y ∧ y < 1 / 256 := by
  set x : ℝ := s * (1 / (11863169 / 2 ^ 23)) with hx
  have hse : seOf (s : EReal) = (x : EReal) := by
    unfold seOf
    rw [ofBits_sqrt2, Ideal.div_coe (by norm_num), ← EReal.coe_mul]
  have hs0 : 0 < s := lt_of_lt_of_le (by positivity) h1
  have hx0 : 0 < x := by positivity
  have hxl : (2 : ℝ) ^ (-126 : ℤ) ≤ |x| := by
    rw [abs_of_pos hx0]
    have : (2 : ℝ) ^ (-126 : ℤ) = 2 ^ (-125 : ℤ) * (1 / 2) := by norm_num
    rw [this, hx]
    exact mul_le_mul h1 (by norm_num) (by norm_num) hs0.le
  have hxu : |x| < (2 : ℝ) ^ (-1 : ℤ) := by
    rw [abs_of_pos hx0, hx]
    norm_num
    nlinarith
  have hxu' : |x| < (2 : ℝ) ^ (126 : ℤ) := lt_of_lt_of_le hxu (zpow_le_zpow_right₀ (by norm_num) (by norm_num))
  have hsp := expo_spec x hxl hxu'
  have he1 := expo_le x (-1) (by norm_num) (by norm_num) hxu
  have he2 := (lt_expo x (-126) (by norm_num) (by norm_num)).2 hxl
  have ht : (tOf (s : EReal)).toInt = -8 - (expo (x : EReal)).toInt := by
    unfold tOf
    rw [hse]
    have e8 : (4294967288#32 : BitVec 32).toInt = -8 := by decide
    show (_ - _ : BitVec 32).toInt = _
    rw [toInt_sub_of_bounds _ _ (by rw [e8]; omega) (by rw [e8]; omega), e8]
  refine ⟨by omega, by omega, x * 2 ^ (tOf (s : EReal)).toInt, ?_, ?_, ?_⟩
  · unfold e2Of
    rw [hse, powR_eq, ← EReal.coe_mul]
  · rw [abs_of_pos hx0] at hsp
    rw [ht]
    have hp : (0 : ℝ) < 2 ^ (-8 - (expo (x : EReal)).toInt) := by positivity
    refine le_trans (le_of_eq ?_) (mul_le_mul_of_nonneg_right hsp.1 hp.le)
    rw [← zpow_add₀ (by norm_num)]
    rw [show (expo (x : EReal)).toInt - 1 + (-8 - (expo (x : EReal)).toInt) = -9 by ring]
    norm_num
  · rw [abs_of_pos hx0] at hsp
    rw [ht]
    have hp : (0 : ℝ) < 2 ^ (-8 - (expo (x : EReal)).toInt) := by positivity
    refine lt_of_lt_of_eq (mul_lt_mul_of_pos_right hsp.2 hp) ?_
    rw [← zpow_add₀ (by norm_num)]
    rw [show (expo (x : EReal)).toInt + (-8 - (expo (x : EReal)).toInt) = -8 by ring]
    norm_num

/-- The shifted output scale: a negative real number of size between `2^-10` and `2^-9`, with the shift's range. -/
theorem erf_spec (s : ℝ) (h1 : (2 : ℝ) ^ (-125 : ℤ) ≤ s) (h2 : s ≤ 1 / 2) :
    8 ≤ (nOf powR (s : EReal)).toInt ∧ (nOf powR (s : EReal)).toInt ≤ 10 ∧
    ∃ z : ℝ, erfOf powR (s : EReal) = ((-z : ℝ) : EReal) ∧ 1 / 1024 ≤ z ∧ z < 1 / 512 := by
  obtain ⟨-, -, y, hy, hy1, hy2⟩ := scale_spec s h1 h2
  have hy0 : 0 < y := by linarith
  set a : ℝ := y * y * (9690520 / 2 ^ 25) with ha
  have h0 : erf0Of powR (s : EReal) = ((-a : ℝ) : EReal) := by
    unfold erf0Of
    rw [hy, ofBits_ca, ← EReal.coe_mul, ← EReal.coe_mul]
    congr 1
    rw [ha]; ring
  have ha0 : 0 < a := by positivity
  have hyy1 : 1 / 512 * (1 / 512) ≤ y * y := mul_le_mul hy1 hy1 (by norm_num) hy0.le
  have hyy2 : y * y < 1 / 256 * (1 / 256) := mul_lt_mul'' hy2 hy2 hy0.le hy0.le
  have hal : (2 : ℝ) ^ (-20 : ℤ) ≤ |(-a)| := by
    rw [abs_neg, abs_of_pos ha0, ha]; norm_num; linarith
  have hau : |(-a)| < (2 : ℝ) ^ (-17 : ℤ) := by
    rw [abs_neg, abs_of_pos ha0, ha]; norm_num; linarith
  have hsp := expo_spec (-a) (le_trans (zpow_le_zpow_right₀ (by norm_num) (by norm_num)) hal)
    (lt_of_lt_of_le hau (zpow_le_zpow_right₀ (by norm_num) (by norm_num)))
  have he1 := expo_le (-a) (-17) (by norm_num) (by norm_num) hau
  have he2 := (lt_expo (-a) (-20) (by norm_num) (by norm_num)).2 hal
  have hn : (nOf powR (s : EReal)).toInt = -9 - (expo ((-a : ℝ) : EReal)).toInt := by
    unfold nOf
    rw [h0]
    have e8 : (4294967287#32 : BitVec 32).toInt = -9 := by decide
    show (_ - _ : BitVec 32).toInt = _
    rw [toInt_sub_of_bounds _ _ (by rw [e8]; omega) (by rw [e8]; omega), e8]
  rw [abs_neg, abs_of_pos ha0] at hsp
  have hp : (0 : ℝ) < 2 ^ (-9 - (expo ((-a : ℝ) : EReal)).toInt) := by positivity
  refine ⟨by omega, by omega, a * 2 ^ (nOf powR (s : EReal)).toInt, ?_, ?_, ?_⟩
  · unfold erfOf
    rw [h0, powR_eq, ← EReal.coe_mul, neg_mul]
  · rw [hn]
    refine le_trans (le_of_eq ?_) (mul_le_mul_of_nonneg_right hsp.1 hp.le)
    rw [← zpow_add₀ (by norm_num)]
    rw [show (expo ((-a : ℝ) : EReal)).toInt - 1 + (-9 - (expo ((-a : ℝ) : EReal)).toInt) = -10 by ring]
    norm_num
  · rw [hn]
    refine lt_of_lt_of_eq (mul_lt_mul_of_pos_right hsp.2 hp) ?_
    rw [← zpow_add₀ (by norm_num)]
    rw [show (expo ((-a : ℝ) : EReal)).toInt + (-9 - (expo ((-a : ℝ) : EReal)).toInt) = -9 by ring]
    norm_num

/-- **The ranges.** Scales in range give parameters in range. -/
theorem inRange (s : ℝ) (h : EReal) (h1 : (2 : ℝ) ^ (-125 : ℤ) ≤ s) (h2 : s ≤ 1 / 2)
    (hd : max (Ideal.div (s : EReal) h) (-(Ideal.div (s : EReal) h)) ≤ ((256 : ℝ) : EReal)) : InRange (s : EReal) h := by
  obtain ⟨ht1, ht2, y, hy, hy1, hy2⟩ := scale_spec s h1 h2
  obtain ⟨hn1, hn2, z, hz, hz1, hz2⟩ := erf_spec s h1 h2
  obtain ⟨r, hr, hdiv⟩ := div_real s h 256 hd
  have hy0 : 0 < y := by linarith
  have hz0 : 0 < z := by linarith
  have hyy1 : 1 / 512 * (1 / 512) ≤ y * y := mul_le_mul hy1 hy1 (by norm_num) hy0.le
  have hyy0 : 0 < y * y := by positivity
  have b1 : -1000 ≤ -(14839448 / 2 ^ 23) / y := by rw [le_div_iff₀ hy0]; norm_num; linarith
  have b2 : -(14839448 / 2 ^ 23) / y ≤ 0 := div_nonpos_of_nonpos_of_nonneg (by norm_num) hy0.le
  have c1 : -2 ^ 20 ≤ -(14523213 / 2 ^ 22) / (y * y) := by rw [le_div_iff₀ hyy0]; norm_num; linarith
  have c2 : -(14523213 / 2 ^ 22) / (y * y) ≤ 0 := div_nonpos_of_nonpos_of_nonneg (by norm_num) hyy0.le
  have o1 : -1024 ≤ 1 / (-z) := by rw [div_neg, neg_le_neg_iff, div_le_iff₀ hz0]; linarith
  have o2 : 1 / (-z) ≤ 0 := div_nonpos_of_nonneg_of_nonpos (by norm_num) (by linarith)
  have fl0 : ∀ x : ℝ, x ≤ 0 → ⌊x⌋ ≤ 0 := fun x hx => by
    have : ((⌊x⌋ : ℤ) : ℝ) ≤ ((0 : ℤ) : ℝ) := le_trans (Int.floor_le x) (by simpa using hx)
    exact_mod_cast this
  have hB : (bOf powR (s : EReal)).toInt = ⌊-(14839448 / 2 ^ 23) / y⌋ := by
    unfold bOf
    rw [hy, ofBits_cb, floor_div _ _ hy0.ne' (by norm_num at b1 ⊢; linarith) (by norm_num at b2 ⊢; linarith)]
  have hC : (cOf powR (s : EReal)).toInt = ⌊-(14523213 / 2 ^ 22) / (y * y)⌋ := by
    unfold cOf
    rw [hy, ofBits_cc, ← EReal.coe_mul, floor_div _ _ hyy0.ne' (by norm_num at c1 ⊢; linarith) (by norm_num at c2 ⊢; linarith)]
  have hO : (oneOf powR (s : EReal)).toInt = ⌊1 / (-z)⌋ := by
    unfold oneOf
    rw [hz, ofBits_one', floor_div _ _ (by linarith) (le_trans (by norm_num) o1) (le_trans o2 (by norm_num))]
  refine ⟨ht1, ht2, ?_, ?_, ?_, ?_, hn1, hn2, ?_, ?_, ?_⟩
  · rw [hB]; exact Int.le_floor.2 (by push_cast; exact b1)
  · rw [hB]; exact fl0 _ b2
  · rw [hC]; exact Int.le_floor.2 (le_trans (by norm_num) c1)
  · rw [hC]; exact fl0 _ c2
  · rw [hO]; exact Int.le_floor.2 (by push_cast; exact o1)
  · rw [hO]; exact fl0 _ o2
  · have : multOf powR (s : EReal) h = ((s * -z * (1 / 2) * r : ℝ) : EReal) := by
      unfold multOf
      rw [hz, ofBits_half, ← EReal.coe_mul, ← EReal.coe_mul, hdiv]
    rw [this]
    apply expo_le _ _ (by norm_num) (by norm_num)
    rw [show s * -z * (1 / 2) * r = -((s * r) * (z * (1 / 2))) by ring, abs_neg, abs_mul, abs_of_pos (show 0 < z * (1 / 2) by linarith)]
    have h3 : |s * r| * (z * (1 / 2)) ≤ 256 * (z * (1 / 2)) := mul_le_mul_of_nonneg_right hr (by linarith)
    exact lt_of_le_of_lt h3 (by norm_num; linarith)

/-- Where the scales are in range the kernel's power gives the same shifted scale, and so every parameter. -/
theorem e2K_eq (s h : EReal) (H : InRange s h) : e2Of pow2K s = e2Of powR s := by
  unfold e2Of
  rw [pow2K_eq _ (by have := H.ht1; omega) (by have := H.ht2; omega), powR_eq]

theorem bK_eq (s h : EReal) (H : InRange s h) : bOf pow2K s = bOf powR s := by unfold bOf; rw [e2K_eq s h H]
theorem cK_eq (s h : EReal) (H : InRange s h) : cOf pow2K s = cOf powR s := by unfold cOf; rw [e2K_eq s h H]
theorem erf0K_eq (s h : EReal) (H : InRange s h) : erf0Of pow2K s = erf0Of powR s := by unfold erf0Of; rw [e2K_eq s h H]
theorem nK_eq (s h : EReal) (H : InRange s h) : nOf pow2K s = nOf powR s := by unfold nOf; rw [erf0K_eq s h H]
theorem erfK_eq (s h : EReal) (H : InRange s h) : erfOf pow2K s = erfOf powR s := by
  unfold erfOf
  rw [nK_eq s h H, erf0K_eq s h H, pow2K_eq _ (by have := H.hn1; omega) (by have := H.hn2; omega), powR_eq]
theorem oneK_eq (s h : EReal) (H : InRange s h) : oneOf pow2K s = oneOf powR s := by unfold oneOf; rw [erfK_eq s h H]
theorem multK_eq (s h : EReal) (H : InRange s h) : multOf pow2K s h = multOf powR s h := by unfold multOf; rw [erfK_eq s h H]

/-- The kernel's step: the power of minus the shift. -/
theorem invt_eq (s h : EReal) (H : InRange s h) :
    Ideal.ofBits .f32 0x3F800000#32 * pow2K (-(tOf s)) = (((2 : ℝ) ^ (-(tOf s).toInt) : ℝ) : EReal) := by
  have h1 := H.ht1
  have h2 := H.ht2
  have hn : (-(tOf s)).toInt = -(tOf s).toInt := neg_toInt _ (by omega)
  rw [ofBits_one', EReal.coe_one, one_mul, pow2K_eq _ (by omega) (by omega), hn]

/-- The kernel's clamp: as the gate wants it. -/
theorem clamp_eq (t b : BitVec 32) :
    -(((b.toInt : ℤ) : ℝ) : EReal) + Scalar.select (IntOp.cmpi .sgt t 0#32)
        (Ideal.ofBits .f32 0x3F000000#32 - Ideal.ofBits .f32 0x3F000000#32 * (((2 : ℝ) ^ (-t.toInt) : ℝ) : EReal)) (Ideal.ofBits .f32 0x00000000#32)
      = ((clampR t.toInt b.toInt : ℝ) : EReal) := by
  unfold Scalar.select IntOp.cmpi clampR
  rw [ofBits_half, Ideal.ofBits_zero_f32, ← EReal.coe_mul, ← EReal.coe_sub, ← EReal.coe_neg, ← EReal.coe_zero]
  by_cases h : 0 < t.toInt
  · have : (0#32 : BitVec 32).slt t = true := by rw [BitVec.slt_iff_toInt_lt]; simpa using h
    rw [if_pos h]
    simp only [this]
    rw [if_pos (by decide), ← EReal.coe_add]
  · have : (0#32 : BitVec 32).slt t = false := by
      rw [Bool.eq_false_iff]; intro hc; rw [BitVec.slt_iff_toInt_lt] at hc; exact h (by simpa using hc)
    rw [if_neg h]
    simp only [this]
    rw [if_neg (by decide), ← EReal.coe_add]

/-- A factor whose size is below 256 has exponent at most 8. -/
theorem expo_le_eight (x : EReal) (h : max x (-x) < ((256 : ℝ) : EReal)) : (expo x).toInt ≤ 8 := by
  induction x with
  | bot => simp at h
  | top => simp at h
  | coe x =>
    apply expo_le _ _ (by norm_num) (by norm_num)
    rw [← EReal.coe_neg, ← EReal.coe_strictMono.monotone.map_max, EReal.coe_lt_coe_iff] at h
    have : |x| < 256 := h
    norm_num
    exact this

end Cert.Scalar
-- ==== Proof.KParams.lean ====
module

public import proofs.«01_k».proof.Proof.KHost
public import proofs.«01_k».proof.Proof.Expo
public import proofs.«01_k».proof.Proof.Params

@[expose] public section

set_option maxRecDepth 16384

noncomputable section

namespace Cert.KernelIdeal.Host

open Cert.KernelIdeal Cert.KernelIdeal.Gen Idealize.ShloMosaic Idealize.ShloMosaic.TcCoe Idealize.ShloMosaic.StableHlo Cert.Scalar

/-! The kernel's host parameters at a column, over the extended reals, as the scalar functions of the column's scales. -/

variable (V0 : Valuation τ sig (Elt Ideal))

/-- The input's scale. -/
def xs : S_.Idx → EReal := V0 (Proc.devRef .tc main_arg1)
/-- The first weight's scales. -/
def w1s : S3072.Idx → EReal := V0 (Proc.devRef .tc main_arg3)
/-- The scale of the hidden codes, as an array. -/
def hsv : S_.Idx → EReal := V0 (Proc.devRef .tc main_arg5)
/-- The second weight's scales. -/
def w2s : S768.Idx → EReal := V0 (Proc.devRef .tc main_arg7)
/-- The result's scale. -/
def ys : S_.Idx → EReal := V0 (Proc.devRef .tc main_arg9)
/-- A column's first scale: the input's by the weight's. -/
def sc (i : S3072.Idx) : EReal := xs V0 ValueIdx.ix0 * w1s V0 i
/-- The scale of the hidden codes. -/
def hs : EReal := hsv V0 ValueIdx.ix0
/-- A column's factor of the second requantisation. -/
def mult2 (i : S768.Idx) : EReal := Ideal.div (hs V0 * w2s V0 i) (ys V0 ValueIdx.ix0)

theorem v1_at (i : S3072.Idx) : (k_v1 V0 : S3072.Idx → EReal) i = sc V0 i := by
  unfold sc
  rw [← ValueIdx.broadcastInDim_scalar_apply bcast_S_S3072 (xs V0) i]
  unfold k_v1
  rfl
theorem v3_at (i : S3072.Idx) : (k_v3 V0 : S3072.Idx → EReal) i = seOf (sc V0 i) := by
  rw [← v1_at]
  unfold k_v3
  generalize k_v1 V0 = wv1
  rfl
/-- The count of a row of comparisons with the kernel's powers. -/
theorem kexpo (x : FVec Ideal S3072 .f32) (i : S3072.Idx) (y : EReal) (h : x i = y) :
    ((subi ((fun x v => Host.reduce IntOp.addi x v reducesTo_S3072x253_S3072_d1 h_S_) ((fun x => (extui 32 x natLt_1_32)) (cmpf .oge (broadcastInDim S3072x253 ![0, 1] bcast_S3072x1_S3072x253_0_1 (broadcastInDim S3072x1 ![0] bcast_S3072_S3072x1_0 (Host.absf x))) (broadcastInDim S3072x253 ![0, 1] bcast_S1x253_S3072x253_0_1 (broadcastInDim S1x253 ![1] bcast_S253_S1x253_1 (bitcastToFloat .f32 (Host.shli (addi (subi (iotaInDim S253 32 0) (broadcastInDim S253 ![] bcast_S_S253 (constantI S_ 32 126#32))) (broadcastInDim S253 ![] bcast_S_S253 (constantI S_ 32 127#32))) (broadcastInDim S253 ![] bcast_S_S253 (constantI S_ 32 23#32)))))))) (constantI S_ 32 0#32)) (broadcastInDim S3072 ![] bcast_S_S3072 (constantI S_ 32 126#32))) : S3072.Idx → BitVec 32) i = expo y := by
  subst h
  refine reduce_expo (N := 3072) reducesTo_S3072x253_S3072_d1 h_S_ natLt_1_32 _ _ i (x i) (fun j => ?_) (fun j => ?_)
  · exact bcast_col (by decide) _ _ (Host.absf x) i j
  · exact (bcast_row (by decide) _ _ _ (i 0) j).trans (pow2K_pos j)

/-- The same count for the second requantisation's factors. -/
theorem kexpo2 (x : FVec Ideal S768 .f32) (i : S768.Idx) (y : EReal) (h : x i = y) :
    ((subi ((fun x v => Host.reduce IntOp.addi x v reducesTo_S768x253_S768_d1 h_S_) ((fun x => (extui 32 x natLt_1_32)) (cmpf .oge (broadcastInDim S768x253 ![0, 1] bcast_S768x1_S768x253_0_1 (broadcastInDim S768x1 ![0] bcast_S768_S768x1_0 (Host.absf x))) (broadcastInDim S768x253 ![0, 1] bcast_S1x253_S768x253_0_1 (broadcastInDim S1x253 ![1] bcast_S253_S1x253_1 (bitcastToFloat .f32 (Host.shli (addi (subi (iotaInDim S253 32 0) (broadcastInDim S253 ![] bcast_S_S253 (constantI S_ 32 126#32))) (broadcastInDim S253 ![] bcast_S_S253 (constantI S_ 32 127#32))) (broadcastInDim S253 ![] bcast_S_S253 (constantI S_ 32 23#32)))))))) (constantI S_ 32 0#32)) (broadcastInDim S768 ![] bcast_S_S768 (constantI S_ 32 126#32))) : S768.Idx → BitVec 32) i = expo y := by
  subst h
  refine reduce_expo (N := 768) reducesTo_S768x253_S768_d1 h_S_ natLt_1_32 _ _ i (x i) (fun j => ?_) (fun j => ?_)
  · exact bcast_col (by decide) _ _ (Host.absf x) i j
  · exact (bcast_row (by decide) _ _ _ (i 0) j).trans (pow2K_pos j)

theorem v21_at (i : S3072.Idx) : (k_v21 V0 : S3072.Idx → BitVec 32) i = expo (seOf (sc V0 i)) :=
  kexpo (k_v3 V0) i _ (v3_at V0 i)
theorem v30_at (i : S3072.Idx) : (k_v30 V0 : S3072.Idx → BitVec 32) i = tOf (sc V0 i) := by
  unfold tOf; rw [← v21_at]
  unfold k_v30
  generalize k_v21 V0 = wv21
  rfl
/-- The kernel's power of two at a column. -/
theorem kpow (w : IVec S3072 32) (i : S3072.Idx) :
    (bitcastToFloat .f32 (Host.shli (addi w (broadcastInDim S3072 ![] bcast_S_S3072 (constantI S_ 32 127#32))) (broadcastInDim S3072 ![] bcast_S_S3072 (constantI S_ 32 23#32))) : FVec Ideal S3072 .f32) i = pow2K (w i) := by
  unfold pow2K; rfl
/-- The same for the second requantisation's columns. -/
theorem kpow2 (w : IVec S768 32) (i : S768.Idx) :
    (bitcastToFloat .f32 (Host.shli (addi w (broadcastInDim S768 ![] bcast_S_S768 (constantI S_ 32 127#32))) (broadcastInDim S768 ![] bcast_S_S768 (constantI S_ 32 23#32))) : FVec Ideal S768 .f32) i = pow2K (w i) := by
  unfold pow2K; rfl
theorem v36_at (i : S3072.Idx) : (k_v36 V0 : S3072.Idx → EReal) i = e2Of pow2K (sc V0 i) :=
  ((ValueIdx.mulf_apply _ _ i).trans (congrArg₂ (· * ·) (v3_at V0 i) ((kpow (k_v30 V0) i).trans (congrArg pow2K (v30_at V0 i)))) : (mulf (k_v3 V0) _ : FVec Ideal S3072 .f32) i = _)
theorem v40_at (i : S3072.Idx) : (k_v40 V0 : S3072.Idx → BitVec 32) i = bOf pow2K (sc V0 i) := by
  unfold bOf; rw [← v36_at]
  unfold k_v40
  generalize k_v36 V0 = wv36
  rfl
theorem v45_at (i : S3072.Idx) : (k_v45 V0 : S3072.Idx → BitVec 32) i = cOf pow2K (sc V0 i) := by
  unfold cOf; rw [← v36_at]
  unfold k_v45
  generalize k_v36 V0 = wv36
  rfl
theorem v48_at (i : S3072.Idx) : (k_v48 V0 : S3072.Idx → EReal) i = erf0Of pow2K (sc V0 i) := by
  unfold erf0Of; rw [← v36_at]
  unfold k_v48
  generalize k_v36 V0 = wv36
  rfl
theorem v66_at (i : S3072.Idx) : (k_v66 V0 : S3072.Idx → BitVec 32) i = expo (erf0Of pow2K (sc V0 i)) :=
  kexpo (k_v48 V0) i _ (v48_at V0 i)
theorem v75_at (i : S3072.Idx) : (k_v75 V0 : S3072.Idx → BitVec 32) i = nOf pow2K (sc V0 i) := by
  unfold nOf; rw [← v66_at]
  unfold k_v75
  generalize k_v66 V0 = wv66
  rfl
theorem v81_at (i : S3072.Idx) : (k_v81 V0 : S3072.Idx → EReal) i = erfOf pow2K (sc V0 i) :=
  ((ValueIdx.mulf_apply _ _ i).trans (congrArg₂ (· * ·) (v48_at V0 i) ((kpow (k_v75 V0) i).trans (congrArg pow2K (v75_at V0 i)))) : (mulf (k_v48 V0) _ : FVec Ideal S3072 .f32) i = _)
theorem v85_at (i : S3072.Idx) : (k_v85 V0 : S3072.Idx → BitVec 32) i = oneOf pow2K (sc V0 i) := by
  unfold oneOf; rw [← v81_at]
  unfold k_v85
  generalize k_v81 V0 = wv81
  rfl
theorem v90_at (i : S3072.Idx) : (k_v90 V0 : S3072.Idx → EReal) i = multOf pow2K (sc V0 i) (hs V0) := by
  unfold multOf hs
  rw [← v81_at, ← v1_at, ← ValueIdx.broadcastInDim_scalar_apply bcast_S_S3072 (hsv V0) i]
  unfold k_v90
  generalize k_v1 V0 = wv1
  generalize k_v81 V0 = wv81
  rfl
theorem v108_at (i : S3072.Idx) : (k_v108 V0 : S3072.Idx → BitVec 32) i = expo (multOf pow2K (sc V0 i) (hs V0)) :=
  kexpo (k_v90 V0) i _ (v90_at V0 i)
theorem v119_at (i : S3072.Idx) : (k_v119 V0 : S3072.Idx → BitVec 32) i = mK (multOf pow2K (sc V0 i) (hs V0)) := by
  unfold mK; rw [← v108_at, ← v90_at]
  unfold k_v119
  generalize k_v108 V0 = wv108
  generalize k_v90 V0 = wv90
  rw [show -(wv108 i) = negi wv108 i from rfl, ← kpow (negi wv108) i]
  generalize (bitcastToFloat .f32 _ : FVec Ideal S3072 .f32) = p
  rfl
theorem v121_at (i : S3072.Idx) : (k_v121 V0 : S3072.Idx → BitVec 32) i = IntOp.subi 0#32 (expo (multOf pow2K (sc V0 i) (hs V0))) := by
  rw [← v108_at]
  unfold k_v121
  generalize k_v108 V0 = wv108
  rfl
theorem v125_at (i : S3072.Idx) : (k_v125 V0 : S3072.Idx → BitVec 32) i = IntOp.shli .host 1#32 (IntOp.subi (IntOp.subi 0#32 (expo (multOf pow2K (sc V0 i) (hs V0)))) 1#32) := by
  rw [← v121_at]
  unfold k_v125
  generalize k_v121 V0 = wv121
  rfl
theorem v133_at (i : S3072.Idx) : (k_v133 V0 : S3072.Idx → EReal) i = Ideal.ofBits .f32 0x3F800000#32 * pow2K (-(tOf (sc V0 i))) :=
  ((ValueIdx.mulf_apply _ _ i).trans (congrArg₂ (· * ·) rfl ((kpow (negi (k_v30 V0)) i).trans (congrArg (fun w => pow2K (-w)) (v30_at V0 i)))) : (mulf (broadcastInDim S3072 ![] bcast_S_S3072 (constant S_ .f32 0x3F800000#32)) _ : FVec Ideal S3072 .f32) i = _)
theorem v135_at (i : S3072.Idx) : (k_v135 V0 : S3072.Idx → EReal) i = -((((bOf pow2K (sc V0 i)).toInt : ℝ)) : EReal) := by
  rw [← v40_at]
  unfold k_v135
  generalize k_v40 V0 = w
  rfl
theorem v137_at (i : S3072.Idx) : (k_v137 V0 : S3072.Idx → BitVec 1) i = IntOp.cmpi .sgt (tOf (sc V0 i)) 0#32 := by
  rw [← v30_at]
  unfold k_v137
  generalize k_v30 V0 = w
  rfl
theorem half_sub (w : FVec Ideal S3072 .f32) (i : S3072.Idx) (y : EReal) (h : w i = y) :
    (subf (broadcastInDim S3072 ![] bcast_S_S3072 (constant S_ .f32 0x3F000000#32)) (mulf (broadcastInDim S3072 ![] bcast_S_S3072 (constant S_ .f32 0x3F000000#32)) w) : FVec Ideal S3072 .f32) i
      = Ideal.ofBits .f32 0x3F000000#32 - Ideal.ofBits .f32 0x3F000000#32 * y := by
  subst h; rfl
theorem v141_at (i : S3072.Idx) : (k_v141 V0 : S3072.Idx → EReal) i
    = Ideal.ofBits .f32 0x3F000000#32 - Ideal.ofBits .f32 0x3F000000#32 * (Ideal.ofBits .f32 0x3F800000#32 * pow2K (-(tOf (sc V0 i)))) :=
  half_sub (k_v133 V0) i _ (v133_at V0 i)
theorem v142_at (i : S3072.Idx) : (k_v142 V0 : S3072.Idx → EReal) i
    = Scalar.select ((k_v137 V0 : S3072.Idx → BitVec 1) i) ((k_v141 V0 : S3072.Idx → EReal) i) (Ideal.ofBits .f32 0x00000000#32) := by
  unfold k_v142 k_cst_41
  generalize k_v137 V0 = w
  generalize k_v141 V0 = w'
  rfl
theorem v143_at (i : S3072.Idx) : (k_v143 V0 : S3072.Idx → EReal) i
    = -((((bOf pow2K (sc V0 i)).toInt : ℝ)) : EReal) + Scalar.select (IntOp.cmpi .sgt (tOf (sc V0 i)) 0#32)
        (Ideal.ofBits .f32 0x3F000000#32 - Ideal.ofBits .f32 0x3F000000#32 * (Ideal.ofBits .f32 0x3F800000#32 * pow2K (-(tOf (sc V0 i))))) (Ideal.ofBits .f32 0x00000000#32) := by
  have h := v142_at V0 i
  rw [v137_at, v141_at] at h
  rw [← h, ← v135_at]
  unfold k_v143
  exact ValueIdx.addf_apply _ _ i
theorem v145_at (i : S3072.Idx) : (k_v145 V0 : S3072.Idx → BitVec 32) i = cpK (cOf pow2K (sc V0 i)) (nOf pow2K (sc V0 i)) (oneOf pow2K (sc V0 i)) := by
  rw [← v45_at, ← v75_at, ← v85_at]
  unfold k_v145
  generalize k_v45 V0 = wv45
  generalize k_v75 V0 = wv75
  generalize k_v85 V0 = wv85
  rfl
theorem v151_at (i : S3072.Idx) : (k_v151 V0 : S3072.Idx → BitVec 32) i = cnK (cOf pow2K (sc V0 i)) (nOf pow2K (sc V0 i)) (oneOf pow2K (sc V0 i)) := by
  rw [← v45_at, ← v75_at, ← v85_at]
  unfold k_v151
  generalize k_v45 V0 = wv45
  generalize k_v75 V0 = wv75
  generalize k_v85 V0 = wv85
  rfl
theorem v167_at (i : S768.Idx) : (k_v167 V0 : S768.Idx → EReal) i = mult2 V0 i := by
  unfold mult2 hs
  rw [← ValueIdx.broadcastInDim_scalar_apply bcast_S_S768 (hsv V0) i,
    ← ValueIdx.broadcastInDim_scalar_apply bcast_S_S768 (ys V0) i]
  unfold k_v167
  rfl
theorem v185_at (i : S768.Idx) : (k_v185 V0 : S768.Idx → BitVec 32) i = expo (mult2 V0 i) :=
  kexpo2 (k_v167 V0) i _ (v167_at V0 i)
theorem v196_at (i : S768.Idx) : (k_v196 V0 : S768.Idx → BitVec 32) i = mK (mult2 V0 i) := by
  unfold mK; rw [← v185_at, ← v167_at]
  unfold k_v196
  generalize k_v167 V0 = wv167
  generalize k_v185 V0 = wv185
  rw [show -(wv185 i) = negi wv185 i from rfl, ← kpow2 (negi wv185) i]
  generalize (bitcastToFloat .f32 _ : FVec Ideal S768 .f32) = p
  rfl
theorem v198_at (i : S768.Idx) : (k_v198 V0 : S768.Idx → BitVec 32) i = IntOp.subi 10#32 (expo (mult2 V0 i)) := by
  rw [← v185_at]
  unfold k_v198
  generalize k_v185 V0 = wv185
  rfl
theorem v202_at (i : S768.Idx) : (k_v202 V0 : S768.Idx → BitVec 32) i = IntOp.shli .host 1#32 (IntOp.subi (IntOp.subi 10#32 (expo (mult2 V0 i))) 1#32) := by
  rw [← v198_at]
  unfold k_v202
  generalize k_v198 V0 = wv198
  rfl
end Cert.KernelIdeal.Host
-- ==== Proof.KEntry.lean ====
module

public import proofs.«01_k».proof.Proof.KParams
public import Idealize.ShloMosaic.Lib.Pointwise
public import Idealize.ShloMosaic.Lib.Tactic.CleanTypes

@[expose] public section

set_option Elab.async false
set_option maxRecDepth 16384

noncomputable section

namespace Cert.KernelIdeal.Host

open Cert.KernelIdeal Cert.KernelIdeal.Gen Idealize.ShloMosaic Idealize.ShloMosaic.TcCoe Idealize.ShloMosaic.StableHlo Cert.Scalar

/-! What the kernel's windows look at: the two parameter tables by row, and the arrays at the kernel's start. -/

variable (V0 : Valuation τ sig (Elt Ideal))

/-- The first bias. -/
def b1 : S3072.Idx → BitVec 32 := V0 (Proc.devRef .tc main_arg4)
/-- The second bias. -/
def b2 : S768.Idx → BitVec 32 := V0 (Proc.devRef .tc main_arg8)

theorem pf0_at (j : Fin 3072) : (k_v156 V0 : S3x3072.Idx → EReal) (ix2 0 j) = (((b1 V0 (ix1 j)).toInt : ℝ) : EReal) := by
  unfold k_v156 k_v153 b1
  generalize k_v154 V0 = a
  generalize k_v155 V0 = b
  generalize V0 (Proc.devRef .tc main_arg4) = x
  clean_types
  pointwise
  rfl
theorem pf1_at (j : Fin 3072) : (k_v156 V0 : S3x3072.Idx → EReal) (ix2 1 j) = (k_v133 V0 : S3072.Idx → EReal) (ix1 j) := by
  unfold k_v156 k_v154
  generalize k_v153 V0 = a
  generalize k_v155 V0 = b
  generalize k_v133 V0 = x
  clean_types
  pointwise
theorem pf2_at (j : Fin 3072) : (k_v156 V0 : S3x3072.Idx → EReal) (ix2 2 j) = (k_v143 V0 : S3072.Idx → EReal) (ix1 j) := by
  unfold k_v156 k_v155
  generalize k_v153 V0 = a
  generalize k_v154 V0 = b
  generalize k_v143 V0 = x
  clean_types
  pointwise

theorem pi_at (j : Fin 3072) : (k_v163 V0 : S6x3072.Idx → BitVec 32) (ix2 0 j) = (k_v145 V0 : S3072.Idx → BitVec 32) (ix1 j)
    ∧ (k_v163 V0 : S6x3072.Idx → BitVec 32) (ix2 1 j) = (k_v151 V0 : S3072.Idx → BitVec 32) (ix1 j)
    ∧ (k_v163 V0 : S6x3072.Idx → BitVec 32) (ix2 2 j) = (k_v75 V0 : S3072.Idx → BitVec 32) (ix1 j)
    ∧ (k_v163 V0 : S6x3072.Idx → BitVec 32) (ix2 3 j) = (k_v119 V0 : S3072.Idx → BitVec 32) (ix1 j)
    ∧ (k_v163 V0 : S6x3072.Idx → BitVec 32) (ix2 4 j) = (k_v125 V0 : S3072.Idx → BitVec 32) (ix1 j)
    ∧ (k_v163 V0 : S6x3072.Idx → BitVec 32) (ix2 5 j) = (k_v121 V0 : S3072.Idx → BitVec 32) (ix1 j) := by
  unfold k_v163 k_v157 k_v158 k_v159 k_v160 k_v161 k_v162
  generalize k_v145 V0 = a0
  generalize k_v151 V0 = a1
  generalize k_v75 V0 = a2
  generalize k_v119 V0 = a3
  generalize k_v125 V0 = a4
  generalize k_v121 V0 = a5
  clean_types
  refine ⟨?_, ?_, ?_, ?_, ?_, ?_⟩ <;> pointwise

theorem p_at (j : Fin 768) : (k_v209 V0 : S4x768.Idx → BitVec 32) (ix2 0 j) = IntOp.addi (b2 V0 (ix1 j)) 8#32
    ∧ (k_v209 V0 : S4x768.Idx → BitVec 32) (ix2 1 j) = (k_v196 V0 : S768.Idx → BitVec 32) (ix1 j)
    ∧ (k_v209 V0 : S4x768.Idx → BitVec 32) (ix2 2 j) = (k_v202 V0 : S768.Idx → BitVec 32) (ix1 j)
    ∧ (k_v209 V0 : S4x768.Idx → BitVec 32) (ix2 3 j) = (k_v198 V0 : S768.Idx → BitVec 32) (ix1 j) := by
  unfold k_v209 k_v205 k_v206 k_v207 k_v208 b2
  generalize k_v196 V0 = a1
  generalize k_v202 V0 = a2
  generalize k_v198 V0 = a3
  generalize V0 (Proc.devRef .tc main_arg8) = x
  clean_types
  refine ⟨?_, ?_, ?_, ?_⟩ <;> pointwise

variable (m : ∀ l : Loc nD τ sig, Buf (Elt Ideal) l)

/-- The contents a device starts from. -/
abbrev start (c : Dev nD) : Valuation τ sig (Elt Ideal) := fun b => m (c, b)

theorem V_v210 (c : Dev nD) : V m c (Pipeline.arrRef spec0 0) = k_v210 (start m c) :=
  (congrFun (after_line (start m c)) (Proc.devRef .tc main_v210)).trans (st15_v210 _)
theorem V_arg2 (c : Dev nD) : V m c (Pipeline.arrRef spec0 1) = start m c (Proc.devRef .tc main_arg2) := V_main_arg2 m c
theorem V_arg6 (c : Dev nD) : V m c (Pipeline.arrRef spec0 2) = start m c (Proc.devRef .tc main_arg6) := V_main_arg6 m c
theorem V_v156 (c : Dev nD) : V m c (Pipeline.arrRef spec0 3) = k_v156 (start m c) :=
  (congrFun (after_line (start m c)) (Proc.devRef .tc main_v156)).trans (st15_v156 _)
theorem V_v163 (c : Dev nD) : V m c (Pipeline.arrRef spec0 4) = k_v163 (start m c) :=
  (congrFun (after_line (start m c)) (Proc.devRef .tc main_v163)).trans (st15_v163 _)
theorem V_v209 (c : Dev nD) : V m c (Pipeline.arrRef spec0 5) = k_v209 (start m c) :=
  (congrFun (after_line (start m c)) (Proc.devRef .tc main_v209)).trans (st15_v209 _)

end Cert.KernelIdeal.Host
-- ==== Proof.RParams.lean ====
module

public import proofs.«01_k».proof.Proof.Gen.ReferenceIdeal.Run
public import proofs.«01_k».proof.Proof.Expo
public import proofs.«01_k».proof.Proof.Params
public import proofs.«01_k».proof.Proof.Gelu
public import Idealize.ShloMosaic.Lib.Pointwise

@[expose] public section

set_option Elab.async false
set_option maxRecDepth 16384

noncomputable section

namespace Cert.ReferenceIdeal.Host

open Cert.ReferenceIdeal Cert.ReferenceIdeal.Gen Cert.ReferenceIdeal.Value Idealize.ShloMosaic Idealize.ShloMosaic.TcCoe Idealize.ShloMosaic.StableHlo Cert.Scalar

/-! The reference's parameters at a column, over the extended reals, as the scalar functions of the column's scales. -/

variable (V0 : Valuation τ sig (Elt Ideal))

/-- The input's scale. -/
def xs : S_.Idx → EReal := V0 (Proc.devRef .tc main_arg1)
/-- The first weight's scales. -/
def w1s : S3072.Idx → EReal := V0 (Proc.devRef .tc main_arg3)
/-- The scale of the hidden codes, as an array. -/
def hsv : S_.Idx → EReal := V0 (Proc.devRef .tc main_arg5)
/-- The second weight's scales. -/
def w2s : S768.Idx → EReal := V0 (Proc.devRef .tc main_arg7)
/-- The result's scale. -/
def ys : S_.Idx → EReal := V0 (Proc.devRef .tc main_arg9)
/-- A column's first scale: the input's by the weight's. -/
def sc (i : S3072.Idx) : EReal := xs V0 ValueIdx.ix0 * w1s V0 i
/-- The scale of the hidden codes. -/
def hs : EReal := hsv V0 ValueIdx.ix0
/-- A column's factor of the second requantisation. -/
def mult2 (i : S768.Idx) : EReal := Ideal.div (hs V0 * w2s V0 i) (ys V0 ValueIdx.ix0)

theorem v31_at (i : S3072.Idx) : (res_main_v31 V0 : S3072.Idx → EReal) i = sc V0 i := by
  unfold sc
  rw [← ValueIdx.broadcastInDim_scalar_apply bcast_S_S3072 (xs V0) i]
  unfold res_main_v31
  rfl
theorem v33_at (i : S3072.Idx) : (res_main_v33 V0 : S3072.Idx → EReal) i = seOf (sc V0 i) := by
  rw [← v31_at]
  unfold res_main_v33
  generalize res_main_v31 V0 = w
  rfl
/-- The count of a row of comparisons with the powers of two. -/
theorem rexpo (x : FVec Ideal S3072 .f32) (i : S3072.Idx) (y : EReal) (h : x i = y) :
    ((subi (Host.reduce IntOp.addi (extui 32 (cmpf .oge (broadcastInDim S3072x253 ![0, 1] bcast_S3072x1_S3072x253_0_1 (broadcastInDim S3072x1 ![0] bcast_S3072_S3072x1_0 (Host.absf x))) (broadcastInDim S3072x253 ![0, 1] bcast_S1x253_S3072x253_0_1 (broadcastInDim S1x253 ![1] bcast_S253_S1x253_1 (Host.powf (broadcastInDim S253 ![] bcast_S_S253 (constant S_ .f32 0x40000000#32)) (sitofp .f32 (addi (broadcastInDim S253 ![] bcast_S_S253 (constantI S_ 32 4294967170#32)) (iotaInDim S253 32 0))))))) natLt_1_32) (constantI S_ 32 0#32) reducesTo_S3072x253_S3072_d1 h_S_) (broadcastInDim S3072 ![] bcast_S_S3072 (constantI S_ 32 126#32))) : S3072.Idx → BitVec 32) i = expo y := by
  subst h
  refine reduce_expo (N := 3072) reducesTo_S3072x253_S3072_d1 h_S_ natLt_1_32 _ _ i (x i) (fun j => ?_) (fun j => ?_)
  · exact bcast_col (by decide) _ _ (Host.absf x) i j
  · exact (bcast_row (by decide) _ _ _ (i 0) j).trans (powR_pos j)
/-- The same count for the second requantisation's factors. -/
theorem rexpo2 (x : FVec Ideal S768 .f32) (i : S768.Idx) (y : EReal) (h : x i = y) :
    ((subi (Host.reduce IntOp.addi (extui 32 (cmpf .oge (broadcastInDim S768x253 ![0, 1] bcast_S768x1_S768x253_0_1 (broadcastInDim S768x1 ![0] bcast_S768_S768x1_0 (Host.absf x))) (broadcastInDim S768x253 ![0, 1] bcast_S1x253_S768x253_0_1 (broadcastInDim S1x253 ![1] bcast_S253_S1x253_1 (Host.powf (broadcastInDim S253 ![] bcast_S_S253 (constant S_ .f32 0x40000000#32)) (sitofp .f32 (addi (broadcastInDim S253 ![] bcast_S_S253 (constantI S_ 32 4294967170#32)) (iotaInDim S253 32 0))))))) natLt_1_32) (constantI S_ 32 0#32) reducesTo_S768x253_S768_d1 h_S_) (broadcastInDim S768 ![] bcast_S_S768 (constantI S_ 32 126#32))) : S768.Idx → BitVec 32) i = expo y := by
  subst h
  refine reduce_expo (N := 768) reducesTo_S768x253_S768_d1 h_S_ natLt_1_32 _ _ i (x i) (fun j => ?_) (fun j => ?_)
  · exact bcast_col (by decide) _ _ (Host.absf x) i j
  · exact (bcast_row (by decide) _ _ _ (i 0) j).trans (powR_pos j)
/-- The reference's power of two at a column. -/
theorem rpow (w : IVec S3072 32) (i : S3072.Idx) :
    (Host.powf (broadcastInDim S3072 ![] bcast_S_S3072 (constant S_ .f32 0x40000000#32)) (sitofp .f32 w) : FVec Ideal S3072 .f32) i = powR (w i) := by
  unfold powR; rfl
/-- The same for the second requantisation's columns. -/
theorem rpow2 (w : IVec S768 32) (i : S768.Idx) :
    (Host.powf (broadcastInDim S768 ![] bcast_S_S768 (constant S_ .f32 0x40000000#32)) (sitofp .f32 w) : FVec Ideal S768 .f32) i = powR (w i) := by
  unfold powR; rfl

theorem v50_at (i : S3072.Idx) : (res_main_v50 V0 : S3072.Idx → BitVec 32) i = expo (seOf (sc V0 i)) := by
  unfold res_main_v50 res_main_v36
  exact rexpo (res_main_v33 V0) i _ (v33_at V0 i)
theorem v57_at (i : S3072.Idx) : (res_main_v57 V0 : S3072.Idx → BitVec 32) i = tOf (sc V0 i) := by
  unfold tOf; rw [← v50_at]
  unfold res_main_v57
  generalize res_main_v50 V0 = w
  rfl
theorem v62_at (i : S3072.Idx) : (res_main_v62 V0 : S3072.Idx → EReal) i = e2Of powR (sc V0 i) := by
  unfold res_main_v62
  exact ((ValueIdx.mulf_apply _ _ i).trans (congrArg₂ (· * ·) (v33_at V0 i) ((rpow (res_main_v57 V0) i).trans (congrArg powR (v57_at V0 i)))))
theorem v66_at (i : S3072.Idx) : (res_main_v66 V0 : S3072.Idx → BitVec 32) i = bOf powR (sc V0 i) := by
  unfold bOf; rw [← v62_at]
  unfold res_main_v66
  generalize res_main_v62 V0 = w
  rfl
/-- The polynomial's constant. -/
theorem c_at (i : S3072.Idx) : (fptosi 32 (Host.floor (Host.divf (broadcastInDim S3072 ![] bcast_S_S3072 (constant S_ .f32 0xC05D9B4D#32)) (mulf (res_main_v62 V0) (res_main_v62 V0)))) : S3072.Idx → BitVec 32) i = cOf powR (sc V0 i) := by
  unfold cOf; rw [← v62_at]
  generalize res_main_v62 V0 = w
  rfl
theorem v74_at (i : S3072.Idx) : (res_main_v74 V0 : S3072.Idx → EReal) i = erf0Of powR (sc V0 i) := by
  unfold erf0Of; rw [← v62_at]
  unfold res_main_v74
  generalize res_main_v62 V0 = w
  rfl
theorem v91_at (i : S3072.Idx) : (res_main_v91 V0 : S3072.Idx → BitVec 32) i = expo (erf0Of powR (sc V0 i)) := by
  unfold res_main_v91 res_main_v77
  exact rexpo (res_main_v74 V0) i _ (v74_at V0 i)
theorem v98_at (i : S3072.Idx) : (res_main_v98 V0 : S3072.Idx → BitVec 32) i = nOf powR (sc V0 i) := by
  unfold nOf; rw [← v91_at]
  unfold res_main_v98
  generalize res_main_v91 V0 = w
  rfl
theorem v103_at (i : S3072.Idx) : (res_main_v103 V0 : S3072.Idx → EReal) i = erfOf powR (sc V0 i) := by
  unfold res_main_v103
  exact ((ValueIdx.mulf_apply _ _ i).trans (congrArg₂ (· * ·) (v74_at V0 i) ((rpow (res_main_v98 V0) i).trans (congrArg powR (v98_at V0 i)))))
/-- One at the polynomial's output scale. -/
theorem one_at (i : S3072.Idx) : (fptosi 32 (Host.floor (Host.divf (broadcastInDim S3072 ![] bcast_S_S3072 (constant S_ .f32 0x3F800000#32)) (res_main_v103 V0))) : S3072.Idx → BitVec 32) i = oneOf powR (sc V0 i) := by
  unfold oneOf; rw [← v103_at]
  generalize res_main_v103 V0 = w
  rfl
theorem v147_at (i : S3072.Idx) : (res_main_v147 V0 : S3072.Idx → EReal) i = multOf powR (sc V0 i) (hs V0) := by
  unfold multOf hs
  rw [← v103_at, ← v31_at, ← ValueIdx.broadcastInDim_scalar_apply bcast_S_S3072 (hsv V0) i]
  unfold res_main_v147
  generalize res_main_v31 V0 = w
  generalize res_main_v103 V0 = w'
  rfl
theorem v164_at (i : S3072.Idx) : (res_main_v164 V0 : S3072.Idx → BitVec 32) i = expo (multOf powR (sc V0 i) (hs V0)) := by
  unfold res_main_v164 res_main_v150
  exact rexpo (res_main_v147 V0) i _ (v147_at V0 i)
theorem v175_at (i : S3072.Idx) : (res_main_v175 V0 : S3072.Idx → BitVec 32) i = IntOp.subi 0#32 (expo (multOf powR (sc V0 i) (hs V0))) := by
  rw [← v164_at]
  unfold res_main_v175
  generalize res_main_v164 V0 = w
  rfl
/-- The first requantisation's factor as a whole number. -/
theorem m_at (i : S3072.Idx) : (fptosi 32 (Host.roundeven (mulf (Host.divf (res_main_v147 V0) (Host.powf (broadcastInDim S3072 ![] bcast_S_S3072 (constant S_ .f32 0x40000000#32)) (sitofp .f32 (res_main_v164 V0)))) (broadcastInDim S3072 ![] bcast_S_S3072 (constant S_ .f32 0x46800000#32)))) : S3072.Idx → BitVec 32) i = mR (multOf powR (sc V0 i) (hs V0)) := by
  unfold mR; rw [← v164_at, ← v147_at, ← rpow]
  generalize (Host.powf _ _ : FVec Ideal S3072 .f32) = p
  generalize res_main_v147 V0 = w
  rfl
theorem v231_at (i : S768.Idx) : (res_main_v231 V0 : S768.Idx → EReal) i = mult2 V0 i := by
  unfold mult2 hs
  rw [← ValueIdx.broadcastInDim_scalar_apply bcast_S_S768 (hsv V0) i, ← ValueIdx.broadcastInDim_scalar_apply bcast_S_S768 (ys V0) i]
  unfold res_main_v231
  rfl
theorem v248_at (i : S768.Idx) : (res_main_v248 V0 : S768.Idx → BitVec 32) i = expo (mult2 V0 i) := by
  unfold res_main_v248 res_main_v234
  exact rexpo2 (res_main_v231 V0) i _ (v231_at V0 i)
theorem v259_at (i : S768.Idx) : (res_main_v259 V0 : S768.Idx → BitVec 32) i = IntOp.subi 10#32 (expo (mult2 V0 i)) := by
  rw [← v248_at]
  unfold res_main_v259
  generalize res_main_v248 V0 = w
  rfl
/-- The second requantisation's factor as a whole number. -/
theorem m2_at (i : S768.Idx) : (fptosi 32 (Host.roundeven (mulf (Host.divf (res_main_v231 V0) (Host.powf (broadcastInDim S768 ![] bcast_S_S768 (constant S_ .f32 0x40000000#32)) (sitofp .f32 (res_main_v248 V0)))) (broadcastInDim S768 ![] bcast_S_S768 (constant S_ .f32 0x46800000#32)))) : S768.Idx → BitVec 32) i = mR (mult2 V0 i) := by
  unfold mR; rw [← v248_at, ← v231_at, ← rpow2]
  generalize (Host.powf _ _ : FVec Ideal S768 .f32) = p
  generalize res_main_v231 V0 = w
  rfl

end Cert.ReferenceIdeal.Host
-- ==== Proof.Nibble.lean ====
module

public import Idealize.ShloMosaic.PureOps.Ideal

@[expose] public section

noncomputable section

namespace Cert.Scalar

open Idealize.ShloMosaic

/-- The sign-fill of a four-bit code by two shifts is the code less sixteen when its top bit is set: the low half of a byte. -/
theorem nibble_lo (b : BitVec 8) :
    IntOp.shrsi .vector (IntOp.shli .vector (b.setWidth 32) 28#32) 28#32
      = Scalar.select (IntOp.cmpi .sge (IntOp.andi (b.setWidth 32) 15#32) 8#32)
          (IntOp.subi (IntOp.andi (b.setWidth 32) 15#32) 16#32) (IntOp.andi (b.setWidth 32) 15#32) := by
  revert b; decide

/-- The same for the high half of the byte. -/
theorem nibble_hi (b : BitVec 8) :
    IntOp.shrsi .vector (IntOp.shli .vector (b.setWidth 32) 24#32) 28#32
      = Scalar.select (IntOp.cmpi .sge (IntOp.andi (IntOp.shrsi .host (b.setWidth 32) 4#32) 15#32) 8#32)
          (IntOp.subi (IntOp.andi (IntOp.shrsi .host (b.setWidth 32) 4#32) 15#32) 16#32)
          (IntOp.andi (IntOp.shrsi .host (b.setWidth 32) 4#32) 15#32) := by
  revert b; decide

end Cert.Scalar
-- ==== Proof.RefAt.lean ====
module

public import proofs.«01_k».proof.Proof.RParams
public import proofs.«01_k».proof.Proof.Nibble
public import Idealize.ShloMosaic.Lib.Tactic.CleanTypes

@[expose] public section

set_option Elab.async false
set_option maxRecDepth 16384

noncomputable section

namespace Cert.ReferenceIdeal.Host

open Cert.ReferenceIdeal Cert.ReferenceIdeal.Gen Cert.ReferenceIdeal.Value Idealize.ShloMosaic Idealize.ShloMosaic.TcCoe Idealize.ShloMosaic.StableHlo Cert.Scalar

variable (V0 : Valuation τ sig (Elt Ideal))

/-- The first weight's bytes. -/
def w1 : S768x1536.Idx → BitVec 8 := V0 (Proc.devRef .tc main_arg2)
/-- The rows of codes. -/
def xR : S16384x768.Idx → BitVec 8 := shapeCast S16384x768 (V0 (Proc.devRef .tc main_arg0) : Vec Ideal S32x512x768 .i8) shapeCasts_S32x512x768_S16384x768
/-- The first bias. -/
def b1 : S3072.Idx → BitVec 32 := V0 (Proc.devRef .tc main_arg4)

theorem v21_at (i : S16384x768.Idx) : (res_main_v21 V0 : S16384x768.Idx → EReal) i = (((xR V0 i).toInt : ℝ) : EReal) := by
  unfold res_main_v21 xR
  generalize (V0 (Proc.devRef .tc main_arg0)) = x
  have e (b : BitVec 8) : (((BitVec.signExtend 32 b).toInt : ℝ) : EReal) = ((b.toInt : ℝ) : EReal) := by
    rw [BitVec.toInt_signExtend_of_le (by decide)]
  exact e _

theorem v2_at (i : S768x1536.Idx) : (res_main_v2 V0 : S768x1536.Idx → BitVec 32) i = IntOp.andi (BitVec.setWidth 32 (w1 V0 i)) 15#32 := by
  unfold res_main_v2 res_main_v0 w1
  rfl

theorem v6_at (i : S768x1536.Idx) : (res_main_v6 V0 : S768x1536.Idx → BitVec 32) i = IntOp.andi (IntOp.shrsi .host (BitVec.setWidth 32 (w1 V0 i)) 4#32) 15#32 := by
  unfold res_main_v6 res_main_v0 w1
  rfl

/-- A stored byte's low nibble as the reference takes it. -/
def loR (b : BitVec 8) : BitVec 32 :=
  Scalar.select (IntOp.cmpi .sge (IntOp.andi (BitVec.setWidth 32 b) 15#32) 8#32) (IntOp.subi (IntOp.andi (BitVec.setWidth 32 b) 15#32) 16#32)
    (IntOp.andi (BitVec.setWidth 32 b) 15#32)
/-- A stored byte's high nibble as the reference takes it. -/
def hiR (b : BitVec 8) : BitVec 32 :=
  Scalar.select (IntOp.cmpi .sge (IntOp.andi (IntOp.shrsi .host (BitVec.setWidth 32 b) 4#32) 15#32) 8#32)
    (IntOp.subi (IntOp.andi (IntOp.shrsi .host (BitVec.setWidth 32 b) 4#32) 15#32) 16#32) (IntOp.andi (IntOp.shrsi .host (BitVec.setWidth 32 b) 4#32) 15#32)

/-- The first product at a row and a column. -/
def pR (R : Fin 16384) (j : Fin 3072) : EReal :=
  if h : (j : ℕ) < 1536 then ∑ k : Fin 768, (((xR V0 (ix2 R k)).toInt : ℝ) : EReal) * (((loR (w1 V0 (ix2 k ⟨(j : ℕ), h⟩))).toInt : ℝ) : EReal)
  else ∑ k : Fin 768, (((xR V0 (ix2 R k)).toInt : ℝ) : EReal) * (((hiR (w1 V0 (ix2 k ⟨(j : ℕ) - 1536, by have := j.isLt; omega⟩))).toInt : ℝ) : EReal)

/-- The integer the gate takes at a row and a column. -/
def qR (R : Fin 16384) (j : Fin 3072) : BitVec 32 := IntOp.addi (Ideal.fptosi 32 (pR V0 R j)) (b1 V0 (ix1 j))

theorem v29_at (R : Fin 16384) (j : Fin 3072) : (res_main_v29 V0 : S16384x3072.Idx → BitVec 32) (ix2 R j) = qR V0 R j := by
  have h2 := v2_at V0
  have h6 := v6_at V0
  have hx := v21_at V0
  unfold res_main_v29
  generalize res_main_v2 V0 = a2 at *
  generalize res_main_v6 V0 = a6 at *
  generalize res_main_v21 V0 = x at *
  clean_types
  pointwise
  unfold qR pR loR hiR
  simp only [← h2, ← h6, ← hx]
  split <;> rfl

theorem v132_at (R : Fin 16384) (j : Fin 3072) : (res_main_v132 V0 : S16384x3072.Idx → BitVec 32) (ix2 R j)
    = dR (qR V0 R j) (tOf (sc V0 (ix1 j))) (bOf powR (sc V0 (ix1 j))) := by
  unfold dR
  rw [← v29_at, ← v57_at, ← v66_at]
  unfold res_main_v132 res_main_v111
  generalize res_main_v29 V0 = q
  generalize res_main_v57 V0 = t
  generalize res_main_v66 V0 = b
  clean_types
  pointwise

/-- The hidden code at a row and a column. -/
def hR (R : Fin 16384) (j : Fin 3072) : BitVec 8 :=
  requantR (gR (qR V0 R j) (tOf (sc V0 (ix1 j))) (bOf powR (sc V0 (ix1 j))) (cOf powR (sc V0 (ix1 j))) (nOf powR (sc V0 (ix1 j))) (oneOf powR (sc V0 (ix1 j))))
    (mR (multOf powR (sc V0 (ix1 j)) (hs V0))) (IntOp.subi 0#32 (expo (multOf powR (sc V0 (ix1 j)) (hs V0))))

/-- The reference's hidden codes. -/
theorem h_at (R : Fin 16384) (j : Fin 3072) : (val6 V0 (Proc.devRef .tc main_v196) : S16384x3072.Idx → BitVec 8) (ix2 R j) = hR V0 R j := by
  rw [val6_main_v196]
  unfold hR requantR gR eR
  rw [← v132_at, ← v29_at, ← v98_at, ← c_at, ← one_at, ← m_at, ← v175_at]
  generalize (fptosi 32 (Host.floor (Host.divf (broadcastInDim S3072 ![] bcast_S_S3072 (constant S_ .f32 0xC05D9B4D#32)) (mulf (res_main_v62 V0) (res_main_v62 V0)))) : IVec S3072 32) = cc
  generalize (fptosi 32 (Host.floor (Host.divf (broadcastInDim S3072 ![] bcast_S_S3072 (constant S_ .f32 0x3F800000#32)) (res_main_v103 V0))) : IVec S3072 32) = oo
  generalize (fptosi 32 (Host.roundeven (mulf (Host.divf (res_main_v147 V0) (Host.powf (broadcastInDim S3072 ![] bcast_S_S3072 (constant S_ .f32 0x40000000#32)) (sitofp .f32 (res_main_v164 V0)))) (broadcastInDim S3072 ![] bcast_S_S3072 (constant S_ .f32 0x46800000#32)))) : IVec S3072 32) = mm
  generalize res_main_v29 V0 = q
  generalize res_main_v132 V0 = d
  generalize res_main_v98 V0 = n
  generalize res_main_v175 V0 = k
  clean_types
  pointwise
  unfold clipR sgn
  rfl

/-- The second weight's bytes. -/
def w2 : S1536x768.Idx → BitVec 8 := V0 (Proc.devRef .tc main_arg6)
/-- The second bias. -/
def b2 : S768.Idx → BitVec 32 := V0 (Proc.devRef .tc main_arg8)

theorem v199_at (i : S1536x768.Idx) : (res_main_v199 V0 : S1536x768.Idx → BitVec 32) i = IntOp.andi (BitVec.setWidth 32 (w2 V0 i)) 15#32 := by
  unfold res_main_v199 res_main_v197 w2
  rfl

theorem v203_at (i : S1536x768.Idx) : (res_main_v203 V0 : S1536x768.Idx → BitVec 32) i = IntOp.andi (IntOp.shrsi .host (BitVec.setWidth 32 (w2 V0 i)) 4#32) 15#32 := by
  unfold res_main_v203 res_main_v197 w2
  rfl

theorem v217_at (R : Fin 16384) (j : Fin 3072) : (res_main_v217 V0 : S16384x3072.Idx → EReal) (ix2 R j) = (((hR V0 R j).toInt : ℝ) : EReal) := by
  have h := h_at V0 R j
  rw [val6_main_v196] at h
  rw [← h]
  unfold res_main_v217
  generalize (trunci 8 _ _ : IVec S16384x3072 8) = x
  have e (b : BitVec 8) : (((BitVec.signExtend 32 b).toInt : ℝ) : EReal) = ((b.toInt : ℝ) : EReal) := by
    rw [BitVec.toInt_signExtend_of_le (by decide)]
  exact e _

/-- The low half of the second product. -/
def loP (R : Fin 16384) (j : Fin 768) : EReal :=
  ∑ k : Fin 1536, (((hR V0 R ⟨(k : ℕ), by have := k.isLt; omega⟩).toInt : ℝ) : EReal) * (((loR (w2 V0 (ix2 k j))).toInt : ℝ) : EReal)
/-- The high half of the second product. -/
def hiP (R : Fin 16384) (j : Fin 768) : EReal :=
  ∑ k : Fin 1536, (((hR V0 R ⟨1536 + (k : ℕ), by have := k.isLt; omega⟩).toInt : ℝ) : EReal) * (((hiR (w2 V0 (ix2 k j))).toInt : ℝ) : EReal)

/-- The result at a row and a column. -/
def yR (R : Fin 16384) (j : Fin 768) : BitVec 8 :=
  clipR (IntOp.shrsi .host (IntOp.addi (IntOp.muli (IntOp.shrsi .host (IntOp.addi (IntOp.addi (IntOp.addi (Ideal.fptosi 32 (loP V0 R j)) (Ideal.fptosi 32 (hiP V0 R j))) (b2 V0 (ix1 j)))
      (IntOp.shrsi .host (IntOp.shli .host 1#32 4#32) 1#32)) 4#32) (mR (mult2 V0 (ix1 j))))
    (IntOp.shli .host 1#32 (IntOp.subi (IntOp.subi 10#32 (expo (mult2 V0 (ix1 j)))) 1#32))) (IntOp.subi 10#32 (expo (mult2 V0 (ix1 j)))))

/-- The reference's results. -/
theorem y_at (R : Fin 16384) (j : Fin 768) : (val6 V0 (Proc.devRef .tc main_v280) : S16384x768.Idx → BitVec 8) (ix2 R j) = yR V0 R j := by
  rw [val6_main_v280]
  unfold yR loP hiP loR hiR
  rw [← m2_at, ← v259_at]
  simp only [← v199_at, ← v203_at, ← v217_at]
  generalize (fptosi 32 (Host.roundeven (mulf (Host.divf (res_main_v231 V0) (Host.powf (broadcastInDim S768 ![] bcast_S_S768 (constant S_ .f32 0x40000000#32)) (sitofp .f32 (res_main_v248 V0)))) (broadcastInDim S768 ![] bcast_S_S768 (constant S_ .f32 0x46800000#32)))) : IVec S768 32) = mm
  generalize res_main_v259 V0 = k
  generalize res_main_v199 V0 = a2
  generalize res_main_v203 V0 = a6
  generalize res_main_v217 V0 = hh
  clean_types
  pointwise
  unfold clipR b2
  rfl

end Cert.ReferenceIdeal.Host
-- ==== Proof.Column.lean ====
module

public import proofs.«01_k».proof.Proof.Gate
public import proofs.«01_k».proof.Proof.Params

@[expose] public section

set_option maxRecDepth 16384

noncomputable section

namespace Cert.Scalar

open Idealize.ShloMosaic WordArith

/-! One element of each result, as a function of its integer accumulator and of its column's scales: the kernel's form is the
reference's. -/

/-- A sum of real numbers is the sum of their casts. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- A dot product of integers is an integer. -/
theorem sum_int {ι : Type} (s : Finset ι) (a b : ι → ℤ) :
    ∑ k ∈ s, (((a k : ℤ) : ℝ) : EReal) * (((b k : ℤ) : ℝ) : EReal) = (((∑ k ∈ s, a k * b k : ℤ) : ℝ) : EReal) := by
  rw [Int.cast_sum, ← coe_sum]
  refine Finset.sum_congr rfl fun k _ => ?_
  rw [Int.cast_mul, EReal.coe_mul]

/-- A dot product of bytes and nibbles is bounded. -/
theorem sum_bound {n : ℕ} (a b : Fin n → ℤ) (ha : ∀ k, |a k| ≤ 128) (hb : ∀ k, |b k| ≤ 8) : |∑ k, a k * b k| ≤ n * 1024 := by
  refine (Finset.abs_sum_le_sum_abs _ _).trans ?_
  have h : ∀ k ∈ (Finset.univ : Finset (Fin n)), |a k * b k| ≤ 1024 := by
    intro k _
    rw [abs_mul]
    have := mul_le_mul (ha k) (hb k) (abs_nonneg _) (by norm_num)
    linarith
  have := Finset.sum_le_card_nsmul _ _ _ h
  simpa using this

/-- A byte is at most 128 in size. -/
theorem byte_bound (b : BitVec 8) : |b.toInt| ≤ 128 := by
  have h1 := BitVec.toInt_lt (x := b)
  have h2 := BitVec.le_toInt (x := b)
  rw [abs_le]
  norm_num at h1 h2
  omega

/-- The word of a sum of two numbers that fits. -/
theorem addi_ofInt (S : ℤ) (b : BitVec 32) (hS : |S| ≤ 2 ^ 24) (hb : |b.toInt| ≤ 2 ^ 24) :
    (IntOp.addi (BitVec.ofInt 32 S) b).toInt = S + b.toInt := by
  rw [abs_le] at hS hb
  unfold IntOp.addi
  rw [BitVec.toInt_add, toInt_ofInt32 S (by omega) (by omega)]
  exact Int.bmod_eq_of_le (by norm_num; omega) (by norm_num; omega)

/-- A shift by minus the exponent is at least two places when the factor's exponent is at most minus two. -/
theorem shift_ge (e c : BitVec 32) (h1 : -126 ≤ e.toInt) (h2 : e.toInt ≤ c.toInt - 2) (hc1 : 0 ≤ c.toInt) (hc2 : c.toInt ≤ 10) :
    2 ≤ (IntOp.subi c e).toNat := by
  have h : (IntOp.subi c e).toInt = c.toInt - e.toInt := by
    unfold IntOp.subi
    rw [BitVec.toInt_sub]
    exact Int.bmod_eq_of_le (by norm_num; omega) (by norm_num; omega)
  have h3 : ((IntOp.subi c e).toNat : ℤ) = (IntOp.subi c e).toInt := by
    rw [BitVec.toInt_eq_toNat_cond] at h ⊢
    have := (IntOp.subi c e).isLt
    split at h <;> split <;> omega
  omega

/-- The hidden code at a column: the kernel's form is the reference's. -/
theorem hcol (S : ℤ) (hS : |S| ≤ 786432) (b : BitVec 32) (hb1 : -8388608 ≤ b.toInt) (hb2 : b.toInt ≤ 8388608) (s h : EReal) (H : InRange s h) :
    requantK (gK (((S : ℝ) : EReal) + ((b.toInt : ℝ) : EReal)) (Ideal.ofBits .f32 0x3F800000#32 * pow2K (-(tOf s)))
        (-(((bOf pow2K s).toInt : ℝ) : EReal) + Scalar.select (IntOp.cmpi .sgt (tOf s) 0#32)
          (Ideal.ofBits .f32 0x3F000000#32 - Ideal.ofBits .f32 0x3F000000#32 * (Ideal.ofBits .f32 0x3F800000#32 * pow2K (-(tOf s)))) (Ideal.ofBits .f32 0x00000000#32))
        (cpK (cOf pow2K s) (nOf pow2K s) (oneOf pow2K s)) (cnK (cOf pow2K s) (nOf pow2K s) (oneOf pow2K s)) (nOf pow2K s))
      (mK (multOf pow2K s h)) (IntOp.shli .host 1#32 (IntOp.subi (IntOp.subi 0#32 (expo (multOf pow2K s h))) 1#32)) (IntOp.subi 0#32 (expo (multOf pow2K s h)))
      = requantR (gR (IntOp.addi (Ideal.fptosi 32 ((S : ℝ) : EReal)) b) (tOf s) (bOf powR s) (cOf powR s) (nOf powR s) (oneOf powR s))
          (mR (multOf powR s h)) (IntOp.subi 0#32 (expo (multOf powR s h))) := by
  rw [bK_eq s h H, cK_eq s h H, nK_eq s h H, oneK_eq s h H, multK_eq s h H, invt_eq s h H, clamp_eq]
  have hS' := abs_le.1 hS
  rw [fptosi_int S (by omega) (by omega)]
  have hq := addi_ofInt S b (by omega) (by rw [abs_le]; omega)
  have hq' : ((S : ℝ) : EReal) + ((b.toInt : ℝ) : EReal) = (((IntOp.addi (BitVec.ofInt 32 S) b).toInt : ℝ) : EReal) := by
    rw [hq, ← EReal.coe_add, Int.cast_add]
  rw [hq']
  have hn : (nOf powR s).toNat ≤ 10 := by
    have h1 := H.hn1
    have h2 := H.hn2
    rw [BitVec.toInt_eq_toNat_cond] at h1 h2
    have := (nOf powR s).isLt
    split at h1 <;> omega
  rw [gate_eq _ _ _ _ _ _ (by rw [hq, abs_le]; omega) H.ht1 H.hb1 H.hb2 H.hc1 H.hc2 hn H.ho1 H.ho2]
  have hm := H.hm
  have he := expo_bounds (multOf powR s h)
  rw [mK_eq _ (by omega)]
  exact requantK_eq _ _ _ (shift_ge _ _ he.1 (by simpa using hm) (by decide) (by decide))

/-- The same, of accumulators known to be the integer. -/
theorem hcol_of (a p : EReal) (S : ℤ) (ha : a = ((S : ℝ) : EReal)) (hp : p = ((S : ℝ) : EReal)) (hS : |S| ≤ 786432) (b : BitVec 32) (hb1 : -8388608 ≤ b.toInt) (hb2 : b.toInt ≤ 8388608) (s h : EReal) (H : InRange s h) :
    requantK (gK (a + ((b.toInt : ℝ) : EReal)) (Ideal.ofBits .f32 0x3F800000#32 * pow2K (-(tOf s)))
        (-(((bOf pow2K s).toInt : ℝ) : EReal) + Scalar.select (IntOp.cmpi .sgt (tOf s) 0#32)
          (Ideal.ofBits .f32 0x3F000000#32 - Ideal.ofBits .f32 0x3F000000#32 * (Ideal.ofBits .f32 0x3F800000#32 * pow2K (-(tOf s)))) (Ideal.ofBits .f32 0x00000000#32))
        (cpK (cOf pow2K s) (nOf pow2K s) (oneOf pow2K s)) (cnK (cOf pow2K s) (nOf pow2K s) (oneOf pow2K s)) (nOf pow2K s))
      (mK (multOf pow2K s h)) (IntOp.shli .host 1#32 (IntOp.subi (IntOp.subi 0#32 (expo (multOf pow2K s h))) 1#32)) (IntOp.subi 0#32 (expo (multOf pow2K s h)))
      = requantR (gR (IntOp.addi (Ideal.fptosi 32 p) b) (tOf s) (bOf powR s) (cOf powR s) (nOf powR s) (oneOf powR s))
          (mR (multOf powR s h)) (IntOp.subi 0#32 (expo (multOf powR s h))) := by
  rw [ha, hp]
  exact hcol S hS b hb1 hb2 s h H

/-- The result at a column: the kernel's form is the reference's. -/
theorem ycol (A B : ℤ) (hA : |A| ≤ 1572864) (hB : |B| ≤ 1572864) (b2 : BitVec 32) (x : EReal) (hx : (expo x).toInt ≤ 8) :
    clipK (IntOp.shrsi .vector (IntOp.addi (IntOp.muli
        (IntOp.shrsi .vector (IntOp.addi (Ideal.fptosi 32 (Ideal.liftRound Ideal.roundHalfEven (((A + B : ℤ) : ℝ) : EReal))) (IntOp.addi b2 8#32)) 4#32) (mK x))
        (IntOp.shli .host 1#32 (IntOp.subi (IntOp.subi 10#32 (expo x)) 1#32))) (IntOp.subi 10#32 (expo x)))
      = clipR (IntOp.shrsi .host (IntOp.addi (IntOp.muli (IntOp.shrsi .host (IntOp.addi (IntOp.addi (IntOp.addi (Ideal.fptosi 32 ((A : ℝ) : EReal)) (Ideal.fptosi 32 ((B : ℝ) : EReal))) b2)
          (IntOp.shrsi .host (IntOp.shli .host 1#32 4#32) 1#32)) 4#32) (mR x))
        (IntOp.shli .host 1#32 (IntOp.subi (IntOp.subi 10#32 (expo x)) 1#32))) (IntOp.subi 10#32 (expo x))) := by
  have hA' := abs_le.1 hA
  have hB' := abs_le.1 hB
  have he := expo_bounds x
  have hk := shift_ge (expo x) 10#32 he.1 (by simpa using hx) (by decide) (by decide)
  rw [Ideal.liftRound_coe, roundHalfEven_int, fptosi_int (A + B) (by omega) (by omega), fptosi_int A (by omega) (by omega), fptosi_int B (by omega) (by omega)]
  rw [mK_eq x (by omega), clipK_eq _ (shrsi_bounds _ _ _ hk).1 (shrsi_bounds _ _ _ hk).2]
  rw [show IntOp.shrsi .host (IntOp.shli .host 1#32 4#32) 1#32 = 8#32 by decide]
  rw [shrsi_unit .vector .host, shrsi_unit .vector .host]
  have e : IntOp.addi (BitVec.ofInt 32 (A + B)) (IntOp.addi b2 8#32)
      = IntOp.addi (IntOp.addi (IntOp.addi (BitVec.ofInt 32 A) (BitVec.ofInt 32 B)) b2) 8#32 := by
    unfold IntOp.addi
    rw [BitVec.ofInt_add, BitVec.add_assoc, BitVec.add_assoc, BitVec.add_assoc]
  rw [e]

/-- The same, of accumulators known to be the integers. -/
theorem ycol_of (a p1 p2 : EReal) (A B : ℤ) (ha : a = (((A + B : ℤ) : ℝ) : EReal)) (h1 : p1 = ((A : ℝ) : EReal)) (h2 : p2 = ((B : ℝ) : EReal)) (hA : |A| ≤ 1572864) (hB : |B| ≤ 1572864) (b2 : BitVec 32) (x : EReal) (hx : (expo x).toInt ≤ 8) :
    clipK (IntOp.shrsi .vector (IntOp.addi (IntOp.muli
        (IntOp.shrsi .vector (IntOp.addi (Ideal.fptosi 32 (Ideal.liftRound Ideal.roundHalfEven a)) (IntOp.addi b2 8#32)) 4#32) (mK x))
        (IntOp.shli .host 1#32 (IntOp.subi (IntOp.subi 10#32 (expo x)) 1#32))) (IntOp.subi 10#32 (expo x)))
      = clipR (IntOp.shrsi .host (IntOp.addi (IntOp.muli (IntOp.shrsi .host (IntOp.addi (IntOp.addi (IntOp.addi (Ideal.fptosi 32 p1) (Ideal.fptosi 32 p2)) b2)
          (IntOp.shrsi .host (IntOp.shli .host 1#32 4#32) 1#32)) 4#32) (mR x))
        (IntOp.shli .host 1#32 (IntOp.subi (IntOp.subi 10#32 (expo x)) 1#32))) (IntOp.subi 10#32 (expo x))) := by
  rw [ha, h1, h2]
  exact ycol A B hA hB b2 x hx

end Cert.Scalar
-- ==== Proof.Equation.lean ====
module

public import proofs.«01_k».proof.Proof.Arr
public import proofs.«01_k».proof.Proof.KEntry
public import proofs.«01_k».proof.Proof.RefAt
public import proofs.«01_k».proof.Proof.Column

@[expose] public section

set_option Elab.async false
set_option maxRecDepth 16384

noncomputable section

namespace Cert.Equation

open Idealize.ShloMosaic Idealize.ShloMosaic.TcCoe Idealize.ShloMosaic.StableHlo Cert.Scalar

/-! The two programs' results at a row and a column, from the same arguments. -/

/-- The kernel's contents. -/
abbrev KVal : Type := Valuation Cert.KernelIdeal.τ Cert.KernelIdeal.sig (Elt Ideal)
/-- The reference's contents. -/
abbrev RVal : Type := Valuation Cert.ReferenceIdeal.τ Cert.ReferenceIdeal.sig (Elt Ideal)

/-- The two programs start from the same arguments. -/
structure Agree (V0 : KVal) (W0 : RVal) : Prop where
  a0 : W0 (Proc.devRef .tc Cert.ReferenceIdeal.main_arg0) = V0 (Proc.devRef .tc Cert.KernelIdeal.main_arg0)
  a1 : W0 (Proc.devRef .tc Cert.ReferenceIdeal.main_arg1) = V0 (Proc.devRef .tc Cert.KernelIdeal.main_arg1)
  a2 : W0 (Proc.devRef .tc Cert.ReferenceIdeal.main_arg2) = V0 (Proc.devRef .tc Cert.KernelIdeal.main_arg2)
  a3 : W0 (Proc.devRef .tc Cert.ReferenceIdeal.main_arg3) = V0 (Proc.devRef .tc Cert.KernelIdeal.main_arg3)
  a4 : W0 (Proc.devRef .tc Cert.ReferenceIdeal.main_arg4) = V0 (Proc.devRef .tc Cert.KernelIdeal.main_arg4)
  a5 : W0 (Proc.devRef .tc Cert.ReferenceIdeal.main_arg5) = V0 (Proc.devRef .tc Cert.KernelIdeal.main_arg5)
  a6 : W0 (Proc.devRef .tc Cert.ReferenceIdeal.main_arg6) = V0 (Proc.devRef .tc Cert.KernelIdeal.main_arg6)
  a7 : W0 (Proc.devRef .tc Cert.ReferenceIdeal.main_arg7) = V0 (Proc.devRef .tc Cert.KernelIdeal.main_arg7)
  a8 : W0 (Proc.devRef .tc Cert.ReferenceIdeal.main_arg8) = V0 (Proc.devRef .tc Cert.KernelIdeal.main_arg8)
  a9 : W0 (Proc.devRef .tc Cert.ReferenceIdeal.main_arg9) = V0 (Proc.devRef .tc Cert.KernelIdeal.main_arg9)

/-- What the precondition gives of the kernel's arguments. -/
structure Good (V0 : KVal) : Prop where
  rng : ∀ i, InRange (Cert.KernelIdeal.Host.sc V0 i) (Cert.KernelIdeal.Host.hs V0)
  b1 : ∀ i, -8388608 ≤ (Cert.KernelIdeal.Host.b1 V0 i).toInt ∧ (Cert.KernelIdeal.Host.b1 V0 i).toInt ≤ 8388608
  m2 : ∀ i, (expo (Cert.KernelIdeal.Host.mult2 V0 i)).toInt ≤ 8

section data

variable {V0 : KVal} {W0 : RVal} (A : Agree V0 W0)
include A

theorem sc_eq (i) : Cert.ReferenceIdeal.Host.sc W0 i = Cert.KernelIdeal.Host.sc V0 i :=
  congrArg₂ (fun x y : EReal => x * y) (congrFun A.a1 _) (congrFun A.a3 i)
theorem hs_eq : Cert.ReferenceIdeal.Host.hs W0 = Cert.KernelIdeal.Host.hs V0 := congrFun A.a5 _
theorem mult2_eq (i) : Cert.ReferenceIdeal.Host.mult2 W0 i = Cert.KernelIdeal.Host.mult2 V0 i :=
  congrArg₂ (fun x y : EReal => Ideal.div x y) (congrArg₂ (fun x y : EReal => x * y) (congrFun A.a5 _) (congrFun A.a7 i)) (congrFun A.a9 _)
theorem b1_eq (i) : Cert.ReferenceIdeal.Host.b1 W0 i = Cert.KernelIdeal.Host.b1 V0 i := congrFun A.a4 i
theorem b2_eq (i) : Cert.ReferenceIdeal.Host.b2 W0 i = Cert.KernelIdeal.Host.b2 V0 i := congrFun A.a8 i
theorem xR_eq : Cert.ReferenceIdeal.Host.xR W0 = Cert.KernelIdeal.Host.k_v210 V0 := by
  unfold Cert.ReferenceIdeal.Host.xR Cert.KernelIdeal.Host.k_v210
  rw [A.a0]
theorem w1_eq : Cert.ReferenceIdeal.Host.w1 W0 = V0 (Proc.devRef .tc Cert.KernelIdeal.main_arg2) := A.a2
theorem w2_eq : Cert.ReferenceIdeal.Host.w2 W0 = V0 (Proc.devRef .tc Cert.KernelIdeal.main_arg6) := A.a6

end data

/-- The first weight's nibble at a row and a column. -/
def nib1 (w : Cert.KernelIdeal.S768x1536.Idx → BitVec 8) (k : Fin 768) (j : Fin 3072) : BitVec 32 :=
  if h : (j : ℕ) < 1536 then Cert.ReferenceIdeal.Host.loR (w (ix2 k ⟨(j : ℕ), h⟩))
  else Cert.ReferenceIdeal.Host.hiR (w (ix2 k ⟨(j : ℕ) - 1536, by have := j.isLt; omega⟩))

theorem lo_bound (b : BitVec 8) : |(Cert.ReferenceIdeal.Host.loR b).toInt| ≤ 8 := by revert b; decide
theorem hi_bound (b : BitVec 8) : |(Cert.ReferenceIdeal.Host.hiR b).toInt| ≤ 8 := by revert b; decide
theorem lo_eq (b : BitVec 8) : Cert.KernelIdeal.Block.loN b = Cert.ReferenceIdeal.Host.loR b := nibble_lo b
theorem hi_eq (b : BitVec 8) : Cert.KernelIdeal.Block.hiN b = Cert.ReferenceIdeal.Host.hiR b := nibble_hi b

theorem nib1_bound (w : Cert.KernelIdeal.S768x1536.Idx → BitVec 8) (k : Fin 768) (j : Fin 3072) : |(nib1 w k j).toInt| ≤ 8 := by
  unfold nib1
  split
  · exact lo_bound _
  · exact hi_bound _

theorem w1U_at (w : Cert.KernelIdeal.S768x1536.Idx → BitVec 8) (k : Fin 768) (j : Fin 3072) :
    Cert.KernelIdeal.Block.w1U w (ix2 k j) = (((nib1 w k j).toInt : ℝ) : EReal) := by
  unfold Cert.KernelIdeal.Block.w1U nib1
  by_cases h : (j : ℕ) < 1536
  · refine (dif_pos h).trans ?_
    rw [dif_pos h, lo_eq]
    rfl
  · refine (dif_neg h).trans ?_
    rw [dif_neg h, hi_eq]
    rfl

/-- The reference's first product, by nibbles. -/
theorem pR_eq (W0 : RVal) (R : Fin 16384) (j : Fin 3072) : Cert.ReferenceIdeal.Host.pR W0 R j
    = ∑ k : Fin 768, (((Cert.ReferenceIdeal.Host.xR W0 (ix2 R k)).toInt : ℝ) : EReal) * (((nib1 (Cert.ReferenceIdeal.Host.w1 W0) k j).toInt : ℝ) : EReal) := by
  unfold Cert.ReferenceIdeal.Host.pR nib1
  by_cases h : (j : ℕ) < 1536
  · rw [dif_pos h]
    refine Finset.sum_congr rfl fun k _ => ?_
    rw [dif_pos h]
  · rw [dif_neg h]
    refine Finset.sum_congr rfl fun k _ => ?_
    rw [dif_neg h]

/-- A sum over all the hidden columns is the sum over each half. -/
theorem sum_halves (f : Fin 3072 → EReal) :
    ∑ k, f k = ∑ k : Fin 1536, f ⟨(k : ℕ), by have := k.isLt; omega⟩ + ∑ k : Fin 1536, f ⟨1536 + (k : ℕ), by have := k.isLt; omega⟩ :=
  Fin.sum_univ_add (a := 1536) (b := 1536) f

theorem w2U_lo (w : Cert.KernelIdeal.S1536x768.Idx → BitVec 8) (k : Fin 1536) (j : Fin 768) :
    Cert.KernelIdeal.Block.w2U w (ix2 ⟨(k : ℕ), by have := k.isLt; omega⟩ j) = (((Cert.ReferenceIdeal.Host.loR (w (ix2 k j))).toInt : ℝ) : EReal) := by
  unfold Cert.KernelIdeal.Block.w2U
  refine (dif_pos k.isLt).trans ?_
  rw [lo_eq]
  rfl

theorem w2U_hi (w : Cert.KernelIdeal.S1536x768.Idx → BitVec 8) (k : Fin 1536) (j : Fin 768) :
    Cert.KernelIdeal.Block.w2U w (ix2 ⟨1536 + (k : ℕ), by have := k.isLt; omega⟩ j) = (((Cert.ReferenceIdeal.Host.hiR (w (ix2 k j))).toInt : ℝ) : EReal) := by
  unfold Cert.KernelIdeal.Block.w2U
  refine (dif_neg (show ¬ 1536 + (k : ℕ) < 1536 by omega)).trans ?_
  rw [hi_eq]
  have e : (⟨1536 + (k : ℕ) - 1536, by have := k.isLt; omega⟩ : Fin 1536) = k := Fin.ext (by show 1536 + (k : ℕ) - 1536 = k; omega)
  exact congrArg (fun q : Fin 1536 => (((Cert.ReferenceIdeal.Host.hiR (w (ix2 q j))).toInt : ℝ) : EReal)) e

section second

variable (h : Fin 3072 → BitVec 8) (w : Cert.KernelIdeal.S1536x768.Idx → BitVec 8) (j : Fin 768)

/-- The low half of the second product, as an integer. -/
def loS : ℤ := ∑ k : Fin 1536, (h ⟨(k : ℕ), by have := k.isLt; omega⟩).toInt * (Cert.ReferenceIdeal.Host.loR (w (ix2 k j))).toInt
/-- The high half of the second product, as an integer. -/
def hiS : ℤ := ∑ k : Fin 1536, (h ⟨1536 + (k : ℕ), by have := k.isLt; omega⟩).toInt * (Cert.ReferenceIdeal.Host.hiR (w (ix2 k j))).toInt

theorem lo_int : ∑ k : Fin 1536, (((h ⟨(k : ℕ), by have := k.isLt; omega⟩).toInt : ℝ) : EReal) * (((Cert.ReferenceIdeal.Host.loR (w (ix2 k j))).toInt : ℝ) : EReal)
    = ((loS h w j : ℝ) : EReal) := sum_int _ _ _
theorem hi_int : ∑ k : Fin 1536, (((h ⟨1536 + (k : ℕ), by have := k.isLt; omega⟩).toInt : ℝ) : EReal) * (((Cert.ReferenceIdeal.Host.hiR (w (ix2 k j))).toInt : ℝ) : EReal)
    = ((hiS h w j : ℝ) : EReal) := sum_int _ _ _

theorem loS_bound : |loS h w j| ≤ 1572864 :=
  (sum_bound (n := 1536) (fun k => (h ⟨(k : ℕ), by have := k.isLt; omega⟩).toInt) (fun k => (Cert.ReferenceIdeal.Host.loR (w (ix2 k j))).toInt)
    (fun k => byte_bound _) (fun k => lo_bound _)).trans (by norm_num)
theorem hiS_bound : |hiS h w j| ≤ 1572864 :=
  (sum_bound (n := 1536) (fun k => (h ⟨1536 + (k : ℕ), by have := k.isLt; omega⟩).toInt) (fun k => (Cert.ReferenceIdeal.Host.hiR (w (ix2 k j))).toInt)
    (fun k => byte_bound _) (fun k => hi_bound _)).trans (by norm_num)

/-- The kernel's second product is the sum of the halves. -/
theorem acc_eq : ∑ k : Fin 3072, (((h k).toInt : ℝ) : EReal) * Cert.KernelIdeal.Block.w2U w (ix2 k j) = (((loS h w j + hiS h w j : ℤ) : ℝ) : EReal) := by
  rw [Int.cast_add, EReal.coe_add, ← lo_int, ← hi_int]
  refine (sum_halves _).trans ?_
  exact congrArg₂ (fun x y : EReal => x + y) (Finset.sum_congr rfl fun k _ => congrArg _ (w2U_lo w k j)) (Finset.sum_congr rfl fun k _ => congrArg _ (w2U_hi w k j))

end second

section result

variable (m : ∀ l : Loc Cert.KernelIdeal.nD Cert.KernelIdeal.τ Cert.KernelIdeal.sig, Buf (Elt Ideal) l) (c : Dev Cert.KernelIdeal.nD)
variable {W0 : RVal} (A : Agree (Cert.KernelIdeal.Host.start m c) W0) (G : Good (Cert.KernelIdeal.Host.start m c))
include A G

open Cert.KernelIdeal.Host in
/-- The hidden codes agree. -/
theorem hval_eq (R : Fin 16384) (j : Fin 3072) : Cert.KernelIdeal.Block.hval m c R j = Cert.ReferenceIdeal.Host.hR W0 R j := by
  unfold Cert.KernelIdeal.Block.hval Cert.KernelIdeal.Block.hcode
  dsimp only
  rw [V_v210, V_arg2, V_v156, V_v163, pf0_at, pf1_at, pf2_at, (pi_at _ j).1, (pi_at _ j).2.1, (pi_at _ j).2.2.1, (pi_at _ j).2.2.2.1,
    (pi_at _ j).2.2.2.2.1, (pi_at _ j).2.2.2.2.2, v133_at, v143_at, v145_at, v151_at, v75_at, v119_at, v125_at, v121_at]
  unfold Cert.ReferenceIdeal.Host.hR Cert.ReferenceIdeal.Host.qR
  rw [pR_eq, xR_eq A, w1_eq A, b1_eq A, sc_eq A, hs_eq A]
  generalize hw : (start m c (Proc.devRef .tc Cert.KernelIdeal.main_arg2)) = w
  generalize hx : k_v210 (start m c) = x
  have e : ∑ k : Fin 768, (((show BitVec 8 from x (ix2 R k)).toInt : ℝ) : EReal) * (((nib1 w k j).toInt : ℝ) : EReal)
      = (((∑ k : Fin 768, (show BitVec 8 from x (ix2 R k)).toInt * (nib1 w k j).toInt : ℤ) : ℝ) : EReal) :=
    sum_int _ _ _
  have e' : ∑ k : Fin 768, (((show BitVec 8 from x (ix2 R k)).toInt : ℝ) : EReal) * Cert.KernelIdeal.Block.w1U w (ix2 k j)
      = (((∑ k : Fin 768, (show BitVec 8 from x (ix2 R k)).toInt * (nib1 w k j).toInt : ℤ) : ℝ) : EReal) :=
    (Finset.sum_congr rfl fun k _ => congrArg _ (w1U_at w k j)).trans e
  have hS := sum_bound (n := 768) (fun k => (show BitVec 8 from x (ix2 R k)).toInt) (fun k => (nib1 w k j).toInt) (fun k => byte_bound _) (fun k => nib1_bound w k j)
  exact hcol_of _ _ _ e' e (hS.trans (by norm_num)) (b1 (start m c) (ix1 j)) (G.b1 (ix1 j)).1 (G.b1 (ix1 j)).2 (sc (start m c) (ix1 j)) (hs (start m c)) (G.rng (ix1 j))

open Cert.KernelIdeal.Host in
/-- The results agree. -/
theorem yval_eq (R : Fin 16384) (j : Fin 768) : Cert.KernelIdeal.Block.yval m c R j = Cert.ReferenceIdeal.Host.yR W0 R j := by
  unfold Cert.KernelIdeal.Block.yval Cert.KernelIdeal.Block.ycode
  dsimp only
  have eh : ∀ k, Cert.KernelIdeal.Block.hval m c R k = Cert.ReferenceIdeal.Host.hR W0 R k := hval_eq m c A G R
  simp only [eh]
  rw [V_arg6, V_v209, (p_at _ j).1, (p_at _ j).2.1, (p_at _ j).2.2.1, (p_at _ j).2.2.2, v196_at, v202_at, v198_at]
  unfold Cert.ReferenceIdeal.Host.yR Cert.ReferenceIdeal.Host.loP Cert.ReferenceIdeal.Host.hiP
  rw [w2_eq A, b2_eq A, mult2_eq A]
  exact ycol_of _ _ _ _ _ (acc_eq _ _ j) (lo_int _ _ j) (hi_int _ _ j) (loS_bound _ _ j) (hiS_bound _ _ j) (b2 (start m c) (ix1 j)) (mult2 (start m c) (ix1 j)) (G.m2 (ix1 j))

end result

end Cert.Equation
-- ==== Proof.PreRange.lean ====
module

public import proofs.«01_k».proof.Pre_scales_in_range
public import proofs.«01_k».proof.Proof.Params
public import Idealize.ShloMosaic.Lib.Pointwise

@[expose] public section

set_option Elab.async false
set_option maxRecDepth 16384

noncomputable section

namespace Cert.PreRange

open Cert.Pre_scales_in_range Idealize.ShloMosaic Cert.Scalar

/-! What the precondition says of a column. -/

theorem and_one (a b : BitVec 1) (h : IntOp.andi a b = 1#1) : a = 1#1 ∧ b = 1#1 := by revert a b; decide
theorem slt_of (a b : BitVec 32) (h : IntOp.cmpi .sge a b = 1#1) : b.toInt ≤ a.toInt := by
  unfold IntOp.cmpi at h
  by_cases hh : b.toInt ≤ a.toInt
  · exact hh
  · have : b.sle a = false := by rw [Bool.eq_false_iff]; intro hc; rw [BitVec.sle_iff_toInt_le] at hc; exact hh hc
    simp [this] at h
theorem sle_of (a b : BitVec 32) (h : IntOp.cmpi .sle a b = 1#1) : a.toInt ≤ b.toInt := by
  unfold IntOp.cmpi at h
  by_cases hh : a.toInt ≤ b.toInt
  · exact hh
  · have : a.sle b = false := by rw [Bool.eq_false_iff]; intro hc; rw [BitVec.sle_iff_toInt_le] at hc; exact hh hc
    simp [this] at h
theorem ole_of (a b : EReal) (h : Ideal.cmp .ole a b = 1#1) : a ≤ b := by
  unfold Ideal.cmp at h
  by_contra hh
  simp [hh] at h
theorem oge_of (a b : EReal) (h : Ideal.cmp .oge a b = 1#1) : b ≤ a := by
  unfold Ideal.cmp at h
  by_contra hh
  simp [hh] at h
theorem olt_of (a b : EReal) (h : Ideal.cmp .olt a b = 1#1) : a < b := by
  unfold Ideal.cmp at h
  by_contra hh
  simp [hh] at h

/-- A scale between the two constants is a real number in range. -/
theorem rng_of (s h : EReal) (h1 : Ideal.ofBits .f32 0x01000000#32 ≤ s) (h2 : s ≤ Ideal.ofBits .f32 0x3F000000#32)
    (h3 : max (Ideal.div s h) (-(Ideal.div s h)) ≤ Ideal.ofBits .f32 0x43800000#32) : InRange s h := by
  rw [ofBits_low] at h1
  rw [ofBits_half] at h2
  rw [ofBits_256] at h3
  induction s with
  | bot => exact absurd h1 (not_le.2 (EReal.bot_lt_coe _))
  | top => exact absurd h2 (not_le.2 (EReal.coe_lt_top _))
  | coe s => exact inRange s _ (EReal.coe_le_coe_iff.1 h1) (EReal.coe_le_coe_iff.1 h2) h3

variable [Cert.Pre_scales_in_range.Facts]
variable (a0 : IVec S32x512x768 8) (a1 : FVec Ideal S_ .f32) (a2 : IVec S768x1536 8) (a3 : FVec Ideal S3072 .f32) (a4 : IVec S3072 32) (a5 : FVec Ideal S_ .f32) (a6 : IVec S1536x768 8) (a7 : FVec Ideal S768 .f32) (a8 : IVec S768 32) (a9 : FVec Ideal S_ .f32)

/-- The first flags at a column. -/
theorem fst_at (i : Fin 3072) : (fn (F := Ideal) a0 a1 a2 a3 a4 a5 a6 a7 a8 a9).1 (ix1 i)
    = IntOp.andi (IntOp.andi (IntOp.andi (IntOp.andi
        (Ideal.cmp .oge (a1 ValueIdx.ix0 * a3 (ix1 i)) (Ideal.ofBits .f32 0x01000000#32))
        (Ideal.cmp .ole (a1 ValueIdx.ix0 * a3 (ix1 i)) (Ideal.ofBits .f32 0x3F000000#32)))
        (Ideal.cmp .ole (max (Ideal.div (a1 ValueIdx.ix0 * a3 (ix1 i)) (a5 ValueIdx.ix0)) (-(Ideal.div (a1 ValueIdx.ix0 * a3 (ix1 i)) (a5 ValueIdx.ix0)))) (Ideal.ofBits .f32 0x43800000#32)))
        (IntOp.cmpi .sge (a4 (ix1 i)) 4286578688#32))
        (IntOp.cmpi .sle (a4 (ix1 i)) 8388608#32) := by
  unfold fn fn_part1
  dsimp only
  pointwise
  rfl

/-- The second flags at a column. -/
theorem snd_at (i : Fin 768) : (fn (F := Ideal) a0 a1 a2 a3 a4 a5 a6 a7 a8 a9).2 (ix1 i)
    = Ideal.cmp .olt (max (Ideal.div (a5 ValueIdx.ix0 * a7 (ix1 i)) (a9 ValueIdx.ix0)) (-(Ideal.div (a5 ValueIdx.ix0 * a7 (ix1 i)) (a9 ValueIdx.ix0)))) (Ideal.ofBits .f32 0x43800000#32) := by
  unfold fn fn_part1
  dsimp only
  pointwise
  rfl

/-- The first flags all set: every column's scale is in range, and its bias is bounded. -/
theorem fst_all (h : (fn (F := Ideal) a0 a1 a2 a3 a4 a5 a6 a7 a8 a9).1 = fun _ => 1#1) (i : S3072.Idx) :
    InRange (a1 ValueIdx.ix0 * a3 i) (a5 ValueIdx.ix0) ∧ -8388608 ≤ (a4 i).toInt ∧ (a4 i).toInt ≤ 8388608 := by
  have hi := congrFun h (ix1 (i 0))
  replace hi := (fst_at a0 a1 a2 a3 a4 a5 a6 a7 a8 a9 (i 0)).symm.trans hi
  have e : (ix1 (i 0) : S3072.Idx) = i := by
    funext a
    match a with
    | ⟨0, _⟩ => rfl
  rw [e] at hi
  obtain ⟨hi, h5⟩ := and_one _ _ hi
  obtain ⟨hi, h4⟩ := and_one _ _ hi
  obtain ⟨hi, h3⟩ := and_one _ _ hi
  obtain ⟨h1, h2⟩ := and_one _ _ hi
  have h1 := oge_of _ _ h1
  have h2 := ole_of _ _ h2
  have h3 := ole_of _ _ h3
  refine ⟨?_, slt_of _ _ h4, sle_of _ _ h5⟩
  exact rng_of _ _ h1 h2 h3

/-- The second flags all set: every column's factor has exponent at most eight. -/
theorem snd_all (h : (fn (F := Ideal) a0 a1 a2 a3 a4 a5 a6 a7 a8 a9).2 = fun _ => 1#1) (i : S768.Idx) :
    (expo (Ideal.div (a5 ValueIdx.ix0 * a7 i) (a9 ValueIdx.ix0))).toInt ≤ 8 := by
  have hi := congrFun h (ix1 (i 0))
  replace hi := (snd_at a0 a1 a2 a3 a4 a5 a6 a7 a8 a9 (i 0)).symm.trans hi
  have e : (ix1 (i 0) : S768.Idx) = i := by
    funext a
    match a with
    | ⟨0, _⟩ => rfl
  rw [e, ofBits_256] at hi
  exact expo_le_eight _ (olt_of _ _ hi)

end Cert.PreRange
-- ==== Proof.Value.lean ====
module

public import proofs.«01_k».proof.Defs
public import proofs.«01_k».proof.Proof.Equation
public import proofs.«01_k».proof.Proof.PreRange
public import proofs.«01_k».proof.Proof.Gen.KernelIdeal.Value
public import proofs.«01_k».proof.Proof.Gen.ReferenceIdeal.Run

@[expose] public section

set_option Elab.async false
set_option maxRecDepth 16384

noncomputable section

namespace Cert.Equation

open Idealize.ShloMosaic Idealize.ShloMosaic.TcCoe Idealize.ShloMosaic.StableHlo Cert.Scalar

/-! The value claim: from the same arguments in range, the two programs leave the same arrays. -/

/-- The precondition of a device, as the equation wants it. -/
theorem good_of [Cert.Pre_scales_in_range.Facts] (m : ∀ l : Loc Cert.KernelIdeal.nD Cert.KernelIdeal.τ Cert.KernelIdeal.sig, Buf (Elt Ideal) l)
    (hp : Cert.Pre_KernelIdeal_scales_in_range m) (c : Dev Cert.KernelIdeal.nD) : Good (Cert.KernelIdeal.Host.start m c) where
  rng := fun i => (Cert.PreRange.fst_all _ _ _ _ _ _ _ _ _ _ (hp c).1 i).1
  b1 := fun i => (Cert.PreRange.fst_all _ _ _ _ _ _ _ _ _ _ (hp c).1 i).2
  m2 := fun i => Cert.PreRange.snd_all _ _ _ _ _ _ _ _ _ _ (hp c).2 i

section

variable (m : ∀ l : Loc Cert.KernelIdeal.nD Cert.KernelIdeal.τ Cert.KernelIdeal.sig, Buf (Elt Ideal) l) (c : Dev Cert.KernelIdeal.nD)
variable {W0 : RVal} (A : Agree (Cert.KernelIdeal.Host.start m c) W0) (G : Good (Cert.KernelIdeal.Host.start m c))
include A G

/-- The hidden arrays are equal. -/
theorem h_eq : (Cert.ReferenceIdeal.Value.val6 W0 (Proc.devRef .tc Cert.ReferenceIdeal.main_v196) : Cert.ReferenceIdeal.S16384x3072.Idx → BitVec 8)
    = Cert.KernelIdeal.Value.G7 m c := by
  funext i
  have e : (ix2 (i 0) (i 1) : Cert.ReferenceIdeal.S16384x3072.Idx) = i := by
    funext a
    match a with
    | ⟨0, _⟩ => rfl
    | ⟨1, _⟩ => rfl
  rw [← e]
  exact (Cert.ReferenceIdeal.Host.h_at W0 (i 0) (i 1)).trans ((hval_eq m c A G (i 0) (i 1)).symm.trans (Cert.KernelIdeal.Block.G7_at m c (i 0) (i 1)).symm)

/-- The result arrays are equal. -/
theorem y_eq : (Cert.ReferenceIdeal.Value.val6 W0 (Proc.devRef .tc Cert.ReferenceIdeal.main_v280) : Cert.ReferenceIdeal.S16384x768.Idx → BitVec 8)
    = Cert.KernelIdeal.Value.G6 m c := by
  funext i
  have e : (ix2 (i 0) (i 1) : Cert.ReferenceIdeal.S16384x768.Idx) = i := by
    funext a
    match a with
    | ⟨0, _⟩ => rfl
    | ⟨1, _⟩ => rfl
  rw [← e]
  exact (Cert.ReferenceIdeal.Host.y_at W0 (i 0) (i 1)).trans ((yval_eq m c A G (i 0) (i 1)).symm.trans (Cert.KernelIdeal.Block.G6_at m c (i 0) (i 1)).symm)

end

end Cert.Equation
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Value

@[expose] public section

namespace Cert.Proof

open Idealize.ShloMosaic Idealize.SL.Sem

/-- The idealized reference runs to the end, leaves every argument as it was, and no semaphore counter is off zero: its
    generated run gives the arguments, and it has no semaphores. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The facts the precondition's program states. -/
theorem pre_facts : Cert.Pre_scales_in_range.Facts := ⟨by decide, by decide⟩

/-- The idealized kernel and the idealized reference leave the same four results from the same arguments in range: the result
    codes, the result's scale, the hidden codes and their scale. -/
theorem algebraic : Cert.algebraic_KernelIdeal_ReferenceIdeal_pre_scales_in_range (hPre_scales_in_range := pre_facts) :=
  fun m ρ m' ρ' hpre hag => by
    have A : ∀ c : Dev Cert.KernelIdeal.nD, Cert.Equation.Agree (Cert.KernelIdeal.Host.start m c) (StableHlo.launchContents m' c) := fun c =>
      let h := hag c
      ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2⟩
    have G : ∀ c : Dev Cert.KernelIdeal.nD, Cert.Equation.Good (Cert.KernelIdeal.Host.start m c) := fun c =>
      letI := pre_facts
      Cert.Equation.good_of m hpre c
    refine ⟨fun c => Cert.KernelIdeal.Value.G6 m c, fun c => m ((c.tc : Thread Cert.KernelIdeal.nD Cert.KernelIdeal.τ).loc Cert.KernelIdeal.main_arg9),
      fun c => Cert.KernelIdeal.Value.G7 m c, fun c => m ((c.tc : Thread Cert.KernelIdeal.nD Cert.KernelIdeal.τ).loc Cert.KernelIdeal.main_arg5), ?_, ?_⟩
    · refine (θ_run Cert.KernelIdeal.defs _ _).mono (fun r h c => ?_) (Cert.KernelIdeal.Value.run (F := Ideal) m ρ)
      obtain ⟨h6, h7, k0, k1, k2, k3, k4, k5, k6, k7, k8, k9⟩ := h c
      exact ⟨h6, k9, h7, k5, k0, k1, k2, k3, k4, k5, k6, k7, k8, k9⟩
    · refine (θ_run Cert.ReferenceIdeal.defs _ _).mono (fun r h c => ?_) (Cert.ReferenceIdeal.Value.run (F := Ideal) m' ρ')
      obtain ⟨h6, k9', h7, k5', k⟩ := h c
      exact ⟨(h6.trans (Cert.ReferenceIdeal.Value.val6_main_v280 (StableHlo.launchContents m' c)).symm).trans (Cert.Equation.y_eq m c (A c) (G c)),
        k9'.trans (A c).a9,
        (h7.trans (Cert.ReferenceIdeal.Value.val6_main_v196 (StableHlo.launchContents m' c)).symm).trans (Cert.Equation.h_eq m c (A c) (G c)),
        k5'.trans (A c).a5, k⟩

/-- Everything the certificate claims. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial, trivial, algebraic⟩

end Cert.Proof
